-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.2.2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2.2.2.2.2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.2 = (fun _ => 1#1)

def Pre_ExpertsIdeal_tables_padded [hPre_tables_padded : Cert.Pre_tables_padded.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.2.2.1 = (fun _ => 1#1)
    ∧ (Cert.Pre_tables_padded.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2.2.2.2.2.2.2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_padded [hPre_tables_padded : Cert.Pre_tables_padded.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.2.2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.2.2.2.2.1 = (fun _ => 1#1)
    ∧ (Cert.Pre_tables_padded.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2.2.2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsIdeal_pre_tables_padded [hExpertsIdeal : Cert.ExpertsIdeal.Facts] [hPre_tables_padded : Cert.Pre_tables_padded.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tables_padded m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_tables_padded [hExpertsReferenceIdeal : Cert.ExpertsReferenceIdeal.Facts] [hPre_tables_padded : Cert.Pre_tables_padded.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_padded m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11)
      ∧ r.2.mem ((c.tc : Thread Cert.InprojReferenceIdeal.nD Cert.InprojReferenceIdeal.τ).loc Cert.InprojReferenceIdeal.main_arg12) = m ((c.tc : Thread Cert.InprojReferenceIdeal.nD Cert.InprojReferenceIdeal.τ).loc Cert.InprojReferenceIdeal.main_arg12)
      ∧ r.2.mem ((c.tc : Thread Cert.InprojReferenceIdeal.nD Cert.InprojReferenceIdeal.τ).loc Cert.InprojReferenceIdeal.main_arg13) = m ((c.tc : Thread Cert.InprojReferenceIdeal.nD Cert.InprojReferenceIdeal.τ).loc Cert.InprojReferenceIdeal.main_arg13)
      ∧ r.2.mem ((c.tc : Thread Cert.InprojReferenceIdeal.nD Cert.InprojReferenceIdeal.τ).loc Cert.InprojReferenceIdeal.main_arg14) = m ((c.tc : Thread Cert.InprojReferenceIdeal.nD Cert.InprojReferenceIdeal.τ).loc Cert.InprojReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal_pre_tables_padded [hExpertsIdeal : Cert.ExpertsIdeal.Facts] [hExpertsReferenceIdeal : Cert.ExpertsReferenceIdeal.Facts] [hPre_tables_padded : Cert.Pre_tables_padded.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_tables_padded m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v30) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)
      ∧ m' ((c.tc : Thread Cert.InprojReferenceIdeal.nD Cert.InprojReferenceIdeal.τ).loc Cert.InprojReferenceIdeal.main_arg11) = m ((c.tc : Thread Cert.InprojIdeal.nD Cert.InprojIdeal.τ).loc Cert.InprojIdeal.main_arg11)
      ∧ m' ((c.tc : Thread Cert.InprojReferenceIdeal.nD Cert.InprojReferenceIdeal.τ).loc Cert.InprojReferenceIdeal.main_arg12) = m ((c.tc : Thread Cert.InprojIdeal.nD Cert.InprojIdeal.τ).loc Cert.InprojIdeal.main_arg12)
      ∧ m' ((c.tc : Thread Cert.InprojReferenceIdeal.nD Cert.InprojReferenceIdeal.τ).loc Cert.InprojReferenceIdeal.main_arg13) = m ((c.tc : Thread Cert.InprojIdeal.nD Cert.InprojIdeal.τ).loc Cert.InprojIdeal.main_arg13)
      ∧ m' ((c.tc : Thread Cert.InprojReferenceIdeal.nD Cert.InprojReferenceIdeal.τ).loc Cert.InprojReferenceIdeal.main_arg14) = m ((c.tc : Thread Cert.InprojIdeal.nD Cert.InprojIdeal.τ).loc Cert.InprojIdeal.main_arg14)) →
    ∃ (v0 : (c : Dev Cert.InprojIdeal.nD) → Buf (Elt Ideal) ((c.tc : Thread Cert.InprojIdeal.nD Cert.InprojIdeal.τ).loc Cert.InprojIdeal.main_v0_2)) (v1 : (c : Dev Cert.InprojIdeal.nD) → Buf (Elt Ideal) ((c.tc : Thread Cert.InprojIdeal.nD Cert.InprojIdeal.τ).loc Cert.InprojIdeal.main_v0_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_2) = v0 c
          ∧ r.2.mem ((c.tc : Thread Cert.InprojIdeal.nD Cert.InprojIdeal.τ).loc Cert.InprojIdeal.main_v0_5) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v19) = v0 c
          ∧ r.2.mem ((c.tc : Thread Cert.InprojReferenceIdeal.nD Cert.InprojReferenceIdeal.τ).loc Cert.InprojReferenceIdeal.main_v20) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10)
          ∧ r.2.mem ((c.tc : Thread Cert.InprojReferenceIdeal.nD Cert.InprojReferenceIdeal.τ).loc Cert.InprojReferenceIdeal.main_arg11) = m' ((c.tc : Thread Cert.InprojReferenceIdeal.nD Cert.InprojReferenceIdeal.τ).loc Cert.InprojReferenceIdeal.main_arg11)
          ∧ r.2.mem ((c.tc : Thread Cert.InprojReferenceIdeal.nD Cert.InprojReferenceIdeal.τ).loc Cert.InprojReferenceIdeal.main_arg12) = m' ((c.tc : Thread Cert.InprojReferenceIdeal.nD Cert.InprojReferenceIdeal.τ).loc Cert.InprojReferenceIdeal.main_arg12)
          ∧ r.2.mem ((c.tc : Thread Cert.InprojReferenceIdeal.nD Cert.InprojReferenceIdeal.τ).loc Cert.InprojReferenceIdeal.main_arg13) = m' ((c.tc : Thread Cert.InprojReferenceIdeal.nD Cert.InprojReferenceIdeal.τ).loc Cert.InprojReferenceIdeal.main_arg13)
          ∧ r.2.mem ((c.tc : Thread Cert.InprojReferenceIdeal.nD Cert.InprojReferenceIdeal.τ).loc Cert.InprojReferenceIdeal.main_arg14) = m' ((c.tc : Thread Cert.InprojReferenceIdeal.nD Cert.InprojReferenceIdeal.τ).loc Cert.InprojReferenceIdeal.main_arg14))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hPre_in_range : Cert.Pre_in_range.Facts) (hPre_in_range_finite : Cert.Pre_in_range_finite.Facts) (hPre_tables : Cert.Pre_tables.Facts) (hPre_tables_padded : Cert.Pre_tables_padded.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ quiescent_Experts (hExperts := hExperts) (hPre_tables := hPre_tables)
    ∧ quiescent_ExpertsIdeal (hExpertsIdeal := hExpertsIdeal) (hPre_tables := hPre_tables)
    ∧ quiescent_ExpertsIdeal_pre_tables_padded (hExpertsIdeal := hExpertsIdeal) (hPre_tables_padded := hPre_tables_padded)
    ∧ quiescent_ExpertsReferenceIdeal (hExpertsReferenceIdeal := hExpertsReferenceIdeal)
    ∧ quiescent_ExpertsReferenceIdeal_pre_tables_padded (hExpertsReferenceIdeal := hExpertsReferenceIdeal) (hPre_tables_padded := hPre_tables_padded)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
    ∧ preserves_Experts_ExpertsIdeal
    ∧ algebraic_ExpertsIdeal_ExpertsReferenceIdeal_pre_tables_padded (hExpertsIdeal := hExpertsIdeal) (hExpertsReferenceIdeal := hExpertsReferenceIdeal) (hPre_tables_padded := hPre_tables_padded)
    ∧ preserves_Inproj_InprojIdeal
    ∧ algebraic_InprojIdeal_InprojReferenceIdeal (hInprojIdeal := hInprojIdeal) (hInprojReferenceIdeal := hInprojReferenceIdeal)
-- ==== Pre_in_range.lean ====
abbrev S64 : Shape := ⟨1, ![64]⟩
abbrev S2x8x8192x128 : Shape := ⟨4, ![2, 8, 8192, 128]⟩
abbrev S2x512x8192 : Shape := ⟨3, ![2, 512, 8192]⟩
abbrev S_ : Shape := ⟨0, ![]⟩

class Facts : Prop where
  bcast_S_S64 : S_.BroadcastsInDim S64 (![] : Fin 0 → Fin S64.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64 32) (arg1 : IVec S_ 32) : IVec S64 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64 32 := broadcastInDim S64 ![] bcast_S_S64 v2
  let v4 : IVec S64 32 := Host.remsi arg0 v3
  let c_1 : IVec S_ 32 := constantI S_ 32 0#32
  let v5 : IVec S64 32 := broadcastInDim S64 ![] bcast_S_S64 c_1
  let v6 : IVec S64 1 := cmpi .ne v4 v5
  let c_2 : IVec S_ 32 := constantI S_ 32 0#32
  let v7 : IVec S64 32 := broadcastInDim S64 ![] bcast_S_S64 c_2
  let v8 : IVec S64 1 := cmpi .slt v4 v7
  let c_3 : IVec S_ 32 := constantI S_ 32 0#32
  let v9 : IVec S_ 1 := cmpi .slt v2 c_3
  let v10 : IVec S64 1 := broadcastInDim S64 ![] bcast_S_S64 v9
  let v11 : IVec S64 1 := cmpi .ne v8 v10
  let v12 : IVec S64 1 := andi v11 v6
  let v13 : IVec S64 32 := broadcastInDim S64 ![] bcast_S_S64 v2
  let v14 : IVec S64 32 := addi v4 v13
  let v15 : IVec S64 32 := select v12 v14 v4
  v15

def fn {F : FTy → Type} [FloatOps F] (main_arg0 : IVec S64 32) (main_arg1 : FVec F S2x8x8192x128 .bf16) (main_arg2 : FVec F S2x8x8192x128 .bf16) (main_arg3 : FVec F S2x512x8192 .bf16) : IVec S64 1 :=
  let main_v0 : IVec S64 32 := iotaInDim S64 32 0
  let main_c : IVec S_ 32 := constantI S_ 32 8#32
  let main_v1 : IVec S64 32 := fn_remainder (F := F) main_v0 main_c
  let main_c_0 : IVec S_ 32 := constantI S_ 32 0#32
  let main_v2 : IVec S64 32 := broadcastInDim S64 ![] bcast_S_S64 main_c_0
  let main_v3 : IVec S64 1 := cmpi .sge main_arg0 main_v2
  let main_c_1 : IVec S_ 32 := constantI S_ 32 4#32
  let main_v4 : IVec S64 32 := broadcastInDim S64 ![] bcast_S_S64 main_c_1
  let main_v5 : IVec S64 32 := muli main_v1 main_v4
  let main_v6 : IVec S64 1 := cmpi .sle main_arg0 main_v5
  let main_v7 : IVec S64 1 := andi main_v3 main_v6
  main_v7
-- ==== Pre_in_range_finite.lean ====
abbrev S64 : Shape := ⟨1, ![64]⟩
abbrev S2x8x8192x128 : Shape := ⟨4, ![2, 8, 8192, 128]⟩
abbrev S2x512x8192 : Shape := ⟨3, ![2, 512, 8192]⟩
abbrev S_ : Shape := ⟨0, ![]⟩

class Facts : Prop where
  bcast_S_S64 : S_.BroadcastsInDim S64 (![] : Fin 0 → Fin S64.rank)
  bcast_S_S2x8x8192x128 : S_.BroadcastsInDim S2x8x8192x128 (![] : Fin 0 → Fin S2x8x8192x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64 32) (arg1 : IVec S_ 32) : IVec S64 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64 32 := broadcastInDim S64 ![] bcast_S_S64 v2
  let v4 : IVec S64 32 := Host.remsi arg0 v3
  let c_1 : IVec S_ 32 := constantI S_ 32 0#32
  let v5 : IVec S64 32 := broadcastInDim S64 ![] bcast_S_S64 c_1
  let v6 : IVec S64 1 := cmpi .ne v4 v5
  let c_2 : IVec S_ 32 := constantI S_ 32 0#32
  let v7 : IVec S64 32 := broadcastInDim S64 ![] bcast_S_S64 c_2
  let v8 : IVec S64 1 := cmpi .slt v4 v7
  let c_3 : IVec S_ 32 := constantI S_ 32 0#32
  let v9 : IVec S_ 1 := cmpi .slt v2 c_3
  let v10 : IVec S64 1 := broadcastInDim S64 ![] bcast_S_S64 v9
  let v11 : IVec S64 1 := cmpi .ne v8 v10
  let v12 : IVec S64 1 := andi v11 v6
  let v13 : IVec S64 32 := broadcastInDim S64 ![] bcast_S_S64 v2
  let v14 : IVec S64 32 := addi v4 v13
  let v15 : IVec S64 32 := select v12 v14 v4
  v15

def fn {F : FTy → Type} [FloatOps F] (main_arg0 : IVec S64 32) (main_arg1 : FVec F S2x8x8192x128 .bf16) (main_arg2 : FVec F S2x8x8192x128 .bf16) (main_arg3 : FVec F S2x512x8192 .bf16) : IVec S64 1 × IVec S2x8x8192x128 1 × IVec S2x8x8192x128 1 :=
  let main_v0 : IVec S64 32 := iotaInDim S64 32 0
  let main_c : IVec S_ 32 := constantI S_ 32 8#32
  let main_v1 : IVec S64 32 := fn_remainder (F := F) main_v0 main_c
  let main_c_0 : IVec S_ 32 := constantI S_ 32 0#32
  let main_v2 : IVec S64 32 := broadcastInDim S64 ![] bcast_S_S64 main_c_0
  let main_v3 : IVec S64 1 := cmpi .sge main_arg0 main_v2
  let main_c_1 : IVec S_ 32 := constantI S_ 32 4#32
  let main_v4 : IVec S64 32 := broadcastInDim S64 ![] bcast_S_S64 main_c_1
  let main_v5 : IVec S64 32 := muli main_v1 main_v4
  let main_v6 : IVec S64 1 := cmpi .sle main_arg0 main_v5
  let main_v7 : IVec S64 1 := andi main_v3 main_v6
  let main_v8 : FVec F S2x8x8192x128 .bf16 := Host.absf main_arg1
  let main_cst : FVec F S_ .bf16 := constant S_ .bf16 0x7F80#16
  let main_v9 : FVec F S2x8x8192x128 .bf16 := broadcastInDim S2x8x8192x128 ![] bcast_S_S2x8x8192x128 main_cst
  let main_v10 : IVec S2x8x8192x128 1 := cmpf .olt main_v8 main_v9
  let main_v11 : FVec F S2x8x8192x128 .bf16 := Host.absf main_arg2
  let main_cst_2 : FVec F S_ .bf16 := constant S_ .bf16 0x7F80#16
  let main_v12 : FVec F S2x8x8192x128 .bf16 := broadcastInDim S2x8x8192x128 ![] bcast_S_S2x8x8192x128 main_cst_2
  let main_v13 : IVec S2x8x8192x128 1 := cmpf .olt main_v11 main_v12
  (main_v7, main_v10, main_v13)
-- ==== Pre_tables.lean ====
abbrev S96 : Shape := ⟨1, ![96]⟩
abbrev S393216x128 : Shape := ⟨2, ![393216, 128]⟩
abbrev S32x1024x512 : Shape := ⟨3, ![32, 1024, 512]⟩
abbrev S32x512x1024 : Shape := ⟨3, ![32, 512, 1024]⟩
abbrev S_ : Shape := ⟨0, ![]⟩
abbrev S95 : Shape := ⟨1, ![95]⟩
abbrev S1 : Shape := ⟨1, ![1]⟩

class Facts : Prop where
  bcast_S_S96 : S_.BroadcastsInDim S96 (![] : Fin 0 → Fin S96.rank)
  slices_S96_S95_1 : S96.Slices ![1] S95
  slices_S96_S95_0 : S96.Slices ![0] S95
  slices_S96_S1_0 : S96.Slices ![0] S1
  bcast_S_S95 : S_.BroadcastsInDim S95 (![] : Fin 0 → Fin S95.rank)
  slices_S96_S1_95 : S96.Slices ![95] S1
  bcast_S_S1 : S_.BroadcastsInDim S1 (![] : Fin 0 → Fin S1.rank)

variable [Facts]

def fn_where {F : FTy → Type} [FloatOps F] (arg0 : IVec S95 1) (arg1 : IVec S95 32) (arg2 : IVec S95 32) : IVec S95 32 :=
  let v0 : IVec S95 32 := select arg0 arg1 arg2
  v0

def fn_where_0 {F : FTy → Type} [FloatOps F] (arg0 : IVec S95 1) (arg1 : IVec S95 1) (arg2 : IVec S95 1) : IVec S95 1 :=
  let v0 : IVec S95 1 := select arg0 arg1 arg2
  v0

def fn_part2 {F : FTy → Type} [FloatOps F] (main_v14 : IVec S96 1) (main_v19 : IVec S96 1) (main_v21 : IVec S96 1) (main_v22 : IVec S1 1) (main_v26 : IVec S95 1) (main_v34 : IVec S95 1) (main_v36 : IVec S1 1) (main_v39 : IVec S1 1) : IVec S96 1 × IVec S96 1 × IVec S96 1 × IVec S1 1 × IVec S95 1 × IVec S95 1 × IVec S1 1 :=
  let main_v40 : IVec S1 1 := ori main_v36 main_v39
  (main_v14, main_v19, main_v21, main_v22, main_v26, main_v34, main_v40)

def fn_part1 {F : FTy → Type} [FloatOps F] (main_arg3 : IVec S96 32) (main_v1 : IVec S96 1) (main_v9 : IVec S95 1) (main_v14 : IVec S96 1) (main_v16 : IVec S96 1) (main_v18 : IVec S96 1) : IVec S96 1 × IVec S96 1 × IVec S96 1 × IVec S1 1 × IVec S95 1 × IVec S95 1 × IVec S1 1 :=
  let main_v19 : IVec S96 1 := andi main_v16 main_v18
  let main_c_4 : IVec S_ 32 := constantI S_ 32 32#32
  let main_v20 : IVec S96 32 := broadcastInDim S96 ![] bcast_S_S96 main_c_4
  let main_v21 : IVec S96 1 := cmpi .slt main_arg3 main_v20
  let main_v22 : IVec S1 1 := (extractStridedSlice S1 ![0] · slices_S96_S1_0) main_v1
  let main_v23 : IVec S95 1 := (extractStridedSlice S95 ![0] · slices_S96_S95_0) main_v1
  let main_v24 : IVec S95 1 := (extractStridedSlice S95 ![1] · slices_S96_S95_1) main_v1
  let main_v25 : IVec S95 1 := noti main_v24
  let main_v26 : IVec S95 1 := ori main_v23 main_v25
  let main_v27 : IVec S95 1 := (extractStridedSlice S95 ![1] · slices_S96_S95_1) main_v1
  let main_v28 : IVec S95 1 := (extractStridedSlice S95 ![0] · slices_S96_S95_0) main_v1
  let main_v29 : IVec S95 1 := noti main_v28
  let main_v30 : IVec S95 32 := (extractStridedSlice S95 ![0] · slices_S96_S95_0) main_arg3
  let main_c_5 : IVec S_ 32 := constantI S_ 32 0#32
  let main_v31 : IVec S95 32 := broadcastInDim S95 ![] bcast_S_S95 main_c_5
  let main_v32 : IVec S95 1 := cmpi .slt main_v30 main_v31
  let main_v33 : IVec S95 1 := ori main_v29 main_v32
  let main_v34 : IVec S95 1 := fn_where_0 (F := F) main_v27 main_v9 main_v33
  let main_v35 : IVec S1 1 := (extractStridedSlice S1 ![95] · slices_S96_S1_95) main_v1
  let main_v36 : IVec S1 1 := noti main_v35
  let main_v37 : IVec S1 32 := (extractStridedSlice S1 ![95] · slices_S96_S1_95) main_arg3
  let main_c_6 : IVec S_ 32 := constantI S_ 32 0#32
  let main_v38 : IVec S1 32 := broadcastInDim S1 ![] bcast_S_S1 main_c_6
  let main_v39 : IVec S1 1 := cmpi .slt main_v37 main_v38
  fn_part2 (F := F) main_v14 main_v19 main_v21 main_v22 main_v26 main_v34 main_v36 main_v39

def fn {F : FTy → Type} [FloatOps F] (main_arg0 : IVec S96 32) (main_arg1 : IVec S96 32) (main_arg2 : IVec S96 32) (main_arg3 : IVec S96 32) (main_arg4 : FVec F S393216x128 .bf16) (main_arg5 : FVec F S32x1024x512 .f32) (main_arg6 : FVec F S32x1024x512 .f32) (main_arg7 : FVec F S32x512x1024 .f32) : IVec S96 1 × IVec S96 1 × IVec S96 1 × IVec S1 1 × IVec S95 1 × IVec S95 1 × IVec S1 1 :=
  let main_c : IVec S_ 32 := constantI S_ 32 0#32
  let main_v0 : IVec S96 32 := broadcastInDim S96 ![] bcast_S_S96 main_c
  let main_v1 : IVec S96 1 := cmpi .sgt main_arg2 main_v0
  let main_v2 : IVec S95 32 := (extractStridedSlice S95 ![1] · slices_S96_S95_1) main_arg0
  let main_v3 : IVec S95 32 := (extractStridedSlice S95 ![0] · slices_S96_S95_0) main_arg0
  let main_v4 : IVec S95 1 := cmpi .eq main_v2 main_v3
  let main_v5 : IVec S95 32 := (extractStridedSlice S95 ![1] · slices_S96_S95_1) main_arg3
  let main_v6 : IVec S95 32 := (extractStridedSlice S95 ![1] · slices_S96_S95_1) main_arg0
  let main_v7 : IVec S95 32 := fn_where (F := F) main_v4 main_v5 main_v6
  let main_v8 : IVec S95 32 := (extractStridedSlice S95 ![0] · slices_S96_S95_0) main_arg3
  let main_v9 : IVec S95 1 := cmpi .eq main_v7 main_v8
  let main_c_0 : IVec S_ 32 := constantI S_ 32 0#32
  let main_v10 : IVec S96 32 := broadcastInDim S96 ![] bcast_S_S96 main_c_0
  let main_v11 : IVec S96 1 := cmpi .sge main_arg0 main_v10
  let main_c_1 : IVec S_ 32 := constantI S_ 32 32#32
  let main_v12 : IVec S96 32 := broadcastInDim S96 ![] bcast_S_S96 main_c_1
  let main_v13 : IVec S96 1 := cmpi .slt main_arg0 main_v12
  let main_v14 : IVec S96 1 := andi main_v11 main_v13
  let main_c_2 : IVec S_ 32 := constantI S_ 32 0#32
  let main_v15 : IVec S96 32 := broadcastInDim S96 ![] bcast_S_S96 main_c_2
  let main_v16 : IVec S96 1 := cmpi .sge main_arg1 main_v15
  let main_c_3 : IVec S_ 32 := constantI S_ 32 96#32
  let main_v17 : IVec S96 32 := broadcastInDim S96 ![] bcast_S_S96 main_c_3
  let main_v18 : IVec S96 1 := cmpi .slt main_arg1 main_v17
  fn_part1 (F := F) main_arg3 main_v1 main_v9 main_v14 main_v16 main_v18
-- ==== Pre_tables_padded.lean ====
abbrev S96 : Shape := ⟨1, ![96]⟩
abbrev S393216x128 : Shape := ⟨2, ![393216, 128]⟩
abbrev S32x1024x512 : Shape := ⟨3, ![32, 1024, 512]⟩
abbrev S32x512x1024 : Shape := ⟨3, ![32, 512, 1024]⟩
abbrev S_ : Shape := ⟨0, ![]⟩
abbrev S512 : Shape := ⟨1, ![512]⟩
abbrev S1x512 : Shape := ⟨2, ![1, 512]⟩
abbrev S96x1 : Shape := ⟨2, ![96, 1]⟩
abbrev S96x512 : Shape := ⟨2, ![96, 512]⟩
abbrev S95 : Shape := ⟨1, ![95]⟩
abbrev S1 : Shape := ⟨1, ![1]⟩
abbrev S96x512x1 : Shape := ⟨3, ![96, 512, 1]⟩
abbrev S96x512x1024 : Shape := ⟨3, ![96, 512, 1024]⟩

class Facts : Prop where
  bcast_S_S96 : S_.BroadcastsInDim S96 (![] : Fin 0 → Fin S96.rank)
  bcast_S512_S1x512_1 : S512.BroadcastsInDim S1x512 (![1] : Fin 1 → Fin S1x512.rank)
  bcast_S96_S96x1_0 : S96.BroadcastsInDim S96x1 (![0] : Fin 1 → Fin S96x1.rank)
  bcast_S1x512_S96x512_0_1 : S1x512.BroadcastsInDim S96x512 (![0, 1] : Fin 2 → Fin S96x512.rank)
  bcast_S96x1_S96x512_0_1 : S96x1.BroadcastsInDim S96x512 (![0, 1] : Fin 2 → Fin S96x512.rank)
  slices_S96_S95_1 : S96.Slices ![1] S95
  slices_S96_S95_0 : S96.Slices ![0] S95
  slices_S96_S1_0 : S96.Slices ![0] S1
  bcast_S_S95 : S_.BroadcastsInDim S95 (![] : Fin 0 → Fin S95.rank)
  slices_S96_S1_95 : S96.Slices ![95] S1
  bcast_S_S1 : S_.BroadcastsInDim S1 (![] : Fin 0 → Fin S1.rank)
  bcast_S96x512_S96x512x1_0_1 : S96x512.BroadcastsInDim S96x512x1 (![0, 1] : Fin 2 → Fin S96x512x1.rank)
  shapeCasts_S393216x128_S96x512x1024 : S393216x128.ShapeCasts S96x512x1024
  bcast_S_S96x512x1024 : S_.BroadcastsInDim S96x512x1024 (![] : Fin 0 → Fin S96x512x1024.rank)
  bcast_S96x512x1_S96x512x1024_0_1_2 : S96x512x1.BroadcastsInDim S96x512x1024 (![0, 1, 2] : Fin 3 → Fin S96x512x1024.rank)

variable [Facts]

def fn_where {F : FTy → Type} [FloatOps F] (arg0 : IVec S95 1) (arg1 : IVec S95 32) (arg2 : IVec S95 32) : IVec S95 32 :=
  let v0 : IVec S95 32 := select arg0 arg1 arg2
  v0

def fn_where_0 {F : FTy → Type} [FloatOps F] (arg0 : IVec S95 1) (arg1 : IVec S95 1) (arg2 : IVec S95 1) : IVec S95 1 :=
  let v0 : IVec S95 1 := select arg0 arg1 arg2
  v0

def fn_part3 {F : FTy → Type} [FloatOps F] (main_v25 : IVec S96 1) (main_v30 : IVec S96 1) (main_v32 : IVec S96 1) (main_v33 : IVec S1 1) (main_v37 : IVec S95 1) (main_v45 : IVec S95 1) (main_v51 : IVec S1 1) (main_v55 : IVec S96 1) (main_v60 : IVec S96x512x1024 1) (main_v61 : IVec S96x512x1024 1) : IVec S96 1 × IVec S96 1 × IVec S96 1 × IVec S1 1 × IVec S95 1 × IVec S95 1 × IVec S1 1 × IVec S96 1 × IVec S96x512x1024 1 :=
  let main_v62 : IVec S96x512x1024 1 := ori main_v61 main_v60
  (main_v25, main_v30, main_v32, main_v33, main_v37, main_v45, main_v51, main_v55, main_v62)

def fn_part2 {F : FTy → Type} [FloatOps F] (main_arg1 : IVec S96 32) (main_arg3 : IVec S96 32) (main_arg4 : FVec F S393216x128 .bf16) (main_v1 : IVec S96 1) (main_v10 : IVec S96x512 1) (main_v12 : IVec S96 1) (main_v20 : IVec S95 1) (main_v25 : IVec S96 1) (main_v30 : IVec S96 1) (main_v32 : IVec S96 1) (main_v33 : IVec S1 1) (main_v37 : IVec S95 1) (main_v38 : IVec S95 1) (main_v40 : IVec S95 1) : IVec S96 1 × IVec S96 1 × IVec S96 1 × IVec S1 1 × IVec S95 1 × IVec S95 1 × IVec S1 1 × IVec S96 1 × IVec S96x512x1024 1 :=
  let main_v41 : IVec S95 32 := (extractStridedSlice S95 ![0] · slices_S96_S95_0) main_arg3
  let main_c_6 : IVec S_ 32 := constantI S_ 32 0#32
  let main_v42 : IVec S95 32 := broadcastInDim S95 ![] bcast_S_S95 main_c_6
  let main_v43 : IVec S95 1 := cmpi .slt main_v41 main_v42
  let main_v44 : IVec S95 1 := ori main_v40 main_v43
  let main_v45 : IVec S95 1 := fn_where_0 (F := F) main_v38 main_v20 main_v44
  let main_v46 : IVec S1 1 := (extractStridedSlice S1 ![95] · slices_S96_S1_95) main_v12
  let main_v47 : IVec S1 1 := noti main_v46
  let main_v48 : IVec S1 32 := (extractStridedSlice S1 ![95] · slices_S96_S1_95) main_arg3
  let main_c_7 : IVec S_ 32 := constantI S_ 32 0#32
  let main_v49 : IVec S1 32 := broadcastInDim S1 ![] bcast_S_S1 main_c_7
  let main_v50 : IVec S1 1 := cmpi .slt main_v48 main_v49
  let main_v51 : IVec S1 1 := ori main_v47 main_v50
  let main_v52 : IVec S96 1 := noti main_v1
  let main_v53 : IVec S96 32 := iotaInDim S96 32 0
  let main_v54 : IVec S96 1 := cmpi .eq main_arg1 main_v53
  let main_v55 : IVec S96 1 := ori main_v52 main_v54
  let main_v56 : IVec S96x512x1 1 := broadcastInDim S96x512x1 ![0, 1] bcast_S96x512_S96x512x1_0_1 main_v10
  let main_v57 : IVec S96x512x1 1 := noti main_v56
  let main_v58 : FVec F S96x512x1024 .bf16 := shapeCast S96x512x1024 main_arg4 shapeCasts_S393216x128_S96x512x1024
  let main_cst : FVec F S_ .bf16 := constant S_ .bf16 0x0000#16
  let main_v59 : FVec F S96x512x1024 .bf16 := broadcastInDim S96x512x1024 ![] bcast_S_S96x512x1024 main_cst
  let main_v60 : IVec S96x512x1024 1 := cmpf .oeq main_v58 main_v59
  let main_v61 : IVec S96x512x1024 1 := broadcastInDim S96x512x1024 ![0, 1, 2] bcast_S96x512x1_S96x512x1024_0_1_2 main_v57
  fn_part3 (F := F) main_v25 main_v30 main_v32 main_v33 main_v37 main_v45 main_v51 main_v55 main_v60 main_v61

def fn_part1 {F : FTy → Type} [FloatOps F] (main_arg0 : IVec S96 32) (main_arg1 : IVec S96 32) (main_arg3 : IVec S96 32) (main_arg4 : FVec F S393216x128 .bf16) (main_v1 : IVec S96 1) (main_v10 : IVec S96x512 1) (main_v12 : IVec S96 1) (main_v20 : IVec S95 1) (main_c_1 : IVec S_ 32) : IVec S96 1 × IVec S96 1 × IVec S96 1 × IVec S1 1 × IVec S95 1 × IVec S95 1 × IVec S1 1 × IVec S96 1 × IVec S96x512x1024 1 :=
  let main_v21 : IVec S96 32 := broadcastInDim S96 ![] bcast_S_S96 main_c_1
  let main_v22 : IVec S96 1 := cmpi .sge main_arg0 main_v21
  let main_c_2 : IVec S_ 32 := constantI S_ 32 32#32
  let main_v23 : IVec S96 32 := broadcastInDim S96 ![] bcast_S_S96 main_c_2
  let main_v24 : IVec S96 1 := cmpi .slt main_arg0 main_v23
  let main_v25 : IVec S96 1 := andi main_v22 main_v24
  let main_c_3 : IVec S_ 32 := constantI S_ 32 0#32
  let main_v26 : IVec S96 32 := broadcastInDim S96 ![] bcast_S_S96 main_c_3
  let main_v27 : IVec S96 1 := cmpi .sge main_arg1 main_v26
  let main_c_4 : IVec S_ 32 := constantI S_ 32 96#32
  let main_v28 : IVec S96 32 := broadcastInDim S96 ![] bcast_S_S96 main_c_4
  let main_v29 : IVec S96 1 := cmpi .slt main_arg1 main_v28
  let main_v30 : IVec S96 1 := andi main_v27 main_v29
  let main_c_5 : IVec S_ 32 := constantI S_ 32 32#32
  let main_v31 : IVec S96 32 := broadcastInDim S96 ![] bcast_S_S96 main_c_5
  let main_v32 : IVec S96 1 := cmpi .slt main_arg3 main_v31
  let main_v33 : IVec S1 1 := (extractStridedSlice S1 ![0] · slices_S96_S1_0) main_v12
  let main_v34 : IVec S95 1 := (extractStridedSlice S95 ![0] · slices_S96_S95_0) main_v12
  let main_v35 : IVec S95 1 := (extractStridedSlice S95 ![1] · slices_S96_S95_1) main_v12
  let main_v36 : IVec S95 1 := noti main_v35
  let main_v37 : IVec S95 1 := ori main_v34 main_v36
  let main_v38 : IVec S95 1 := (extractStridedSlice S95 ![1] · slices_S96_S95_1) main_v12
  let main_v39 : IVec S95 1 := (extractStridedSlice S95 ![0] · slices_S96_S95_0) main_v12
  let main_v40 : IVec S95 1 := noti main_v39
  fn_part2 (F := F) main_arg1 main_arg3 main_arg4 main_v1 main_v10 main_v12 main_v20 main_v25 main_v30 main_v32 main_v33 main_v37 main_v38 main_v40

def fn {F : FTy → Type} [FloatOps F] (main_arg0 : IVec S96 32) (main_arg1 : IVec S96 32) (main_arg2 : IVec S96 32) (main_arg3 : IVec S96 32) (main_arg4 : FVec F S393216x128 .bf16) (main_arg5 : FVec F S32x1024x512 .f32) (main_arg6 : FVec F S32x1024x512 .f32) (main_arg7 : FVec F S32x512x1024 .f32) : IVec S96 1 × IVec S96 1 × IVec S96 1 × IVec S1 1 × IVec S95 1 × IVec S95 1 × IVec S1 1 × IVec S96 1 × IVec S96x512x1024 1 :=
  let main_c : IVec S_ 32 := constantI S_ 32 0#32
  let main_v0 : IVec S96 32 := broadcastInDim S96 ![] bcast_S_S96 main_c
  let main_v1 : IVec S96 1 := cmpi .sgt main_arg2 main_v0
  let main_v2 : IVec S512 32 := iotaInDim S512 32 0
  let main_v3 : IVec S1x512 32 := broadcastInDim S1x512 ![1] bcast_S512_S1x512_1 main_v2
  let main_v4 : IVec S96x1 1 := broadcastInDim S96x1 ![0] bcast_S96_S96x1_0 main_v1
  let main_v5 : IVec S96x1 32 := broadcastInDim S96x1 ![0] bcast_S96_S96x1_0 main_arg2
  let main_v6 : IVec S96x512 32 := broadcastInDim S96x512 ![0, 1] bcast_S1x512_S96x512_0_1 main_v3
  let main_v7 : IVec S96x512 32 := broadcastInDim S96x512 ![0, 1] bcast_S96x1_S96x512_0_1 main_v5
  let main_v8 : IVec S96x512 1 := cmpi .sge main_v6 main_v7
  let main_v9 : IVec S96x512 1 := broadcastInDim S96x512 ![0, 1] bcast_S96x1_S96x512_0_1 main_v4
  let main_v10 : IVec S96x512 1 := andi main_v9 main_v8
  let main_c_0 : IVec S_ 32 := constantI S_ 32 0#32
  let main_v11 : IVec S96 32 := broadcastInDim S96 ![] bcast_S_S96 main_c_0
  let main_v12 : IVec S96 1 := cmpi .sgt main_arg2 main_v11
  let main_v13 : IVec S95 32 := (extractStridedSlice S95 ![1] · slices_S96_S95_1) main_arg0
  let main_v14 : IVec S95 32 := (extractStridedSlice S95 ![0] · slices_S96_S95_0) main_arg0
  let main_v15 : IVec S95 1 := cmpi .eq main_v13 main_v14
  let main_v16 : IVec S95 32 := (extractStridedSlice S95 ![1] · slices_S96_S95_1) main_arg3
  let main_v17 : IVec S95 32 := (extractStridedSlice S95 ![1] · slices_S96_S95_1) main_arg0
  let main_v18 : IVec S95 32 := fn_where (F := F) main_v15 main_v16 main_v17
  let main_v19 : IVec S95 32 := (extractStridedSlice S95 ![0] · slices_S96_S95_0) main_arg3
  let main_v20 : IVec S95 1 := cmpi .eq main_v18 main_v19
  let main_c_1 : IVec S_ 32 := constantI S_ 32 0#32
  fn_part1 (F := F) main_arg0 main_arg1 main_arg3 main_arg4 main_v1 main_v10 main_v12 main_v20 main_c_1
-- ==== Kernel.lean ====
abbrev S64 : Shape := ⟨1, ![64]⟩
abbrev S2x8x8192x128 : Shape := ⟨4, ![2, 8, 8192, 128]⟩
abbrev S2x512x8192 : Shape := ⟨3, ![2, 512, 8192]⟩
abbrev S2x8192x512 : Shape := ⟨3, ![2, 8192, 512]⟩
abbrev S1x2x1024x128 : Shape := ⟨4, ![1, 2, 1024, 128]⟩
abbrev S1x2x8192x128 : Shape := ⟨4, ![1, 2, 8192, 128]⟩
abbrev S1x128x8192 : Shape := ⟨3, ![1, 128, 8192]⟩
abbrev S1x1024x128 : Shape := ⟨3, ![1, 1024, 128]⟩
abbrev S1x1024 : Shape := ⟨2, ![1, 1024]⟩
abbrev S128x1024 : Shape := ⟨2, ![128, 1024]⟩
abbrev S1 : Shape := ⟨1, ![1]⟩
abbrev S1x1x256x128 : Shape := ⟨4, ![1, 1, 256, 128]⟩
abbrev S256x128 : Shape := ⟨2, ![256, 128]⟩
abbrev S1x1x1024x128 : Shape := ⟨4, ![1, 1, 1024, 128]⟩
abbrev S1024x128 : Shape := ⟨2, ![1024, 128]⟩
abbrev S256x1024 : Shape := ⟨2, ![256, 1024]⟩
abbrev S1x128x256 : Shape := ⟨3, ![1, 128, 256]⟩
abbrev S128x256 : Shape := ⟨2, ![128, 256]⟩
abbrev S1024 : Shape := ⟨1, ![1024]⟩
abbrev S1x1x768x128 : Shape := ⟨4, ![1, 1, 768, 128]⟩
abbrev S768x128 : Shape := ⟨2, ![768, 128]⟩
abbrev S256x768 : Shape := ⟨2, ![256, 768]⟩
abbrev S1x1x512x128 : Shape := ⟨4, ![1, 1, 512, 128]⟩
abbrev S512x128 : Shape := ⟨2, ![512, 128]⟩
abbrev S256x512 : Shape := ⟨2, ![256, 512]⟩
abbrev S256x256 : Shape := ⟨2, ![256, 256]⟩
abbrev S1x768 : Shape := ⟨2, ![1, 768]⟩
abbrev S768 : Shape := ⟨1, ![768]⟩
abbrev S128x768 : Shape := ⟨2, ![128, 768]⟩
abbrev S1x256 : Shape := ⟨2, ![1, 256]⟩
abbrev S1x512 : Shape := ⟨2, ![1, 512]⟩
abbrev S512 : Shape := ⟨1, ![512]⟩
abbrev S128x512 : Shape := ⟨2, ![128, 512]⟩
abbrev S256 : Shape := ⟨1, ![256]⟩

abbrev nBuf : Space → Nat
  | .hbm => 4
  | .vmem => 8
  | .smem => 1
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x8192x512, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x1024x128, .bf16⟩
  | .local _ .vmem, ⟨7, _⟩ => ⟨S1x1024x128, .bf16⟩
  | .local _ .smem, ⟨0, _⟩ => ⟨S64, .i32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v6 : BitVec 32 := Scalar.muli arg0 c4_i32
  let arg1 : BitVec 32 := BitVec.ofNat 32 (i 1).val
  let v7 : BitVec 32 := Scalar.addi v6 arg1
  let c8_i32 : BitVec 32 := 8#32
  let v8 : BitVec 32 := Scalar.muli v7 c8_i32
  let arg2 : BitVec 32 := BitVec.ofNat 32 (i 2).val
  let v9 : BitVec 32 := Scalar.addi v8 arg2
  let v10 : Index := Scalar.indexCast v9
  ![v10.toNat]
def k0_mult1 (v11 : BitVec 32) : BitVec 32 :=
  let c256_i32 : BitVec 32 := 256#32
  let v15 : BitVec 32 := Scalar.muli v11 c256_i32
  v15

def k0_off2 (v11 : BitVec 32) (c0_i32_133 : BitVec 32) : Fin 4 → Nat :=
  let c0_134 : Index := 0#32
  let c0_135 : Index := 0#32
  let c256_i32 : BitVec 32 := 256#32
  let v15 : BitVec 32 := Scalar.muli v11 c256_i32
  let v16 : BitVec 32 := v15
  let v272 : BitVec 32 := Scalar.addi v16 c0_i32_133
  let v273 : Index := Scalar.indexCast v272
  let c0_136 : Index := 0#32
  ![0, 0, v273.toNat, 0]
def k0_cond1 (i : grid0.Coords) (v11 : BitVec 32) : BitVec 1 :=
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let c0_i32 : BitVec 32 := 0#32
  let v17 : BitVec 32 := Scalar.maxsi v14 c0_i32
  let c3_i32 : BitVec 32 := 3#32
  let v18 : BitVec 32 := Scalar.minsi v17 c3_i32
  let c0_i32_7 : BitVec 32 := 0#32
  let v19 : BitVec 1 := Scalar.cmpi .ne v18 c0_i32_7
  v19

def k0_cond2 (i : grid0.Coords) (v11 : BitVec 32) : BitVec 1 :=
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let c0_i32 : BitVec 32 := 0#32
  let v17 : BitVec 32 := Scalar.maxsi v14 c0_i32
  let c3_i32 : BitVec 32 := 3#32
  let v18 : BitVec 32 := Scalar.minsi v17 c3_i32
  let c1_i32_129 : BitVec 32 := 1#32
  let v266 : BitVec 32 := Scalar.subi v18 c1_i32_129
  let c0_i32_130 : BitVec 32 := 0#32
  let v267 : BitVec 1 := Scalar.cmpi .ne v266 c0_i32_130
  v267

def k0_cond3 (i : grid0.Coords) (v11 : BitVec 32) : BitVec 1 :=
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let c0_i32 : BitVec 32 := 0#32
  let v17 : BitVec 32 := Scalar.maxsi v14 c0_i32
  let c3_i32 : BitVec 32 := 3#32
  let v18 : BitVec 32 := Scalar.minsi v17 c3_i32
  let c1_i32_129 : BitVec 32 := 1#32
  let v266 : BitVec 32 := Scalar.subi v18 c1_i32_129
  let c1_i32_131 : BitVec 32 := 1#32
  let v269 : BitVec 32 := Scalar.subi v266 c1_i32_131
  let c0_i32_132 : BitVec 32 := 0#32
  let v270 : BitVec 1 := Scalar.cmpi .ne v269 c0_i32_132
  v270

def k0_off3 (v11 : BitVec 32) (c0_i32_142 : BitVec 32) : Fin 4 → Nat :=
  let c0_143 : Index := 0#32
  let c1_144 : Index := 1#32
  let c256_i32 : BitVec 32 := 256#32
  let v15 : BitVec 32 := Scalar.muli v11 c256_i32
  let v16 : BitVec 32 := v15
  let v279 : BitVec 32 := Scalar.addi v16 c0_i32_142
  let v280 : Index := Scalar.indexCast v279
  let c0_145 : Index := 0#32
  ![0, 1, v280.toNat, 0]
def k0_off4 (v11 : BitVec 32) (c0_i32_178 : BitVec 32) : Fin 3 → Nat :=
  let c0_179 : Index := 0#32
  let c0_180 : Index := 0#32
  let c256_i32 : BitVec 32 := 256#32
  let v15 : BitVec 32 := Scalar.muli v11 c256_i32
  let v16 : BitVec 32 := v15
  let v307 : BitVec 32 := Scalar.addi v16 c0_i32_178
  let v308 : Index := Scalar.indexCast v307
  ![0, 0, v308.toNat]
def k0_off5 (v11 : BitVec 32) (c0_i32_133 : BitVec 32) : Fin 4 → Nat :=
  let c0_134 : Index := 0#32
  let c0_135 : Index := 0#32
  let c256_i32 : BitVec 32 := 256#32
  let v15 : BitVec 32 := Scalar.muli v11 c256_i32
  let v16 : BitVec 32 := v15
  let v272 : BitVec 32 := Scalar.addi v16 c0_i32_133
  let v273 : Index := Scalar.indexCast v272
  let c0_136 : Index := 0#32
  ![0, 0, v273.toNat, 0]
def k0_off6 (v11 : BitVec 32) (c0_i32_142 : BitVec 32) : Fin 4 → Nat :=
  let c0_143 : Index := 0#32
  let c1_144 : Index := 1#32
  let c256_i32 : BitVec 32 := 256#32
  let v15 : BitVec 32 := Scalar.muli v11 c256_i32
  let v16 : BitVec 32 := v15
  let v279 : BitVec 32 := Scalar.addi v16 c0_i32_142
  let v280 : Index := Scalar.indexCast v279
  let c0_145 : Index := 0#32
  ![0, 1, v280.toNat, 0]
def k0_off7 (v11 : BitVec 32) (c0_i32_169 : BitVec 32) : Fin 3 → Nat :=
  let c0_170 : Index := 0#32
  let c0_171 : Index := 0#32
  let c256_i32 : BitVec 32 := 256#32
  let v15 : BitVec 32 := Scalar.muli v11 c256_i32
  let v16 : BitVec 32 := v15
  let v300 : BitVec 32 := Scalar.addi v16 c0_i32_169
  let v301 : Index := Scalar.indexCast v300
  ![0, 0, v301.toNat]
def k0_off8 (v11 : BitVec 32) : Fin 4 → Nat :=
  let c0_132 : Index := 0#32
  let c0_133 : Index := 0#32
  let c256_i32 : BitVec 32 := 256#32
  let v15 : BitVec 32 := Scalar.muli v11 c256_i32
  let v16 : BitVec 32 := v15
  let c0_i32_131 : BitVec 32 := 0#32
  let v269 : BitVec 32 := Scalar.addi v16 c0_i32_131
  let v270 : Index := Scalar.indexCast v269
  let c0_134 : Index := 0#32
  ![0, 0, v270.toNat, 0]
def k0_off9 (v11 : BitVec 32) : Fin 4 → Nat :=
  let c0_141 : Index := 0#32
  let c1_142 : Index := 1#32
  let c256_i32 : BitVec 32 := 256#32
  let v15 : BitVec 32 := Scalar.muli v11 c256_i32
  let v16 : BitVec 32 := v15
  let c0_i32_140 : BitVec 32 := 0#32
  let v276 : BitVec 32 := Scalar.addi v16 c0_i32_140
  let v277 : Index := Scalar.indexCast v276
  let c0_143 : Index := 0#32
  ![0, 1, v277.toNat, 0]
def k0_off10 (v11 : BitVec 32) : Fin 3 → Nat :=
  let c0_150 : Index := 0#32
  let c0_151 : Index := 0#32
  let c256_i32 : BitVec 32 := 256#32
  let v15 : BitVec 32 := Scalar.muli v11 c256_i32
  let v16 : BitVec 32 := v15
  let c0_i32_149 : BitVec 32 := 0#32
  let v283 : BitVec 32 := Scalar.addi v16 c0_i32_149
  let v284 : Index := Scalar.indexCast v283
  ![0, 0, v284.toNat]
@[reducible] def k0_t1_loop (i : grid0.Coords) (v11 : BitVec 32) : Scf.Loop 32 :=
  let c0_i32_10 : BitVec 32 := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_11 : BitVec 32 := 1#32
  ⟨c0_i32_10, v28, c1_i32_11⟩
def k0_mult2 (i : grid0.Coords) (v11 : BitVec 32) (k0_t1 : Fin (k0_t1_loop i v11).trips) : BitVec 32 :=
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c1_i32_11 : BitVec 32 := 1#32
  let arg8 : BitVec 32 := Scf.iv c0_i32_10 c1_i32_11 k0_t1
  let c1024_i32_129 : BitVec 32 := 1024#32
  let v266 : BitVec 32 := Scalar.muli arg8 c1024_i32_129
  let v267 : BitVec 32 := Scalar.addi v22 v266
  v267
def k0_off11 (i : grid0.Coords) (v11 : BitVec 32) (k0_t1 : Fin (k0_t1_loop i v11).trips) (c0_i32_130 : BitVec 32) : Fin 4 → Nat :=
  let c0_131 : Index := 0#32
  let c0_132 : Index := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c1_i32_11 : BitVec 32 := 1#32
  let arg8 : BitVec 32 := Scf.iv c0_i32_10 c1_i32_11 k0_t1
  let c1024_i32_129 : BitVec 32 := 1024#32
  let v266 : BitVec 32 := Scalar.muli arg8 c1024_i32_129
  let v267 : BitVec 32 := Scalar.addi v22 v266
  let v268 : BitVec 32 := v267
  let v269 : BitVec 32 := Scalar.addi v268 c0_i32_130
  let v270 : Index := Scalar.indexCast v269
  let c0_133 : Index := 0#32
  ![0, 0, v270.toNat, 0]
def k0_off12 (i : grid0.Coords) (v11 : BitVec 32) (k0_t1 : Fin (k0_t1_loop i v11).trips) (c0_i32_139 : BitVec 32) : Fin 4 → Nat :=
  let c0_140 : Index := 0#32
  let c1_141 : Index := 1#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c1_i32_11 : BitVec 32 := 1#32
  let arg8 : BitVec 32 := Scf.iv c0_i32_10 c1_i32_11 k0_t1
  let c1024_i32_129 : BitVec 32 := 1024#32
  let v266 : BitVec 32 := Scalar.muli arg8 c1024_i32_129
  let v267 : BitVec 32 := Scalar.addi v22 v266
  let v268 : BitVec 32 := v267
  let v276 : BitVec 32 := Scalar.addi v268 c0_i32_139
  let v277 : Index := Scalar.indexCast v276
  let c0_142 : Index := 0#32
  ![0, 1, v277.toNat, 0]
def k0_off13 (i : grid0.Coords) (v11 : BitVec 32) (k0_t1 : Fin (k0_t1_loop i v11).trips) (c0_i32_175 : BitVec 32) : Fin 3 → Nat :=
  let c0_176 : Index := 0#32
  let c0_177 : Index := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c1_i32_11 : BitVec 32 := 1#32
  let arg8 : BitVec 32 := Scf.iv c0_i32_10 c1_i32_11 k0_t1
  let c1024_i32_129 : BitVec 32 := 1024#32
  let v266 : BitVec 32 := Scalar.muli arg8 c1024_i32_129
  let v267 : BitVec 32 := Scalar.addi v22 v266
  let v268 : BitVec 32 := v267
  let v304 : BitVec 32 := Scalar.addi v268 c0_i32_175
  let v305 : Index := Scalar.indexCast v304
  ![0, 0, v305.toNat]
@[reducible] def k0_t2_loop (i : grid0.Coords) (v11 : BitVec 32) : Scf.Loop 32 :=
  let c0_i32_10 : BitVec 32 := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let v25 : BitVec 32 := Scalar.addi c0_i32_10 v24
  let c1_i32_12 : BitVec 32 := 1#32
  ⟨v28, v25, c1_i32_12⟩
def k0_mult3 (i : grid0.Coords) (v11 : BitVec 32) (k0_t2 : Fin (k0_t2_loop i v11).trips) : BitVec 32 :=
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg8 : BitVec 32 := Scf.iv v28 c1_i32_12 k0_t2
  let c1024_i32_129 : BitVec 32 := 1024#32
  let v266 : BitVec 32 := Scalar.muli arg8 c1024_i32_129
  let v267 : BitVec 32 := Scalar.addi v22 v266
  v267
def k0_off14 (i : grid0.Coords) (v11 : BitVec 32) (k0_t2 : Fin (k0_t2_loop i v11).trips) (c0_i32_130 : BitVec 32) : Fin 4 → Nat :=
  let c0_131 : Index := 0#32
  let c0_132 : Index := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg8 : BitVec 32 := Scf.iv v28 c1_i32_12 k0_t2
  let c1024_i32_129 : BitVec 32 := 1024#32
  let v266 : BitVec 32 := Scalar.muli arg8 c1024_i32_129
  let v267 : BitVec 32 := Scalar.addi v22 v266
  let v268 : BitVec 32 := v267
  let v269 : BitVec 32 := Scalar.addi v268 c0_i32_130
  let v270 : Index := Scalar.indexCast v269
  let c0_133 : Index := 0#32
  ![0, 0, v270.toNat, 0]
def k0_off15 (i : grid0.Coords) (v11 : BitVec 32) (k0_t2 : Fin (k0_t2_loop i v11).trips) (c0_i32_139 : BitVec 32) : Fin 4 → Nat :=
  let c0_140 : Index := 0#32
  let c1_141 : Index := 1#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg8 : BitVec 32 := Scf.iv v28 c1_i32_12 k0_t2
  let c1024_i32_129 : BitVec 32 := 1024#32
  let v266 : BitVec 32 := Scalar.muli arg8 c1024_i32_129
  let v267 : BitVec 32 := Scalar.addi v22 v266
  let v268 : BitVec 32 := v267
  let v276 : BitVec 32 := Scalar.addi v268 c0_i32_139
  let v277 : Index := Scalar.indexCast v276
  let c0_142 : Index := 0#32
  ![0, 1, v277.toNat, 0]
def k0_off16 (i : grid0.Coords) (v11 : BitVec 32) (k0_t2 : Fin (k0_t2_loop i v11).trips) (c0_i32_175 : BitVec 32) : Fin 3 → Nat :=
  let c0_176 : Index := 0#32
  let c0_177 : Index := 0#32
  let arg2 : BitVec 32 := BitVec.ofNat 32 (i 2).val
  let c4_i32_5 : BitVec 32 := 4#32
  let v12 : BitVec 32 := Scalar.muli arg2 c4_i32_5
  let v13 : BitVec 32 := Scalar.subi v12 v11
  let c4_i32_6 : BitVec 32 := 4#32
  let v14 : BitVec 32 := Scalar.remsi v13 c4_i32_6
  let v21 : BitVec 32 := Scalar.addi v11 v14
  let c256_i32_8 : BitVec 32 := 256#32
  let v22 : BitVec 32 := Scalar.muli v21 c256_i32_8
  let c0_i32_10 : BitVec 32 := 0#32
  let c4_i32_9 : BitVec 32 := 4#32
  let v23 : BitVec 32 := Scalar.divsi v13 c4_i32_9
  let v24 : BitVec 32 := Scalar.subi v23 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg8 : BitVec 32 := Scf.iv v28 c1_i32_12 k0_t2
  let c1024_i32_129 : BitVec 32 := 1024#32
  let v266 : BitVec 32 := Scalar.muli arg8 c1024_i32_129
  let v267 : BitVec 32 := Scalar.addi v22 v266
  let v268 : BitVec 32 := v267
  let v304 : BitVec 32 := Scalar.addi v268 c0_i32_175
  let v305 : Index := Scalar.indexCast v304
  ![0, 0, v305.toNat]

def k0_chk1 (i : grid0.Coords) (v11 : BitVec 32) : Prop :=
  (256 ∣ (k0_mult1 v11).toNat) ∧
  (∀ (k0_h1 : k0_cond1 i v11 = 1#1), ∀ (k0_h2 : k0_cond2 i v11 = 1#1), ∀ (k0_h3 : k0_cond3 i v11 = 1#1), ∀ (r : Fin 3), ∀ a, (k0_off2 v11 (BitVec.ofNat 32 (256 * r.val))) a + S1x1x256x128.size a ≤ S1x2x8192x128.size a) ∧
  (∀ (k0_h1 : k0_cond1 i v11 = 1#1), ∀ (k0_h2 : k0_cond2 i v11 = 1#1), ∀ (k0_h3 : k0_cond3 i v11 = 1#1), ∀ (r : Fin 3), ∀ a, (k0_off3 v11 (BitVec.ofNat 32 (256 * r.val))) a + S1x1x256x128.size a ≤ S1x2x8192x128.size a) ∧
  (∀ (k0_h1 : k0_cond1 i v11 = 1#1), ∀ (k0_h2 : k0_cond2 i v11 = 1#1), ∀ (k0_h3 : k0_cond3 i v11 = 1#1), ∀ (r : Fin 3), ∀ a, (k0_off4 v11 (BitVec.ofNat 32 (256 * r.val))) a + S1x128x256.size a ≤ S1x128x8192.size a) ∧
  (∀ (k0_h1 : k0_cond1 i v11 = 1#1), ∀ (k0_h2 : k0_cond2 i v11 = 1#1), ∀ (k0_h3 : ¬(k0_cond3 i v11 = 1#1)), ∀ (r : Fin 2), ∀ a, (k0_off5 v11 (BitVec.ofNat 32 (256 * r.val))) a + S1x1x256x128.size a ≤ S1x2x8192x128.size a) ∧
  (∀ (k0_h1 : k0_cond1 i v11 = 1#1), ∀ (k0_h2 : k0_cond2 i v11 = 1#1), ∀ (k0_h3 : ¬(k0_cond3 i v11 = 1#1)), ∀ (r : Fin 2), ∀ a, (k0_off6 v11 (BitVec.ofNat 32 (256 * r.val))) a + S1x1x256x128.size a ≤ S1x2x8192x128.size a) ∧
  (∀ (k0_h1 : k0_cond1 i v11 = 1#1), ∀ (k0_h2 : k0_cond2 i v11 = 1#1), ∀ (k0_h3 : ¬(k0_cond3 i v11 = 1#1)), ∀ (r : Fin 2), ∀ a, (k0_off7 v11 (BitVec.ofNat 32 (256 * r.val))) a + S1x128x256.size a ≤ S1x128x8192.size a) ∧
  (∀ (k0_h1 : k0_cond1 i v11 = 1#1), ∀ (k0_h2 : ¬(k0_cond2 i v11 = 1#1)), ∀ a, (k0_off8 v11) a + S1x1x256x128.size a ≤ S1x2x8192x128.size a) ∧
  (∀ (k0_h1 : k0_cond1 i v11 = 1#1), ∀ (k0_h2 : ¬(k0_cond2 i v11 = 1#1)), ∀ a, (k0_off9 v11) a + S1x1x256x128.size a ≤ S1x2x8192x128.size a) ∧
  (∀ (k0_h1 : k0_cond1 i v11 = 1#1), ∀ (k0_h2 : ¬(k0_cond2 i v11 = 1#1)), ∀ a, (k0_off10 v11) a + S1x128x256.size a ≤ S1x128x8192.size a) ∧
  ((k0_t1_loop i v11).OK) ∧
  (∀ k0_t1 : Fin (k0_t1_loop i v11).trips, 256 ∣ (k0_mult2 i v11 k0_t1).toNat) ∧
  (∀ k0_t1 : Fin (k0_t1_loop i v11).trips, ∀ (r : Fin 4), ∀ a, (k0_off11 i v11 k0_t1 (BitVec.ofNat 32 (256 * r.val))) a + S1x1x256x128.size a ≤ S1x2x8192x128.size a) ∧
  (∀ k0_t1 : Fin (k0_t1_loop i v11).trips, ∀ (r : Fin 4), ∀ a, (k0_off12 i v11 k0_t1 (BitVec.ofNat 32 (256 * r.val))) a + S1x1x256x128.size a ≤ S1x2x8192x128.size a) ∧
  (∀ k0_t1 : Fin (k0_t1_loop i v11).trips, ∀ (r : Fin 4), ∀ a, (k0_off13 i v11 k0_t1 (BitVec.ofNat 32 (256 * r.val))) a + S1x128x256.size a ≤ S1x128x8192.size a) ∧
  ((k0_t2_loop i v11).OK) ∧
  (∀ k0_t2 : Fin (k0_t2_loop i v11).trips, 256 ∣ (k0_mult3 i v11 k0_t2).toNat) ∧
  (∀ k0_t2 : Fin (k0_t2_loop i v11).trips, ∀ (r : Fin 4), ∀ a, (k0_off14 i v11 k0_t2 (BitVec.ofNat 32 (256 * r.val))) a + S1x1x256x128.size a ≤ S1x2x8192x128.size a) ∧
  (∀ k0_t2 : Fin (k0_t2_loop i v11).trips, ∀ (r : Fin 4), ∀ a, (k0_off15 i v11 k0_t2 (BitVec.ofNat 32 (256 * r.val))) a + S1x1x256x128.size a ≤ S1x2x8192x128.size a) ∧
  (∀ k0_t2 : Fin (k0_t2_loop i v11).trips, ∀ (r : Fin 4), ∀ a, (k0_off16 i v11 k0_t2 (BitVec.ofNat 32 (256 * r.val))) a + S1x128x256.size a ≤ S1x128x8192.size a)
theorem k0_mult1_dvd : ∀ (i : grid0.Coords) (v11 : BitVec 32) (k0_hw1 : k0_chk1 i v11), 256 ∣ (k0_mult1 v11).toNat := fun i v11 k0_hw1 => k0_hw1.1
theorem k0_off2_inb : ∀ (i : grid0.Coords) (v11 : BitVec 32) (k0_hw1 : k0_chk1 i v11), ∀ (k0_h1 : k0_cond1 i v11 = 1#1), ∀ (k0_h2 : k0_cond2 i v11 = 1#1), ∀ (k0_h3 : k0_cond3 i v11 = 1#1), ∀ (r : Fin 3), ∀ a, (k0_off2 v11 (BitVec.ofNat 32 (256 * r.val))) a + S1x1x256x128.size a ≤ S1x2x8192x128.size a := fun i v11 k0_hw1 k0_h1 k0_h2 k0_h3 r => k0_hw1.2.1 k0_h1 k0_h2 k0_h3 r
theorem k0_off3_inb : ∀ (i : grid0.Coords) (v11 : BitVec 32) (k0_hw1 : k0_chk1 i v11), ∀ (k0_h1 : k0_cond1 i v11 = 1#1), ∀ (k0_h2 : k0_cond2 i v11 = 1#1), ∀ (k0_h3 : k0_cond3 i v11 = 1#1), ∀ (r : Fin 3), ∀ a, (k0_off3 v11 (BitVec.ofNat 32 (256 * r.val))) a + S1x1x256x128.size a ≤ S1x2x8192x128.size a := fun i v11 k0_hw1 k0_h1 k0_h2 k0_h3 r => k0_hw1.2.2.1 k0_h1 k0_h2 k0_h3 r
theorem k0_off4_inb : ∀ (i : grid0.Coords) (v11 : BitVec 32) (k0_hw1 : k0_chk1 i v11), ∀ (k0_h1 : k0_cond1 i v11 = 1#1), ∀ (k0_h2 : k0_cond2 i v11 = 1#1), ∀ (k0_h3 : k0_cond3 i v11 = 1#1), ∀ (r : Fin 3), ∀ a, (k0_off4 v11 (BitVec.ofNat 32 (256 * r.val))) a + S1x128x256.size a ≤ S1x128x8192.size a := fun i v11 k0_hw1 k0_h1 k0_h2 k0_h3 r => k0_hw1.2.2.2.1 k0_h1 k0_h2 k0_h3 r
theorem k0_off5_inb : ∀ (i : grid0.Coords) (v11 : BitVec 32) (k0_hw1 : k0_chk1 i v11), ∀ (k0_h1 : k0_cond1 i v11 = 1#1), ∀ (k0_h2 : k0_cond2 i v11 = 1#1), ∀ (k0_h3 : ¬(k0_cond3 i v11 = 1#1)), ∀ (r : Fin 2), ∀ a, (k0_off5 v11 (BitVec.ofNat 32 (256 * r.val))) a + S1x1x256x128.size a ≤ S1x2x8192x128.size a := fun i v11 k0_hw1 k0_h1 k0_h2 k0_h3 r => k0_hw1.2.2.2.2.1 k0_h1 k0_h2 k0_h3 r
theorem k0_off6_inb : ∀ (i : grid0.Coords) (v11 : BitVec 32) (k0_hw1 : k0_chk1 i v11), ∀ (k0_h1 : k0_cond1 i v11 = 1#1), ∀ (k0_h2 : k0_cond2 i v11 = 1#1), ∀ (k0_h3 : ¬(k0_cond3 i v11 = 1#1)), ∀ (r : Fin 2), ∀ a, (k0_off6 v11 (BitVec.ofNat 32 (256 * r.val))) a + S1x1x256x128.size a ≤ S1x2x8192x128.size a := fun i v11 k0_hw1 k0_h1 k0_h2 k0_h3 r => k0_hw1.2.2.2.2.2.1 k0_h1 k0_h2 k0_h3 r
theorem k0_off7_inb : ∀ (i : grid0.Coords) (v11 : BitVec 32) (k0_hw1 : k0_chk1 i v11), ∀ (k0_h1 : k0_cond1 i v11 = 1#1), ∀ (k0_h2 : k0_cond2 i v11 = 1#1), ∀ (k0_h3 : ¬(k0_cond3 i v11 = 1#1)), ∀ (r : Fin 2), ∀ a, (k0_off7 v11 (BitVec.ofNat 32 (256 * r.val))) a + S1x128x256.size a ≤ S1x128x8192.size a := fun i v11 k0_hw1 k0_h1 k0_h2 k0_h3 r => k0_hw1.2.2.2.2.2.2.1 k0_h1 k0_h2 k0_h3 r
theorem k0_off8_inb : ∀ (i : grid0.Coords) (v11 : BitVec 32) (k0_hw1 : k0_chk1 i v11), ∀ (k0_h1 : k0_cond1 i v11 = 1#1), ∀ (k0_h2 : ¬(k0_cond2 i v11 = 1#1)), ∀ a, (k0_off8 v11) a + S1x1x256x128.size a ≤ S1x2x8192x128.size a := fun i v11 k0_hw1 k0_h1 k0_h2 => k0_hw1.2.2.2.2.2.2.2.1 k0_h1 k0_h2
theorem k0_off9_inb : ∀ (i : grid0.Coords) (v11 : BitVec 32) (k0_hw1 : k0_chk1 i v11), ∀ (k0_h1 : k0_cond1 i v11 = 1#1), ∀ (k0_h2 : ¬(k0_cond2 i v11 = 1#1)), ∀ a, (k0_off9 v11) a + S1x1x256x128.size a ≤ S1x2x8192x128.size a := fun i v11 k0_hw1 k0_h1 k0_h2 => k0_hw1.2.2.2.2.2.2.2.2.1 k0_h1 k0_h2
theorem k0_off10_inb : ∀ (i : grid0.Coords) (v11 : BitVec 32) (k0_hw1 : k0_chk1 i v11), ∀ (k0_h1 : k0_cond1 i v11 = 1#1), ∀ (k0_h2 : ¬(k0_cond2 i v11 = 1#1)), ∀ a, (k0_off10 v11) a + S1x128x256.size a ≤ S1x128x8192.size a := fun i v11 k0_hw1 k0_h1 k0_h2 => k0_hw1.2.2.2.2.2.2.2.2.2.1 k0_h1 k0_h2
theorem k0_t1_ok : ∀ (i : grid0.Coords) (v11 : BitVec 32) (k0_hw1 : k0_chk1 i v11), (k0_t1_loop i v11).OK := fun i v11 k0_hw1 => k0_hw1.2.2.2.2.2.2.2.2.2.2.1
theorem k0_mult2_dvd : ∀ (i : grid0.Coords) (v11 : BitVec 32) (k0_hw1 : k0_chk1 i v11) (k0_t1 : Fin (k0_t1_loop i v11).trips), 256 ∣ (k0_mult2 i v11 k0_t1).toNat := fun i v11 k0_hw1 k0_t1 => k0_hw1.2.2.2.2.2.2.2.2.2.2.2.1 k0_t1
theorem k0_off11_inb : ∀ (i : grid0.Coords) (v11 : BitVec 32) (k0_hw1 : k0_chk1 i v11) (k0_t1 : Fin (k0_t1_loop i v11).trips), ∀ (r : Fin 4), ∀ a, (k0_off11 i v11 k0_t1 (BitVec.ofNat 32 (256 * r.val))) a + S1x1x256x128.size a ≤ S1x2x8192x128.size a := fun i v11 k0_hw1 k0_t1 r => k0_hw1.2.2.2.2.2.2.2.2.2.2.2.2.1 k0_t1 r
theorem k0_off12_inb : ∀ (i : grid0.Coords) (v11 : BitVec 32) (k0_hw1 : k0_chk1 i v11) (k0_t1 : Fin (k0_t1_loop i v11).trips), ∀ (r : Fin 4), ∀ a, (k0_off12 i v11 k0_t1 (BitVec.ofNat 32 (256 * r.val))) a + S1x1x256x128.size a ≤ S1x2x8192x128.size a := fun i v11 k0_hw1 k0_t1 r => k0_hw1.2.2.2.2.2.2.2.2.2.2.2.2.2.1 k0_t1 r
theorem k0_off13_inb : ∀ (i : grid0.Coords) (v11 : BitVec 32) (k0_hw1 : k0_chk1 i v11) (k0_t1 : Fin (k0_t1_loop i v11).trips), ∀ (r : Fin 4), ∀ a, (k0_off13 i v11 k0_t1 (BitVec.ofNat 32 (256 * r.val))) a + S1x128x256.size a ≤ S1x128x8192.size a := fun i v11 k0_hw1 k0_t1 r => k0_hw1.2.2.2.2.2.2.2.2.2.2.2.2.2.2.1 k0_t1 r
theorem k0_t2_ok : ∀ (i : grid0.Coords) (v11 : BitVec 32) (k0_hw1 : k0_chk1 i v11), (k0_t2_loop i v11).OK := fun i v11 k0_hw1 => k0_hw1.2.2.2.2.2.2.2.2.2.2.2.2.2.2.2.1
theorem k0_mult3_dvd : ∀ (i : grid0.Coords) (v11 : BitVec 32) (k0_hw1 : k0_chk1 i v11) (k0_t2 : Fin (k0_t2_loop i v11).trips), 256 ∣ (k0_mult3 i v11 k0_t2).toNat := fun i v11 k0_hw1 k0_t2 => k0_hw1.2.2.2.2.2.2.2.2.2.2.2.2.2.2.2.2.1 k0_t2
theorem k0_off14_inb : ∀ (i : grid0.Coords) (v11 : BitVec 32) (k0_hw1 : k0_chk1 i v11) (k0_t2 : Fin (k0_t2_loop i v11).trips), ∀ (r : Fin 4), ∀ a, (k0_off14 i v11 k0_t2 (BitVec.ofNat 32 (256 * r.val))) a + S1x1x256x128.size a ≤ S1x2x8192x128.size a := fun i v11 k0_hw1 k0_t2 r => k0_hw1.2.2.2.2.2.2.2.2.2.2.2.2.2.2.2.2.2.1 k0_t2 r
theorem k0_off15_inb : ∀ (i : grid0.Coords) (v11 : BitVec 32) (k0_hw1 : k0_chk1 i v11) (k0_t2 : Fin (k0_t2_loop i v11).trips), ∀ (r : Fin 4), ∀ a, (k0_off15 i v11 k0_t2 (BitVec.ofNat 32 (256 * r.val))) a + S1x1x256x128.size a ≤ S1x2x8192x128.size a := fun i v11 k0_hw1 k0_t2 r => k0_hw1.2.2.2.2.2.2.2.2.2.2.2.2.2.2.2.2.2.2.1 k0_t2 r
theorem k0_off16_inb : ∀ (i : grid0.Coords) (v11 : BitVec 32) (k0_hw1 : k0_chk1 i v11) (k0_t2 : Fin (k0_t2_loop i v11).trips), ∀ (r : Fin 4), ∀ a, (k0_off16 i v11 k0_t2 (BitVec.ofNat 32 (256 * r.val))) a + S1x128x256.size a ≤ S1x128x8192.size a := fun i v11 k0_hw1 k0_t2 r => k0_hw1.2.2.2.2.2.2.2.2.2.2.2.2.2.2.2.2.2.2.2 k0_t2 r

def k0_mult4 (i : grid0.Coords) : BitVec 32 :=
  let arg2 : BitVec 32 := BitVec.ofNat 32 (i 2).val
  let c1024_i32 : BitVec 32 := 1024#32
  let v31 : BitVec 32 := Scalar.muli arg2 c1024_i32
  v31
def k0_off17 (i : grid0.Coords) (c0_i32_13 : BitVec 32) : Fin 4 → Nat :=
  let c0 : Index := 0#32
  let c0_14 : Index := 0#32
  let arg2 : BitVec 32 := BitVec.ofNat 32 (i 2).val
  let c1024_i32 : BitVec 32 := 1024#32
  let v31 : BitVec 32 := Scalar.muli arg2 c1024_i32
  let v32 : BitVec 32 := v31
  let v33 : BitVec 32 := Scalar.addi v32 c0_i32_13
  let v34 : Index := Scalar.indexCast v33
  let c0_15 : Index := 0#32
  ![0, 0, v34.toNat, 0]
def k0_off18 (i : grid0.Coords) (c0_i32_21 : BitVec 32) : Fin 4 → Nat :=
  let c0_22 : Index := 0#32
  let c1 : Index := 1#32
  let arg2 : BitVec 32 := BitVec.ofNat 32 (i 2).val
  let c1024_i32 : BitVec 32 := 1024#32
  let v31 : BitVec 32 := Scalar.muli arg2 c1024_i32
  let v32 : BitVec 32 := v31
  let v40 : BitVec 32 := Scalar.addi v32 c0_i32_21
  let v41 : Index := Scalar.indexCast v40
  let c0_23 : Index := 0#32
  ![0, 1, v41.toNat, 0]
def k0_off19 (i : grid0.Coords) (c0_i32_53 : BitVec 32) : Fin 3 → Nat :=
  let c0_54 : Index := 0#32
  let c0_55 : Index := 0#32
  let arg2 : BitVec 32 := BitVec.ofNat 32 (i 2).val
  let c1024_i32 : BitVec 32 := 1024#32
  let v31 : BitVec 32 := Scalar.muli arg2 c1024_i32
  let v32 : BitVec 32 := v31
  let v68 : BitVec 32 := Scalar.addi v32 c0_i32_53
  let v69 : Index := Scalar.indexCast v68
  ![0, 0, v69.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S64 : Shape := ⟨1, ![64]⟩
abbrev S2x8x8192x128 : Shape := ⟨4, ![2, 8, 8192, 128]⟩
abbrev S2x512x8192 : Shape := ⟨3, ![2, 512, 8192]⟩
abbrev S2x8x8192x8192 : Shape := ⟨4, ![2, 8, 8192, 8192]⟩
abbrev S_ : Shape := ⟨0, ![]⟩
abbrev S2x4x8 : Shape := ⟨3, ![2, 4, 8]⟩
abbrev S2x4x2x8 : Shape := ⟨4, ![2, 4, 2, 8]⟩
abbrev S2x8x8 : Shape := ⟨3, ![2, 8, 8]⟩
abbrev S2x8x8x1024 : Shape := ⟨4, ![2, 8, 8, 1024]⟩
abbrev S2x8x8192 : Shape := ⟨3, ![2, 8, 8192]⟩
abbrev S8192 : Shape := ⟨1, ![8192]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S2x8x8192x1 : Shape := ⟨4, ![2, 8, 8192, 1]⟩
abbrev S2x8x64x8192 : Shape := ⟨4, ![2, 8, 64, 8192]⟩
abbrev S2x8x8192x64 : Shape := ⟨4, ![2, 8, 8192, 64]⟩
abbrev S2x8192x8x64 : Shape := ⟨4, ![2, 8192, 8, 64]⟩
abbrev S2x8192x512 : Shape := ⟨3, ![2, 8192, 512]⟩

abbrev nBuf : Space → Nat
  | .hbm => 56
  | .vmem => 0
  | .smem => 0
  | _ => 0

abbrev bufTy : (tb : Table) → Fin (tcTables nBuf tb) → BufTy
  | .hbm, ⟨0, _⟩ => ⟨S64, .i32⟩
  | .hbm, ⟨1, _⟩ => ⟨S2x8x8192x128, .bf16⟩
  | .hbm, ⟨2, _⟩ => ⟨S2x8x8192x128, .bf16⟩
  | .hbm, ⟨3, _⟩ => ⟨S2x512x8192, .bf16⟩
  | .hbm, ⟨4, _⟩ => ⟨S2x8x8192x128, .f32⟩
  | .hbm, ⟨5, _⟩ => ⟨S2x8x8192x128, .f32⟩
  | .hbm, ⟨6, _⟩ => ⟨S2x8x8192x8192, .f32⟩
  | .hbm, ⟨7, _⟩ => ⟨S_, .f32⟩
  | .hbm, ⟨8, _⟩ => ⟨S_, .f32⟩
  | .hbm, ⟨9, _⟩ => ⟨S2x8x8192x8192, .f32⟩
  | .hbm, ⟨10, _⟩ => ⟨S2x8x8192x8192, .f32⟩
  | .hbm, ⟨11, _⟩ => ⟨S2x4x8, .i32⟩
  | .hbm, ⟨12, _⟩ => ⟨S2x4x2x8, .i32⟩
  | .hbm, ⟨13, _⟩ => ⟨S2x8x8, .i32⟩
  | .hbm, ⟨14, _⟩ => ⟨S2x8x8x1024, .i32⟩
  | .hbm, ⟨15, _⟩ => ⟨S2x8x8192, .i32⟩
  | .hbm, ⟨16, _⟩ => ⟨S_, .i32⟩
  | .hbm, ⟨17, _⟩ => ⟨S2x8x8192, .i32⟩
  | .hbm, ⟨18, _⟩ => ⟨S2x8x8192, .i32⟩
  | .hbm, ⟨19, _⟩ => ⟨S8192, .i32⟩
  | .hbm, ⟨20, _⟩ => ⟨S1x1x1x8192, .i32⟩
  | .hbm, ⟨21, _⟩ => ⟨S1x1x8192x1, .i32⟩
  | .hbm, ⟨22, _⟩ => ⟨S1x1x8192x8192, .i32⟩
  | .hbm, ⟨23, _⟩ => ⟨S1x1x8192x8192, .i32⟩
  | .hbm, ⟨24, _⟩ => ⟨S1x1x8192x8192, .i1⟩
  | .hbm, ⟨25, _⟩ => ⟨S1x1x1x8192, .i32⟩
  | .hbm, ⟨26, _⟩ => ⟨S2x8x8192x1, .i32⟩
  | .hbm, ⟨27, _⟩ => ⟨S2x8x8192x8192, .i32⟩
  | .hbm, ⟨28, _⟩ => ⟨S2x8x8192x8192, .i32⟩
  | .hbm, ⟨29, _⟩ => ⟨S2x8x8192x8192, .i1⟩
  | .hbm, ⟨30, _⟩ => ⟨S2x8x8192x8192, .i1⟩
  | .hbm, ⟨31, _⟩ => ⟨S2x8x8192x8192, .i1⟩
  | .hbm, ⟨32, _⟩ => ⟨S_, .f32⟩
  | .hbm, ⟨33, _⟩ => ⟨S_, .f32⟩
  | .hbm, ⟨34, _⟩ => ⟨S2x8x8192x8192, .f32⟩
  | .hbm, ⟨35, _⟩ => ⟨S2x8x8192x8192, .f32⟩
  | .hbm, ⟨36, _⟩ => ⟨S_, .f32⟩
  | .hbm, ⟨37, _⟩ => ⟨S2x8x8192, .f32⟩
  | .hbm, ⟨38, _⟩ => ⟨S_, .f32⟩
  | .hbm, ⟨39, _⟩ => ⟨S2x8x8192, .f32⟩
  | .hbm, ⟨40, _⟩ => ⟨S2x8x8192, .f32⟩
  | .hbm, ⟨41, _⟩ => ⟨S2x8x8192x1, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S_, .f32⟩
  | .hbm, ⟨46, _⟩ => ⟨S2x8x8192, .f32⟩
  | .hbm, ⟨47, _⟩ => ⟨S2x8x8192x1, .f32⟩
  | .hbm, ⟨48, _⟩ => ⟨S2x8x8192x8192, .f32⟩
  | .hbm, ⟨49, _⟩ => ⟨S2x8x8192x8192, .f32⟩
  | .hbm, ⟨50, _⟩ => ⟨S2x512x8192, .f32⟩
  | .hbm, ⟨51, _⟩ => ⟨S2x8x64x8192, .f32⟩
  | .hbm, ⟨52, _⟩ => ⟨S2x8x8192x64, .f32⟩
  | .hbm, ⟨53, _⟩ => ⟨S2x8192x8x64, .f32⟩
  | .hbm, ⟨54, _⟩ => ⟨S2x8192x512, .f32⟩
  | .hbm, ⟨55, _⟩ => ⟨S2x8192x512, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Experts.lean ====
abbrev S96 : Shape := ⟨1, ![96]⟩
abbrev S393216x128 : Shape := ⟨2, ![393216, 128]⟩
abbrev S32x1024x512 : Shape := ⟨3, ![32, 1024, 512]⟩
abbrev S32x512x1024 : Shape := ⟨3, ![32, 512, 1024]⟩
abbrev S4096x128 : Shape := ⟨2, ![4096, 128]⟩
abbrev S1 : Shape := ⟨1, ![1]⟩
abbrev S1024x1024 : Shape := ⟨2, ![1024, 1024]⟩
abbrev S512x1024 : Shape := ⟨2, ![512, 1024]⟩
abbrev S1024x512 : Shape := ⟨2, ![1024, 512]⟩
abbrev S_ : Shape := ⟨0, ![]⟩
abbrev S1x1024x512 : Shape := ⟨3, ![1, 1024, 512]⟩
abbrev S1x512x1024 : Shape := ⟨3, ![1, 512, 1024]⟩
abbrev S2048x128 : Shape := ⟨2, ![2048, 128]⟩
abbrev S256x128 : Shape := ⟨2, ![256, 128]⟩
abbrev S256x1024 : Shape := ⟨2, ![256, 1024]⟩
abbrev S256x512 : Shape := ⟨2, ![256, 512]⟩

abbrev nBuf : Space → Nat
  | .hbm => 5
  | .vmem => 10
  | .smem => 4
  | _ => 0

abbrev bufTy : (tb : Table) → Fin (tcTables nBuf tb) → BufTy
  | .hbm, ⟨0, _⟩ => ⟨S393216x128, .bf16⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S393216x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S1024x1024, .bf16⟩
  | .local _ .vmem, ⟨5, _⟩ => ⟨S512x1024, .bf16⟩
  | .local _ .vmem, ⟨6, _⟩ => ⟨S4096x128, .f32⟩
  | .local _ .vmem, ⟨7, _⟩ => ⟨S1024x512, .f32⟩
  | .local _ .vmem, ⟨8, _⟩ => ⟨S1024x512, .f32⟩
  | .local _ .vmem, ⟨9, _⟩ => ⟨S512x1024, .f32⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | _, _ => ⟨S393216x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond1 (i : grid0.Coords) : BitVec 1 :=
  let arg0 : BitVec 32 := BitVec.ofNat 32 (i 0).val
  let c0_i32_1 : BitVec 32 := 0#32
  let v11 : BitVec 1 := Scalar.cmpi .eq arg0 c0_i32_1
  let v12 : BitVec 32 := Scalar.extui v11
  let c0_i32_2 : BitVec 32 := 0#32
  let v13 : BitVec 1 := Scalar.cmpi .ne v12 c0_i32_2
  v13

def k0_off3 (v30 : BitVec 32) : Fin 3 → Nat :=
  let c0_i32_12 : BitVec 32 := 0#32
  let c0_i32_13 : BitVec 32 := 0#32
  ![v30.toNat, 0, 0]

def k0_off4 (v30 : BitVec 32) : Fin 3 → Nat :=
  let c0_i32_16 : BitVec 32 := 0#32
  let c0_i32_17 : BitVec 32 := 0#32
  ![v30.toNat, 0, 0]

def k0_chk1 (i : grid0.Coords) (v30 : BitVec 32) : Prop :=
  (∀ (k0_h1 : k0_cond1 i = 1#1), ∀ a, (k0_off3 v30) a + S1x1024x512.size a ≤ S32x1024x512.size a) ∧
  (∀ (k0_h1 : k0_cond1 i = 1#1), ∀ a, (k0_off4 v30) a + S1x512x1024.size a ≤ S32x512x1024.size a)
theorem k0_off3_inb : ∀ (i : grid0.Coords) (v30 : BitVec 32) (k0_hw1 : k0_chk1 i v30), ∀ (k0_h1 : k0_cond1 i = 1#1), ∀ a, (k0_off3 v30) a + S1x1024x512.size a ≤ S32x1024x512.size a := fun i v30 k0_hw1 k0_h1 => k0_hw1.1 k0_h1
theorem k0_off4_inb : ∀ (i : grid0.Coords) (v30 : BitVec 32) (k0_hw1 : k0_chk1 i v30), ∀ (k0_h1 : k0_cond1 i = 1#1), ∀ a, (k0_off4 v30) a + S1x512x1024.size a ≤ S32x512x1024.size a := fun i v30 k0_hw1 k0_h1 => k0_hw1.2 k0_h1

def k0_off5 (i : grid0.Coords) : Fin 1 → Nat :=
  let arg0 : BitVec 32 := BitVec.ofNat 32 (i 0).val
  let v30 : Index := Scalar.indexCast arg0
  ![v30.toNat]
def k0_off6 (v31 : BitVec 32) : Fin 3 → Nat :=
  let c0_i32_12 : BitVec 32 := 0#32
  let c0_i32_13 : BitVec 32 := 0#32
  ![v31.toNat, 0, 0]
def k0_cond2 (i : grid0.Coords) (v1 : BitVec 32) (v4 : BitVec 32) (v8 : BitVec 32) : BitVec 1 :=
  let c0_i32_3 : BitVec 32 := 0#32
  let v14 : BitVec 1 := Scalar.cmpi .sgt v1 c0_i32_3
  let arg0 : BitVec 32 := BitVec.ofNat 32 (i 0).val
  let c0_i32 : BitVec 32 := 0#32
  let v2 : BitVec 1 := Scalar.cmpi .eq arg0 c0_i32
  let v9 : BitVec 1 := Scalar.cmpi .ne v4 v8
  let v10 : BitVec 1 := Scalar.ori v2 v9
  let v15 : BitVec 1 := Scalar.andi v14 v10
  let v16 : BitVec 32 := Scalar.extui v15
  let c0_i32_4 : BitVec 32 := 0#32
  let v17 : BitVec 1 := Scalar.cmpi .ne v16 c0_i32_4
  v17

def k0_off7 (v31 : BitVec 32) : Fin 3 → Nat :=
  let c0_i32_16 : BitVec 32 := 0#32
  let c0_i32_17 : BitVec 32 := 0#32
  ![v31.toNat, 0, 0]

def k0_chk2 (i : grid0.Coords) (v1 : BitVec 32) (v4 : BitVec 32) (v8 : BitVec 32) (v31 : BitVec 32) : Prop :=
  (∀ (k0_h2 : k0_cond2 i v1 v4 v8 = 1#1), ∀ a, (k0_off6 v31) a + S1x1024x512.size a ≤ S32x1024x512.size a) ∧
  (∀ (k0_h2 : k0_cond2 i v1 v4 v8 = 1#1), ∀ a, (k0_off7 v31) a + S1x512x1024.size a ≤ S32x512x1024.size a)
theorem k0_off6_inb : ∀ (i : grid0.Coords) (v1 : BitVec 32) (v4 : BitVec 32) (v8 : BitVec 32) (v31 : BitVec 32) (k0_hw2 : k0_chk2 i v1 v4 v8 v31), ∀ (k0_h2 : k0_cond2 i v1 v4 v8 = 1#1), ∀ a, (k0_off6 v31) a + S1x1024x512.size a ≤ S32x1024x512.size a := fun i v1 v4 v8 v31 k0_hw2 k0_h2 => k0_hw2.1 k0_h2
theorem k0_off7_inb : ∀ (i : grid0.Coords) (v1 : BitVec 32) (v4 : BitVec 32) (v8 : BitVec 32) (v31 : BitVec 32) (k0_hw2 : k0_chk2 i v1 v4 v8 v31), ∀ (k0_h2 : k0_cond2 i v1 v4 v8 = 1#1), ∀ a, (k0_off7 v31) a + S1x512x1024.size a ≤ S32x512x1024.size a := fun i v1 v4 v8 v31 k0_hw2 k0_h2 => k0_hw2.2 k0_h2

def k0_off8 (i : grid0.Coords) : Fin 1 → Nat :=
  let arg0 : BitVec 32 := BitVec.ofNat 32 (i 0).val
  let v53 : Index := Scalar.indexCast arg0
  ![v53.toNat]
def k0_off9 (i : grid0.Coords) : Fin 1 → Nat :=
  let arg0 : BitVec 32 := BitVec.ofNat 32 (i 0).val
  let v58 : Index := Scalar.indexCast arg0
  ![v58.toNat]
def k0_off10 (v59 : BitVec 32) : Fin 3 → Nat :=
  let c0_i32_30 : BitVec 32 := 0#32
  let c0_i32_31 : BitVec 32 := 0#32
  ![v59.toNat, 0, 0]
def k0_cond3 (v54 : BitVec 32) : BitVec 1 :=
  let c0_i32_28 : BitVec 32 := 0#32
  let v55 : BitVec 1 := Scalar.cmpi .sge v54 c0_i32_28
  let v56 : BitVec 32 := Scalar.extui v55
  let c0_i32_29 : BitVec 32 := 0#32
  let v57 : BitVec 1 := Scalar.cmpi .ne v56 c0_i32_29
  v57

def k0_off11 (v59 : BitVec 32) : Fin 3 → Nat :=
  let c0_i32_34 : BitVec 32 := 0#32
  let c0_i32_35 : BitVec 32 := 0#32
  ![v59.toNat, 0, 0]

def k0_chk3 (i : grid0.Coords) (v1 : BitVec 32) (v4 : BitVec 32) (v8 : BitVec 32) (v54 : BitVec 32) (v59 : BitVec 32) : Prop :=
  (∀ (k0_h2 : k0_cond2 i v1 v4 v8 = 1#1), ∀ (k0_h3 : k0_cond3 v54 = 1#1), ∀ a, (k0_off10 v59) a + S1x1024x512.size a ≤ S32x1024x512.size a) ∧
  (∀ (k0_h2 : k0_cond2 i v1 v4 v8 = 1#1), ∀ (k0_h3 : k0_cond3 v54 = 1#1), ∀ a, (k0_off11 v59) a + S1x512x1024.size a ≤ S32x512x1024.size a)
theorem k0_off10_inb : ∀ (i : grid0.Coords) (v1 : BitVec 32) (v4 : BitVec 32) (v8 : BitVec 32) (v54 : BitVec 32) (v59 : BitVec 32) (k0_hw3 : k0_chk3 i v1 v4 v8 v54 v59), ∀ (k0_h2 : k0_cond2 i v1 v4 v8 = 1#1), ∀ (k0_h3 : k0_cond3 v54 = 1#1), ∀ a, (k0_off10 v59) a + S1x1024x512.size a ≤ S32x1024x512.size a := fun i v1 v4 v8 v54 v59 k0_hw3 k0_h2 k0_h3 => k0_hw3.1 k0_h2 k0_h3
theorem k0_off11_inb : ∀ (i : grid0.Coords) (v1 : BitVec 32) (v4 : BitVec 32) (v8 : BitVec 32) (v54 : BitVec 32) (v59 : BitVec 32) (k0_hw3 : k0_chk3 i v1 v4 v8 v54 v59), ∀ (k0_h2 : k0_cond2 i v1 v4 v8 = 1#1), ∀ (k0_h3 : k0_cond3 v54 = 1#1), ∀ a, (k0_off11 v59) a + S1x512x1024.size a ≤ S32x512x1024.size a := fun i v1 v4 v8 v54 v59 k0_hw3 k0_h2 k0_h3 => k0_hw3.2 k0_h2 k0_h3

def k0_cond4 (v1 : BitVec 32) : BitVec 1 :=
  let c0_i32_5 : BitVec 32 := 0#32
  let v18 : BitVec 1 := Scalar.cmpi .sgt v1 c0_i32_5
  let v19 : BitVec 32 := Scalar.extui v18
  let c0_i32_6 : BitVec 32 := 0#32
  let v20 : BitVec 1 := Scalar.cmpi .ne v19 c0_i32_6
  v20

def k0_cond5 (v1 : BitVec 32) : BitVec 1 :=
  let c0_i32_7 : BitVec 32 := 0#32
  let v21 : BitVec 1 := Scalar.cmpi .sle v1 c0_i32_7
  let v22 : BitVec 32 := Scalar.extui v21
  let c0_i32_8 : BitVec 32 := 0#32
  let v23 : BitVec 1 := Scalar.cmpi .ne v22 c0_i32_8
  v23

def k0_cond6 (v1 : BitVec 32) : BitVec 1 :=
  let c256_i32 : BitVec 32 := 256#32
  let v24 : BitVec 1 := Scalar.cmpi .sgt v1 c256_i32
  let v25 : BitVec 32 := Scalar.extui v24
  let c0_i32_9 : BitVec 32 := 0#32
  let v26 : BitVec 1 := Scalar.cmpi .ne v25 c0_i32_9
  v26

def k0_cond7 (v1 : BitVec 32) : BitVec 1 :=
  let c256_i32_10 : BitVec 32 := 256#32
  let v27 : BitVec 1 := Scalar.cmpi .sle v1 c256_i32_10
  let v28 : BitVec 32 := Scalar.extui v27
  let c0_i32_11 : BitVec 32 := 0#32
  let v29 : BitVec 1 := Scalar.cmpi .ne v28 c0_i32_11
  v29

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ExpertsReferenceIdeal.lean ====
abbrev S96 : Shape := ⟨1, ![96]⟩
abbrev S393216x128 : Shape := ⟨2, ![393216, 128]⟩
abbrev S32x1024x512 : Shape := ⟨3, ![32, 1024, 512]⟩
abbrev S32x512x1024 : Shape := ⟨3, ![32, 512, 1024]⟩
abbrev S49152x1024 : Shape := ⟨2, ![49152, 1024]⟩
abbrev S512 : Shape := ⟨1, ![512]⟩
abbrev S1x512 : Shape := ⟨2, ![1, 512]⟩
abbrev S96x1 : Shape := ⟨2, ![96, 1]⟩
abbrev S96x512 : Shape := ⟨2, ![96, 512]⟩
abbrev S32 : Shape := ⟨1, ![32]⟩
abbrev S96x1x1 : Shape := ⟨3, ![96, 1, 1]⟩
abbrev S1x1x32 : Shape := ⟨3, ![1, 1, 32]⟩
abbrev S96x1x32 : Shape := ⟨3, ![96, 1, 32]⟩
abbrev S96x512x1 : Shape := ⟨3, ![96, 512, 1]⟩
abbrev S96x512x32 : Shape := ⟨3, ![96, 512, 32]⟩
abbrev S49152x32 : Shape := ⟨2, ![49152, 32]⟩
abbrev S49152x32x512 : Shape := ⟨3, ![49152, 32, 512]⟩
abbrev S_ : Shape := ⟨0, ![]⟩
abbrev S32x1024x49152 : Shape := ⟨3, ![32, 1024, 49152]⟩
abbrev S49152x32x1024 : Shape := ⟨3, ![49152, 32, 1024]⟩
abbrev S49152x32x1 : Shape := ⟨3, ![49152, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S96, .i32⟩
  | .hbm, ⟨3, _⟩ => ⟨S96, .i32⟩
  | .hbm, ⟨4, _⟩ => ⟨S393216x128, .bf16⟩
  | .hbm, ⟨5, _⟩ => ⟨S32x1024x512, .f32⟩
  | .hbm, ⟨6, _⟩ => ⟨S32x1024x512, .f32⟩
  | .hbm, ⟨7, _⟩ => ⟨S32x512x1024, .f32⟩
  | .hbm, ⟨8, _⟩ => ⟨S49152x1024, .bf16⟩
  | .hbm, ⟨9, _⟩ => ⟨S49152x1024, .f32⟩
  | .hbm, ⟨10, _⟩ => ⟨S512, .i32⟩
  | .hbm, ⟨11, _⟩ => ⟨S1x512, .i32⟩
  | .hbm, ⟨12, _⟩ => ⟨S96x1, .i32⟩
  | .hbm, ⟨13, _⟩ => ⟨S96x512, .i32⟩
  | .hbm, ⟨14, _⟩ => ⟨S96x512, .i32⟩
  | .hbm, ⟨15, _⟩ => ⟨S96x512, .i1⟩
  | .hbm, ⟨16, _⟩ => ⟨S32, .i32⟩
  | .hbm, ⟨17, _⟩ => ⟨S96x1x1, .i32⟩
  | .hbm, ⟨18, _⟩ => ⟨S1x1x32, .i32⟩
  | .hbm, ⟨19, _⟩ => ⟨S96x1x32, .i32⟩
  | .hbm, ⟨20, _⟩ => ⟨S96x1x32, .i32⟩
  | .hbm, ⟨21, _⟩ => ⟨S96x1x32, .i1⟩
  | .hbm, ⟨22, _⟩ => ⟨S96x512x1, .i1⟩
  | .hbm, ⟨23, _⟩ => ⟨S96x512x32, .i1⟩
  | .hbm, ⟨24, _⟩ => ⟨S96x512x32, .i1⟩
  | .hbm, ⟨25, _⟩ => ⟨S96x512x32, .i1⟩
  | .hbm, ⟨26, _⟩ => ⟨S96x512x32, .f32⟩
  | .hbm, ⟨27, _⟩ => ⟨S49152x32, .f32⟩
  | .hbm, ⟨28, _⟩ => ⟨S49152x32x512, .f32⟩
  | .hbm, ⟨29, _⟩ => ⟨S49152x32x512, .f32⟩
  | .hbm, ⟨30, _⟩ => ⟨S49152x32x512, .f32⟩
  | .hbm, ⟨31, _⟩ => ⟨S_, .f32⟩
  | .hbm, ⟨32, _⟩ => ⟨S49152x32x512, .f32⟩
  | .hbm, ⟨33, _⟩ => ⟨S49152x32x512, .f32⟩
  | .hbm, ⟨34, _⟩ => ⟨S_, .f32⟩
  | .hbm, ⟨35, _⟩ => ⟨S49152x32x512, .f32⟩
  | .hbm, ⟨36, _⟩ => ⟨S49152x32x512, .f32⟩
  | .hbm, ⟨37, _⟩ => ⟨S49152x32x512, .f32⟩
  | .hbm, ⟨38, _⟩ => ⟨S49152x32x512, .f32⟩
  | .hbm, ⟨39, _⟩ => ⟨S49152x32x512, .f32⟩
  | .hbm, ⟨40, _⟩ => ⟨S32x1024x49152, .f32⟩
  | .hbm, ⟨41, _⟩ => ⟨S49152x32x1024, .f32⟩
  | .hbm, ⟨42, _⟩ => ⟨S49152x32x1, .f32⟩
  | .hbm, ⟨43, _⟩ => ⟨S49152x32x1024, .f32⟩
  | .hbm, ⟨44, _⟩ => ⟨S49152x32x1024, .f32⟩
  | .hbm, ⟨45, _⟩ => ⟨S_, .f32⟩
  | .hbm, ⟨46, _⟩ => ⟨S49152x1024, .f32⟩
  | .hbm, ⟨47, _⟩ => ⟨S393216x128, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Inproj.lean ====
abbrev S2x8192x1024 : Shape := ⟨3, ![2, 8192, 1024]⟩
abbrev S1x1024 : Shape := ⟨2, ![1, 1024]⟩
abbrev S1024x3080 : Shape := ⟨2, ![1024, 3080]⟩
abbrev S512x1024 : Shape := ⟨2, ![512, 1024]⟩
abbrev S1024x128 : Shape := ⟨2, ![1024, 128]⟩
abbrev S1x128 : Shape := ⟨2, ![1, 128]⟩
abbrev S1x512 : Shape := ⟨2, ![1, 512]⟩
abbrev S512x512 : Shape := ⟨2, ![512, 512]⟩
abbrev S8192x128 : Shape := ⟨2, ![8192, 128]⟩
abbrev S256x256 : Shape := ⟨2, ![256, 256]⟩
abbrev S2x8x8192x128 : Shape := ⟨4, ![2, 8, 8192, 128]⟩
abbrev S2x512x8192 : Shape := ⟨3, ![2, 512, 8192]⟩
abbrev S2x8192x512 : Shape := ⟨3, ![2, 8192, 512]⟩
abbrev S2x8192x8 : Shape := ⟨3, ![2, 8192, 8]⟩
abbrev S1x1024x1024 : Shape := ⟨3, ![1, 1024, 1024]⟩
abbrev S1x8x1024x128 : Shape := ⟨4, ![1, 8, 1024, 128]⟩
abbrev S1x512x1024 : Shape := ⟨3, ![1, 512, 1024]⟩
abbrev S1x1024x512 : Shape := ⟨3, ![1, 1024, 512]⟩
abbrev S1x1024x8 : Shape := ⟨3, ![1, 1024, 8]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1024x384 : Shape := ⟨2, ![1024, 384]⟩
abbrev S256x384 : Shape := ⟨2, ![256, 384]⟩
abbrev S256x128 : Shape := ⟨2, ![256, 128]⟩
abbrev S1024x8 : Shape := ⟨2, ![1024, 8]⟩
abbrev S1x1x1024x128 : Shape := ⟨4, ![1, 1, 1024, 128]⟩

abbrev nBuf : Space → Nat
  | .hbm => 22
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x3080, .bf16⟩
  | .hbm, ⟨3, _⟩ => ⟨S512x1024, .bf16⟩
  | .hbm, ⟨4, _⟩ => ⟨S1024x128, .bf16⟩
  | .hbm, ⟨5, _⟩ => ⟨S1x128, .f32⟩
  | .hbm, ⟨6, _⟩ => ⟨S1x128, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S512x512, .bf16⟩
  | .hbm, ⟨12, _⟩ => ⟨S8192x128, .f32⟩
  | .hbm, ⟨13, _⟩ => ⟨S8192x128, .f32⟩
  | .hbm, ⟨14, _⟩ => ⟨S256x256, .bf16⟩
  | .hbm, ⟨15, _⟩ => ⟨S2x8x8192x128, .bf16⟩
  | .hbm, ⟨16, _⟩ => ⟨S2x8x8192x128, .bf16⟩
  | .hbm, ⟨17, _⟩ => ⟨S2x512x8192, .bf16⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S2x8192x8, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3080, .bf16⟩
  | .local _ .vmem, ⟨4, _⟩ => ⟨S512x1024, .bf16⟩
  | .local _ .vmem, ⟨5, _⟩ => ⟨S1024x128, .bf16⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S256x256, .bf16⟩
  | .local _ .vmem, ⟨18, _⟩ => ⟨S1x8x1024x128, .bf16⟩
  | .local _ .vmem, ⟨19, _⟩ => ⟨S1x8x1024x128, .bf16⟩
  | .local _ .vmem, ⟨20, _⟩ => ⟨S1x8x1024x128, .bf16⟩
  | .local _ .vmem, ⟨21, _⟩ => ⟨S1x8x1024x128, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x1024x512, .f32⟩
  | .local _ .vmem, ⟨25, _⟩ => ⟨S1x1024x512, .f32⟩
  | .local _ .vmem, ⟨26, _⟩ => ⟨S1x1024x512, .f32⟩
  | .local _ .vmem, ⟨27, _⟩ => ⟨S1x1024x512, .f32⟩
  | .local _ .vmem, ⟨28, _⟩ => ⟨S1x1024x512, .f32⟩
  | .local _ .vmem, ⟨29, _⟩ => ⟨S1x1024x512, .f32⟩
  | .local _ .vmem, ⟨30, _⟩ => ⟨S1x1024x8, .f32⟩
  | .local _ .vmem, ⟨31, _⟩ => ⟨S1x1024x8, .f32⟩
  | .local _ .vmem, ⟨32, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3080 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== InprojReferenceIdeal.lean ====
abbrev S2x8192x1024 : Shape := ⟨3, ![2, 8192, 1024]⟩
abbrev S1x1024 : Shape := ⟨2, ![1, 1024]⟩
abbrev S1024x3080 : Shape := ⟨2, ![1024, 3080]⟩
abbrev S512x1024 : Shape := ⟨2, ![512, 1024]⟩
abbrev S1024x128 : Shape := ⟨2, ![1024, 128]⟩
abbrev S1x128 : Shape := ⟨2, ![1, 128]⟩
abbrev S1x512 : Shape := ⟨2, ![1, 512]⟩
abbrev S512x512 : Shape := ⟨2, ![512, 512]⟩
abbrev S8192x128 : Shape := ⟨2, ![8192, 128]⟩
abbrev S256x256 : Shape := ⟨2, ![256, 256]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x512 : Shape := ⟨2, ![1024, 512]⟩
abbrev S2x8192x512 : Shape := ⟨3, ![2, 8192, 512]⟩
abbrev S2x512x8192 : Shape := ⟨3, ![2, 512, 8192]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x3080, .bf16⟩
  | .hbm, ⟨3, _⟩ => ⟨S512x1024, .bf16⟩
  | .hbm, ⟨4, _⟩ => ⟨S1024x128, .bf16⟩
  | .hbm, ⟨5, _⟩ => ⟨S1x128, .f32⟩
  | .hbm, ⟨6, _⟩ => ⟨S1x128, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S512x512, .bf16⟩
  | .hbm, ⟨12, _⟩ => ⟨S8192x128, .f32⟩
  | .hbm, ⟨13, _⟩ => ⟨S8192x128, .f32⟩
  | .hbm, ⟨14, _⟩ => ⟨S256x256, .bf16⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S1024x512, .bf16⟩
  | .hbm, ⟨33, _⟩ => ⟨S1024x512, .f32⟩
  | .hbm, ⟨34, _⟩ => ⟨S512x1024, .f32⟩
  | .hbm, ⟨35, _⟩ => ⟨S2x8192x512, .f32⟩
  | .hbm, ⟨36, _⟩ => ⟨S2x512x8192, .f32⟩
  | .hbm, ⟨37, _⟩ => ⟨S2x512x8192, .bf16⟩
  | .hbm, ⟨38, _⟩ => ⟨S2x8192x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.Setup.lean ====
/- The launch of the attention kernel: the region as @main reaches it, the table of first tiles the body is handed,
   the staging memrefs and the input blocks at a grid point. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body as the pipeline calls it at point `t`. -/
abbrev bodyAt (a : (pcfg0 (F := F)).Adm) (t : Fin (cfg0 a).N) : Prog (TpuEff nD τ sig (Elt F) Λ₀ .tc) PUnit :=
  cc0_fox (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-- The first-tile table as the body is handed it. -/
abbrev tbM : Memref sig .tc .smem S64 .i32 := Memref.whole main_arg0
abbrev htbM : tbM.IsWhole := Memref.isWhole_whole _

/-- The contents of a table's buffer on core `c`. -/
abbrev TbBuf (c : Dev nD) {S : Shape} {e : EltTy} (M : Memref sig .tc .smem S e) : Type := Buf (Elt F) (M.view.loc (c : Thread nD τ))
/-- A table's buffer held for reading at the half share the region hands the body. -/
abbrev tbPt (c : Dev nD) {S : Shape} {e : EltTy} (M : Memref sig .tc .smem S e) (f : TbBuf (F := F) c M) : sProp 𝕄 :=
  M.view.loc (c : Thread nD τ) ↦{fullShare.right} f

/-- The word the body reads off the table at grid coordinates `i`: its batch's and query tile's first live key tile. -/
abbrev wordAt {c : Dev nD} (xt : TbBuf (F := F) c tbM) (i : grid0.Coords) : Elt F .i32 :=
  tbM.view.readAt (Elt F) (Rect.unit (s := S64) (k0_off1 i) S1.size (k0_off1_inb i)).toLoadRect xt (Shape.Idx.first (numel1_S1.symm ▸ Nat.one_pos))

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- @main is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents at the launch (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents of it are admissible. -/
theorem ok : ok0 (F := F) (tbl m) := by first | trivial | exact ⟨⟩ | decide
abbrev adm : (pcfg0 (F := F)).Adm := ⟨tbl m, ok m⟩
abbrev cfgM : Pipeline.Cfg sig Λ₀ := cfg0 (adm m)

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! An input window's staging buffer holds its block at every point, for any proof data over these arrays whose body
    leaves the block in place. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post off the run's: each argument array is an input array or no array of the pipeline. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_arg0 (by decide : main_arg0 ∈ Pipeline.restRefs sig spec0),
      ((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2))⟩) h

/-! Each window's staging memref at point `t`, and its wholeness. -/
abbrev ms0 (t : Fin (cfgM m).N) : Memref sig .tc .vmem S1x2x1024x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2x8192x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x128x8192 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1024x128 .bf16 := spec0_3.stage ((cfgM m).slots t 3)
abbrev hs3 (t : Fin (cfgM m).N) : (ms3 m t).IsWhole := hstage0_3 (((cfgM m).slots t 3).cast nbuf0_3)

/-- The side condition the body assumes of the table's words, at every point. -/
def Hyps : Prop := ∀ (c : Dev nD) (t : Fin (cfgM m).N), k0_chk1 (grid0.coords t) (wordAt (c := c) (tbl m 0) (grid0.coords t))

end Cert.KernelIdeal.Fox

end
-- ==== Proof.Body.lean ====
/- The kernel's body up to the diagonal: the sums over the live key tiles below the query tile, as the body's own run
   leaves them: zero to three single chunks of 256 keys, then the counted loop of four chunks a trip. -/
module

public import proofs.«01_k».proof.Proof.Setup

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- What the body carries: for each of the pair's two heads, the running denominators and the running weighted values. -/
abbrev St (F : FTy → Type) : Type := FVec F S1x1024 .f32 × FVec F S128x1024 .f32 × FVec F S1x1024 .f32 × FVec F S128x1024 .f32

/-- One chunk of 256 keys added to the state: both heads' scores, their powers of two summed and weighted with the values. -/
def chunk (q0 q1 : Vec F S1x1x1024x128 .bf16) (k0 k1 : Vec F S1x1x256x128 .bf16) (v : Vec F S1x128x256 .bf16) (st : St F) : St F :=
  (k0_pay9 st.1 (k0_pay2 k0 q0), k0_pay10 st.2.1 (k0_pay2 k0 q0) v,
   k0_pay9 st.2.2.1 (k0_pay2 k1 q1), k0_pay10 st.2.2.2 (k0_pay2 k1 q1) v)

/-- The state before any key: zeros. -/
def zeroSt : St F := (k0_pay98 (F := F), k0_pay99 (F := F), k0_pay100 (F := F), k0_pay101 (F := F))

section
variable (arg4 : Memref sig .tc .vmem S1x2x1024x128 .bf16) (arg5 : Memref sig .tc .vmem S1x2x8192x128 .bf16) (arg6 : Memref sig .tc .vmem S1x128x8192 .bf16)
  (X4 : BufTy.Contents (Elt F) arg4.view.ty) (X5 : BufTy.Contents (Elt F) arg5.view.ty) (X6 : BufTy.Contents (Elt F) arg6.view.ty)

/-- The queries of the pair's first and second head. -/
def rdQ0 : Vec F S1x1x1024x128 .bf16 :=
  arg4.view.readAt (Elt F) (Rect.unit (s := S1x2x1024x128) ![0, 0, 0, 0] S1x1x1024x128.size inb_S1x2x1024x128_S1x1x1024x128_0_0_0_0).toLoadRect X4
def rdQ1 : Vec F S1x1x1024x128 .bf16 :=
  arg4.view.readAt (Elt F) (Rect.unit (s := S1x2x1024x128) ![0, 1, 0, 0] S1x1x1024x128.size inb_S1x2x1024x128_S1x1x1024x128_0_1_0_0).toLoadRect X4
/-- 256 keys of one head at an offset. -/
def rdK (off : Fin 4 → ℕ) (h : ∀ a, off a + S1x1x256x128.size a ≤ S1x2x8192x128.size a) : Vec F S1x1x256x128 .bf16 :=
  arg5.view.readAt (Elt F) (Rect.unit (s := S1x2x8192x128) off S1x1x256x128.size h).toLoadRect X5
/-- 256 keys' values of the pair at an offset. -/
def rdV (off : Fin 3 → ℕ) (h : ∀ a, off a + S1x128x256.size a ≤ S1x128x8192.size a) : Vec F S1x128x256 .bf16 :=
  arg6.view.readAt (Elt F) (Rect.unit (s := S1x128x8192) off S1x128x256.size h).toLoadRect X6

/-- The single chunks before the loop: the remainder of the live tiles by four. -/
def narrow (i : grid0.Coords) (w : BitVec 32) (hw : k0_chk1 i w) : St F :=
  if h1 : k0_cond1 i w = 1#1 then
    if h2 : k0_cond2 i w = 1#1 then
      if h3 : k0_cond3 i w = 1#1 then
        chunk (rdQ0 arg4 X4) (rdQ1 arg4 X4) (rdK arg5 X5 _ (k0_off2_inb i w hw h1 h2 h3 2)) (rdK arg5 X5 _ (k0_off3_inb i w hw h1 h2 h3 2)) (rdV arg6 X6 _ (k0_off4_inb i w hw h1 h2 h3 2))
        (chunk (rdQ0 arg4 X4) (rdQ1 arg4 X4) (rdK arg5 X5 _ (k0_off2_inb i w hw h1 h2 h3 1)) (rdK arg5 X5 _ (k0_off3_inb i w hw h1 h2 h3 1)) (rdV arg6 X6 _ (k0_off4_inb i w hw h1 h2 h3 1))
        (chunk (rdQ0 arg4 X4) (rdQ1 arg4 X4) (rdK arg5 X5 _ (k0_off2_inb i w hw h1 h2 h3 0)) (rdK arg5 X5 _ (k0_off3_inb i w hw h1 h2 h3 0)) (rdV arg6 X6 _ (k0_off4_inb i w hw h1 h2 h3 0)) zeroSt))
      else
        chunk (rdQ0 arg4 X4) (rdQ1 arg4 X4) (rdK arg5 X5 _ (k0_off5_inb i w hw h1 h2 h3 1)) (rdK arg5 X5 _ (k0_off6_inb i w hw h1 h2 h3 1)) (rdV arg6 X6 _ (k0_off7_inb i w hw h1 h2 h3 1))
        (chunk (rdQ0 arg4 X4) (rdQ1 arg4 X4) (rdK arg5 X5 _ (k0_off5_inb i w hw h1 h2 h3 0)) (rdK arg5 X5 _ (k0_off6_inb i w hw h1 h2 h3 0)) (rdV arg6 X6 _ (k0_off7_inb i w hw h1 h2 h3 0)) zeroSt)
    else
      chunk (rdQ0 arg4 X4) (rdQ1 arg4 X4) (rdK arg5 X5 _ (k0_off8_inb i w hw h1 h2)) (rdK arg5 X5 _ (k0_off9_inb i w hw h1 h2)) (rdV arg6 X6 _ (k0_off10_inb i w hw h1 h2)) zeroSt
  else zeroSt

end

/-- The words the body computes of the table's word: the loop's first key, and the loop's trip count. -/
def startKey (i : grid0.Coords) (w : BitVec 32) : BitVec 32 :=
  Scalar.muli (Scalar.addi w (Scalar.remsi (Scalar.subi (Scalar.muli (BitVec.ofNat 32 (i 2).val) 4#32) w) 4#32)) 256#32
def tripWord (i : grid0.Coords) (w : BitVec 32) : BitVec 32 :=
  Scalar.addi 0#32 (Scalar.muli (Scalar.divsi (Scalar.subi (Scalar.divsi (Scalar.subi (Scalar.muli (BitVec.ofNat 32 (i 2).val) 4#32) w) 4#32) 0#32) 1#32) 1#32)

section
variable (c : Dev nD) (i : grid0.Coords)
  (arg4 : Memref sig .tc .vmem S1x2x1024x128 .bf16) (harg4 : arg4.IsWhole) (arg5 : Memref sig .tc .vmem S1x2x8192x128 .bf16) (harg5 : arg5.IsWhole)
  (arg6 : Memref sig .tc .vmem S1x128x8192 .bf16) (harg6 : arg6.IsWhole) (arg7 : Memref sig .tc .vmem S1x1024x128 .bf16) (harg7 : arg7.IsWhole)
  (X4 : BufTy.Contents (Elt F) arg4.view.ty) (X5 : BufTy.Contents (Elt F) arg5.view.ty) (X6 : BufTy.Contents (Elt F) arg6.view.ty)

/-- The state before the diagonal: the chunks, then both loops. -/
def before (w : BitVec 32) (hw : k0_chk1 i w) : St F :=
  st_k0_t2 Variants.none c none i tbM htbM arg4 harg4 arg5 harg5 arg6 harg6 arg7 harg7 w hw (startKey i w) (tripWord i w) X4 X5 X6
    (st_k0_t1 Variants.none c none i tbM htbM arg4 harg4 arg5 harg5 arg6 harg6 arg7 harg7 w hw (startKey i w) X4 X5 X6
      (narrow arg4 arg5 arg6 X4 X5 X6 i w hw) (k0_t1_loop i w).trips) (k0_t2_loop i w).trips

/-- What the part before the diagonal returns. -/
def beforeRet (w : BitVec 32) (hw : k0_chk1 i w) :
    Σ' (v30_0 : FVec F S1x1024 .f32) (v30_1 : FVec F S128x1024 .f32) (v30_2 : FVec F S1x1024 .f32) (v30_3 : FVec F S128x1024 .f32) (v32 : BitVec 32), BitVec 32 :=
  let s := before c i arg4 harg4 arg5 harg5 arg6 harg6 arg7 harg7 X4 X5 X6 w hw
  ⟨s.1, s.2.1, s.2.2.1, s.2.2.2, Scalar.muli (BitVec.ofNat 32 (i 2).val) 1024#32, Scalar.addi (Scalar.muli (BitVec.ofNat 32 (i 2).val) 1024#32) 0#32⟩

/-- The buffers the part reads, held. -/
def Held (xt : TbBuf (F := F) c tbM) : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ tbPt c tbM xt)

set_option maxHeartbeats 4000000 in
/-- The part before the diagonal runs, keeps what it reads, and returns `beforeRet`. -/
theorem before_wp (xt : TbBuf (F := F) c tbM) (hw : k0_chk1 i (wordAt xt i)) (E : Set ℕ) :
    Held c arg4 arg5 arg6 X4 X5 X6 xt
      ⊢ wp frame (wpE (defs₀ (F := F)) Variants.none c none) E (k0_part15 i tbM htbM arg4 harg4 arg5 harg5 arg6 harg6 arg7 harg7)
          (fun r => iprop(⌜r = beforeRet c i arg4 harg4 arg5 harg5 arg6 harg6 arg7 harg7 X4 X5 X6 (wordAt xt i) hw⌝ ∗ Held c arg4 arg5 arg6 X4 X5 X6 xt)) := by
  rw [k0_part15_eq_skeleton]; unfold k0_part15_skel Held beforeRet before
  by_cases h1 : k0_cond1 i (wordAt xt i) = 1#1
  · by_cases h2 : k0_cond2 i (wordAt xt i) = 1#1
    · by_cases h3 : k0_cond3 i (wordAt xt i) = 1#1
      · rw [narrow, dif_pos h1, dif_pos h2, dif_pos h3]
        iintro ⟨H0, H1, H2, HT⟩
        sl_exec (disch := first | sl_exact hw)
        sl_step
        sl_close
      · rw [narrow, dif_pos h1, dif_pos h2, dif_neg h3]
        iintro ⟨H0, H1, H2, HT⟩
        sl_exec (disch := first | sl_exact hw)
        sl_step
        sl_close
    · rw [narrow, dif_pos h1, dif_neg h2]
      iintro ⟨H0, H1, H2, HT⟩
      sl_exec (disch := first | sl_exact hw)
      sl_step
      sl_close
  · rw [narrow, dif_neg h1]
    iintro ⟨H0, H1, H2, HT⟩
    sl_exec (disch := first | sl_exact hw)
    sl_step
    sl_close

end

end Cert.KernelIdeal.Fox

end
-- ==== Proof.Run.lean ====
/- The kernel's whole body at a grid point: after the state before the diagonal, the four masked chunks of the query
   tile's own keys, the division, and the one store that covers the output block. -/
module

public import proofs.«01_k».proof.Proof.Body
public import Idealize.ShloMosaic.Lib.VecWindow

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The first three diagonal chunks of one head: chunk `p` reaches the queries from `256 * p` on, under the mask
    "key at or before query". -/
def diag (l : FVec F S1x1024 .f32) (a : FVec F S128x1024 .f32) (q0 : Vec F S1x1x1024x128 .bf16) (q1 : Vec F S1x1x768x128 .bf16) (q2 : Vec F S1x1x512x128 .bf16)
    (k0 k1 k2 : Vec F S1x1x256x128 .bf16) (v0 v1 v2 : Vec F S1x128x256 .bf16) : FVec F S1x1024 .f32 × FVec F S128x1024 .f32 :=
  let l1 := k0_pay126 l (k0_pay118 k0 q0)
  let a1 := k0_pay127 a (k0_pay118 k0 q0) v0
  let l2 := k0_pay135 (k0_pay120 k1 q1) l1
  let a2 := k0_pay136 a1 (k0_pay134 (k0_pay120 k1 q1) a1 v1)
  let e2 := k0_pay142 (k0_pay124 k2 q2)
  (k0_pay143 l2 e2, k0_pay144 a2 (k0_pay141 v2) e2)

/-- The fourth diagonal chunk of both heads, the quotient, and the pair's two halves side by side: the stored block. -/
def finish (d0 d1 : FVec F S1x1024 .f32 × FVec F S128x1024 .f32) (q0 q1 k0 k1 : Vec F S1x1x256x128 .bf16) (v : Vec F S1x128x256 .bf16) : FVec F S1x1024x128 .bf16 :=
  k0_pay1 (k0_pay152 (k0_pay137 k1 q1) d0.1 d0.2 d1.1 d1.2 (k0_pay148 v) (k0_pay149 (k0_pay132 k0 q0))
    (extractStridedSlice S1x256 ![0, 768] d0.1 slices_S1x1024_o0_768_S1x256) (k0_pay151 (k0_pay132 k0 q0)) v)

section
variable (c : Dev nD) (i : grid0.Coords)
  (arg4 : Memref sig .tc .vmem S1x2x1024x128 .bf16) (harg4 : arg4.IsWhole) (arg5 : Memref sig .tc .vmem S1x2x8192x128 .bf16) (harg5 : arg5.IsWhole)
  (arg6 : Memref sig .tc .vmem S1x128x8192 .bf16) (harg6 : arg6.IsWhole) (arg7 : Memref sig .tc .vmem S1x1024x128 .bf16) (harg7 : arg7.IsWhole)

section
variable (X4 : BufTy.Contents (Elt F) arg4.view.ty) (X5 : BufTy.Contents (Elt F) arg5.view.ty) (X6 : BufTy.Contents (Elt F) arg6.view.ty)

/-- The block the body stores, of the state before the diagonal. -/
def outOf (s : St F) : FVec F S1x1024x128 .bf16 :=
  finish
    (diag s.1 s.2.1 (rdQ0 arg4 X4)
      (arg4.view.readAt (Elt F) (Rect.unit (s := S1x2x1024x128) ![0, 0, 256, 0] S1x1x768x128.size inb_S1x2x1024x128_S1x1x768x128_0_0_256_0).toLoadRect X4)
      (arg4.view.readAt (Elt F) (Rect.unit (s := S1x2x1024x128) ![0, 0, 512, 0] S1x1x512x128.size inb_S1x2x1024x128_S1x1x512x128_0_0_512_0).toLoadRect X4)
      (rdK arg5 X5 _ (k0_off17_inb i 0)) (rdK arg5 X5 _ (k0_off17_inb i 1)) (rdK arg5 X5 _ (k0_off17_inb i 2))
      (rdV arg6 X6 _ (k0_off19_inb i 0)) (rdV arg6 X6 _ (k0_off19_inb i 1)) (rdV arg6 X6 _ (k0_off19_inb i 2)))
    (diag s.2.2.1 s.2.2.2 (rdQ1 arg4 X4)
      (arg4.view.readAt (Elt F) (Rect.unit (s := S1x2x1024x128) ![0, 1, 256, 0] S1x1x768x128.size inb_S1x2x1024x128_S1x1x768x128_0_1_256_0).toLoadRect X4)
      (arg4.view.readAt (Elt F) (Rect.unit (s := S1x2x1024x128) ![0, 1, 512, 0] S1x1x512x128.size inb_S1x2x1024x128_S1x1x512x128_0_1_512_0).toLoadRect X4)
      (rdK arg5 X5 _ (k0_off18_inb i 0)) (rdK arg5 X5 _ (k0_off18_inb i 1)) (rdK arg5 X5 _ (k0_off18_inb i 2))
      (rdV arg6 X6 _ (k0_off19_inb i 0)) (rdV arg6 X6 _ (k0_off19_inb i 1)) (rdV arg6 X6 _ (k0_off19_inb i 2)))
    (arg4.view.readAt (Elt F) (Rect.unit (s := S1x2x1024x128) ![0, 0, 768, 0] S1x1x256x128.size inb_S1x2x1024x128_S1x1x256x128_0_0_768_0).toLoadRect X4)
    (arg4.view.readAt (Elt F) (Rect.unit (s := S1x2x1024x128) ![0, 1, 768, 0] S1x1x256x128.size inb_S1x2x1024x128_S1x1x256x128_0_1_768_0).toLoadRect X4)
    (rdK arg5 X5 _ (k0_off17_inb i 3)) (rdK arg5 X5 _ (k0_off18_inb i 3)) (rdV arg6 X6 _ (k0_off19_inb i 3))

/-- The block the body stores. -/
def outBlock (w : BitVec 32) (hw : k0_chk1 i w) : FVec F S1x1024x128 .bf16 :=
  outOf i arg4 arg5 arg6 X4 X5 X6 (before c i arg4 harg4 arg5 harg5 arg6 harg6 arg7 harg7 X4 X5 X6 w hw)
end

set_option maxHeartbeats 4000000 in
/-- The body on whole staging memrefs: the inputs stay, the output block ends at `outBlock`. -/
theorem run (x0 : Vec F S1x2x1024x128 .bf16) (x1 : Vec F S1x2x8192x128 .bf16) (x2 : Vec F S1x128x8192 .bf16)
    (xt : TbBuf (F := F) c tbM) (hw : k0_chk1 i (wordAt xt i)) (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ tbPt c tbM xt
        ∗ (iprop(owns (c : Thread nD τ) arg4 fullShare x0 ∗ owns (c : Thread nD τ) arg5 fullShare x1 ∗ owns (c : Thread nD τ) arg6 fullShare x2
          ∗ owns (c : Thread nD τ) arg7 fullShare (outBlock c i arg4 harg4 arg5 harg5 arg6 harg6 arg7 harg7 (harg4.unread x0) (harg5.unread x1) (harg6.unread x2) (wordAt xt i) hw)
          ∗ tbPt c tbM xt) -∗ K ⟨⟩))
      ⊢ wp frame (wpE (defs₀ (F := F)) Variants.none c none) E (cc0_fox i tbM htbM arg4 harg4 arg5 harg5 arg6 harg6 arg7 harg7) K := by
  simp only [cc0_fox_eq_skeleton]; unfold cc0_fox_skel
  rw [k0_part21_eq_skeleton]; unfold k0_part21_skel
  unfold owns
  iintro ⟨⟨%f0, %hf0, H0⟩, ⟨%f1, %hf1, H1⟩, ⟨%f2, %hf2, H2⟩, ⟨%d3, %f3, -, H3⟩, HT, Hk⟩
  obtain rfl := harg4.eq_unread hf0; obtain rfl := harg5.eq_unread hf1; obtain rfl := harg6.eq_unread hf2
  simp only [bind_assoc]
  rw [wp_bind]
  iapply (wp_wand_r Idealize.ShloMosaic.frame (wpE (defs₀ (F := F)) Variants.none c none) E)
  isplitl [H0 H1 H2 HT]
  · iapply (before_wp c i arg4 harg4 arg5 harg5 arg6 harg6 arg7 harg7 (harg4.unread x0) (harg5.unread x1) (harg6.unread x2) xt hw E)
    unfold Held
    isplitl [H0]; · iexact H0
    isplitl [H1]; · iexact H1
    isplitl [H2]; · iexact H2
    iexact HT
  iintro %r ⟨%hr, HH⟩
  subst hr
  unfold Held
  icases HH with ⟨H0, H1, H2, HT⟩
  unfold beforeRet
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    refine (View.read_writes_full (s := S1x1024x128) arg7.view f3 inb_S1x1024x128_S1x1024x128_0_0_0 _ []).trans ?_
    rfl
  iexact HT

end

end Cert.KernelIdeal.Fox

end
-- ==== Proof.Frame.lean ====
/- The run of the attention kernel at any values, under the side condition of the table's words: it terminates, leaves
   its arguments alone and its counters at zero, and leaves in the result array the blocks the body stores. -/
module

public import proofs.«01_k».proof.Proof.Run
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block after the body at point `t`. -/
def outAt (hH : Hyps m) (c : Dev nD) (t : Fin (cfgM m).N) : Vec F S1x1024x128 .bf16 :=
  outBlock c (grid0.coords t) (ms0 m t) (hs0 m t) (ms1 m t) (hs1 m t) (ms2 m t) (hs2 m t) (ms3 m t) (hs3 m t)
    ((hs0 m t).unread (iblk m c 0 t)) ((hs1 m t).unread (iblk m c 1 t)) ((hs2 m t).unread (iblk m c 2 t)) (wordAt (c := c) (tbl m 0) (grid0.coords t)) (hH c t)

/-- The pipeline's proof data: the inputs' blocks stay, the output's block ends at `outAt`; nothing is owed, and the
    table's half passes through. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hH c t
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after_0 (hH : Hyps m) (c : Dev nD) (t : Fin (cfgM m).N) : (dats m hH 0 c).after 0 t = iblk m c 0 t := by dsimp only [dats]; try rfl
theorem after_1 (hH : Hyps m) (c : Dev nD) (t : Fin (cfgM m).N) : (dats m hH 0 c).after 1 t = iblk m c 1 t := by dsimp only [dats]; try rfl
theorem after_2 (hH : Hyps m) (c : Dev nD) (t : Fin (cfgM m).N) : (dats m hH 0 c).after 2 t = iblk m c 2 t := by dsimp only [dats]; try rfl
theorem after_3 (hH : Hyps m) (c : Dev nD) (t : Fin (cfgM m).N) : (dats m hH 0 c).after 3 t = outAt m hH c t := by dsimp only [dats]; try rfl

theorem before_0 (hH : Hyps m) (c : Dev nD) (t : Fin (cfgM m).N) (d) : (dats m hH 0 c).before 0 t d = iblk m c 0 t :=
  before_0_of m (dats m hH 0 c) (A_eq m hH c 0) (after_0 m hH c) t d
theorem before_1 (hH : Hyps m) (c : Dev nD) (t : Fin (cfgM m).N) (d) : (dats m hH 0 c).before 1 t d = iblk m c 1 t :=
  before_1_of m (dats m hH 0 c) (A_eq m hH c 1) (after_1 m hH c) t d
theorem before_2 (hH : Hyps m) (c : Dev nD) (t : Fin (cfgM m).N) (d) : (dats m hH 0 c).before 2 t d = iblk m c 2 t :=
  before_2_of m (dats m hH 0 c) (A_eq m hH c 2) (after_2 m hH c) t d

/-- What the body is called with at point `t`, window by window, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t))

theorem sound_body (hH : Hyps m) (c : Dev nD) (t : Fin (cfgM m).N) :
    bodyPre m hH c t ⊢ wp frame (wpE (defs₀ (F := F)) Variants.none c none) Set.univ (bodyAt (adm m) t) (fun _ => bodyPost m hH c t) := by
  unfold bodyPre bodyPost bodyAt
  simp only [before_0, before_1, before_2]
  rw [show (dats m hH 0 c).Φ t.succ = (dats m hH 0 c).Φ t.castSucc from rfl,
    show (dats m hH 0 c).owesAt () t.succ = (dats m hH 0 c).owesAt () t.castSucc from rfl,
    after_0, after_1, after_2, after_3]
  rw [show (dats m hH 0 c).Φ t.castSucc = iprop(Pipeline.ΦA spec0 c ∗ Pipeline.ΦT pre0 (tbl m) c) from rfl, PhiT_eq]
  unfold outAt
  iintro ⟨⟨HΦ, HT⟩, Ho, ⟨%d0, H0⟩, ⟨%d1, H1⟩, ⟨%d2, H2⟩, ⟨%d3, H3⟩⟩
  iapply (run c (grid0.coords t) (ms0 m t) (hs0 m t) (ms1 m t) (hs1 m t) (ms2 m t) (hs2 m t) (ms3 m t) (hs3 m t) (iblk m c 0 t) (iblk m c 1 t) (iblk m c 2 t) (tbl m 0) (hH c t) Set.univ _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]
    · iexact HΦ
    iexact HT
  isplitl [Ho]; · iexact Ho
  isplitl [H0]; · iexact H0
  isplitl [H1]; · iexact H1
  isplitl [H2]; · iexact H2
  iexact H3

theorem defs₀_row (t : Fin (cfgM m).N) :
    defs₀ (F := F) .tc (cfgM m).body ((cfgM m).bodyArgs t ((cfgM m).slots t)) = bodyAt (adm m) t := by
  unfold defs₀; rw [Defs.onTc_tc]

theorem body_obligation (hH : Hyps m) (c : Dev nD) : BodyObligation (dats (F := F) m hH 0 c) (defs₀ (F := F)) Variants.none () Set.univ := fun t => by
  rw [bigSep_W0, bigSep_W0, defs₀_row m]
  exact triple_restated (sound_body m hH c t) rfl .rfl fun _ => .rfl

set_option backward.isDefEq.respectTransparency.types false in
theorem run_main_quiescent (hH : Hyps m) : θ_run defs (onTc (τ := τ) (main (F := F))) (s₀ m ρ) (fun r => (Pipeline.FramePost (Pipeline.pin pcfgs fun _ => adm m) (dats m hH) 0 (V m)) r ∧ r.2.sem = fun _ => 0) :=
  Pipeline.θ_run_frameP (Q' := _) pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

theorem run_main (hH : Hyps m) : θ_run defs (onTc (τ := τ) (main (F := F))) (s₀ m ρ) (Pipeline.FramePost (Pipeline.pin pcfgs fun _ => adm m) (dats m hH) 0 (V m)) :=
  (θ_run defs _ _).mono (fun _ h => h.1) (run_main_quiescent m ρ hH)

theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hH) (A_eq m hH) (run_main m ρ hH)

/-- The frame claim at any values. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hH) ((θ_run defs _ _).mono (fun _ h => h.2) (run_main_quiescent m ρ hH))

end Cert.KernelIdeal.Fox

end
-- ==== Proof.Words.lean ====
/- The words the body computes of the table's word, for a word between 0 and four times the query tile: the side
   condition it assumes, and the places it loads. -/
module

public import proofs.«01_k».proof.Proof.Setup

@[expose] public section

set_option maxRecDepth 16384

namespace Cert.KernelIdeal.Fox

open Idealize.ShloMosaic Idealize.ShloMosaic.TcCoe
open Cert.KernelIdeal.Gen

/-- A grid point with query tile `q`: the words read of a point depend on this coordinate alone. -/
def pt (q : Fin 8) : grid0.Coords := fun a => match a with
  | ⟨0, _⟩ => (0 : Fin 2)
  | ⟨1, _⟩ => (0 : Fin 4)
  | ⟨2, _⟩ => q

theorem chk_all : ∀ q : Fin 8, ∀ w : Fin 29, w.val ≤ 4 * q.val → k0_chk1 (pt q) (BitVec.ofNat 32 w.val) := by
  decide +kernel

/-- The side condition the body assumes, from the word's range. -/
theorem chk_of (i : grid0.Coords) (w : BitVec 32) (h : w.toNat ≤ 4 * (i 2).val) : k0_chk1 i w := by
  have h8 : (i 2).val < 8 := (i 2).isLt
  have := chk_all (i 2) ⟨w.toNat, by omega⟩ h
  rwa [show BitVec.ofNat 32 (⟨w.toNat, by omega⟩ : Fin 29).val = w from BitVec.ofNat_toNat ..] at this

end Cert.KernelIdeal.Fox
-- ==== Proof.Range.lean ====
/- The range of the first-tile table, read off the printed precondition, and the side condition of the attention kernel it gives. -/
module

public import proofs.«01_k».proof.Proof.Words
public import proofs.«01_k».proof.Defs
public import proofs.«01_k».proof.Proof.Gen.Pre_in_range
public import Idealize.ShloMosaic.Lib.StableHlo.Predicate

@[expose] public section

set_option maxRecDepth 16384

namespace Cert.KernelIdeal.Fox

open Idealize.ShloMosaic Idealize.ShloMosaic.TcCoe Idealize.SL.Sem
open Cert.KernelIdeal.Gen

variable {F : FTy → Type} [FloatOps F]

/-- The bound the precondition compares the table's words with: four times the query tile. -/
def lim (F : FTy → Type) [FloatOps F] : IVec S64 32 :=
  muli (Cert.Pre_in_range.fn_remainder (F := F) (iotaInDim S64 32 0) (constantI Cert.Pre_in_range.S_ 32 8#32)) (broadcastInDim S64 ![] Cert.Pre_in_range.Gen.bcast_S_S64 (constantI Cert.Pre_in_range.S_ 32 4#32))

theorem lim_bits : ∀ j : Fin 64, lim Bits (fun a => match a with | ⟨0, _⟩ => j) = BitVec.ofNat 32 (4 * (j.val % 8)) := by
  decide +kernel

theorem lim_apply (x : S64.Idx) : lim F x = BitVec.ofNat 32 (4 * ((x 0).val % 8)) := by
  have hx : x = fun a => match a with | ⟨0, _⟩ => x 0 := by funext a; match a with | ⟨0, _⟩ => rfl
  have h : lim F x = lim Bits x := rfl
  rw [h]; conv_lhs => rw [hx]
  exact lim_bits (x 0)

/-- A word between 0 and four times the tile, signed, is so unsigned. -/
theorem word_le {x : BitVec 32} {q : ℕ} (hq : q < 8)
    (h : (IntOp.cmpi .sge x 0#32) &&& (IntOp.cmpi .sle x (BitVec.ofNat 32 (4 * q))) = 1#1) : x.toNat ≤ 4 * q := by
  have key : ∀ a b : BitVec 1, a &&& b = 1#1 → a = 1#1 ∧ b = 1#1 := by decide
  obtain ⟨h1, h2⟩ := key _ _ h
  have e1 : (0#32).sle x = true := (StableHlo.Predicate.ofBool_eq_one_iff _).1 h1
  have e2 : x.sle (BitVec.ofNat 32 (4 * q)) = true := (StableHlo.Predicate.ofBool_eq_one_iff _).1 h2
  rw [BitVec.sle_iff_toInt_le] at e1 e2
  rw [StableHlo.Predicate.toInt_ofNat_small _ (by omega)] at e2
  have e3 : (0#32).toInt = 0 := by decide
  rw [e3] at e1
  rw [BitVec.toInt_eq_toNat_cond] at e1 e2
  split at e1 <;> omega

theorem range_of (x : IVec S64 32) (q k v) (h : Cert.Pre_in_range.fn (F := F) x q k v = fun _ => 1#1) (j : S64.Idx) :
    (x j).toNat ≤ 4 * ((j 0).val % 8) := by
  have e := congrFun h j
  refine word_le (Nat.mod_lt _ (by omega)) ?_
  rw [← lim_apply (F := F) j]
  simp only [Cert.Pre_in_range.fn, andi, cmpi, IntOp.andi] at e
  exact e

/-- The table's cell the body reads at grid coordinates `i`. -/
def cell (i : grid0.Coords) : S64.Idx := fun a => ⟨32 * (i 0).val + 8 * (i 1).val + (i 2).val, by
  have h0 : (i 0).val < 2 := (i 0).isLt
  have h1 : (i 1).val < 4 := (i 1).isLt
  have h2 : (i 2).val < 8 := (i 2).isLt
  obtain rfl : a = 0 := Subsingleton.elim _ _
  show _ < 64; omega⟩

variable [Named F]

theorem wordAt_eq {c : Dev nD} (xt : TbBuf (F := F) c tbM) (i : grid0.Coords) : wordAt xt i = xt (cell i) := by
  unfold wordAt
  rw [View.readAt_apply]
  refine congrArg xt ?_
  funext a
  match a with
  | ⟨0, _⟩ =>
  apply Fin.ext
  have := congrFun (k0_off1_eq i) 0
  show k0_off1 i 0 + 1 * 0 = _
  rw [this]; rfl

theorem word_range {c : Dev nD} (xt : TbBuf (F := F) c tbM) (h : ∀ j : S64.Idx, (show BitVec 32 from xt j).toNat ≤ 4 * ((j 0).val % 8)) (i : grid0.Coords) :
    (show BitVec 32 from wordAt xt i).toNat ≤ 4 * (i 2).val := by
  have h2 : (i 2).val < 8 := (i 2).isLt
  rw [wordAt_eq]
  have := h (cell i)
  have e : ((cell i) 0).val = 32 * (i 0).val + 8 * (i 1).val + (i 2).val := rfl
  rw [e] at this
  omega

variable (m : (ℓ : Loc nD τ sig) → Buf (Elt F) ℓ)

/-- The side condition at every point, from the table's range. -/
theorem hyps_of (h : ∀ j : S64.Idx, (show BitVec 32 from m (((0 : Dev nD).tc : Thread nD τ).loc main_arg0) j).toNat ≤ 4 * ((j 0).val % 8)) : Hyps m :=
  fun c t => chk_of _ _ (word_range (c := c) (tbl m 0) h _)

end Cert.KernelIdeal.Fox
-- ==== Proof.Same.lean ====
/- The kernel as written is the idealized one with its named constant read as the word it was written with: so its
   frame is the idealized program's at the bit-exact values. -/
module

public import proofs.«01_k».proof.Proof.Frame
public import proofs.«01_k».proof.Proof.Range
public import proofs.«01_k».proof.Proof.Gen.Kernel

@[expose] public section

set_option maxRecDepth 65536

noncomputable section

namespace Cert.KernelIdeal.Fox

open Idealize.ShloMosaic Idealize.ShloMosaic.TcCoe Idealize.SL.Sem

/-- At the bit-exact values a named constant is the word it was written with. -/
@[reducible] def namedBits : Named Bits := ⟨fun _ _ {φ} bits => Scalar.ofBits φ bits⟩

theorem bodies_same : letI := namedBits; Cert.Kernel.defs₀ (F := Bits) = Cert.KernelIdeal.defs₀ (F := Bits) := by
  letI := namedBits
  refine congrArg (Defs.onTc (nD := nD) (τ := τ) (sig := sig) (Val := Elt Bits) (Λ := Λ₀)) ?_
  funext l a
  match l, a with
  | ⟨0, _⟩, (t, s) => rfl
  | ⟨_ + 1, h⟩, _ => exact absurd h (Nat.not_lt.2 (Nat.le_add_left _ _))

theorem defs_same : letI := namedBits; Cert.Kernel.defs (F := Bits) = Cert.KernelIdeal.defs (F := Bits) := by
  letI := namedBits
  exact congrArg (Pipeline.defs (KernelIdeal.pcfgs (F := Bits))) bodies_same

/-- The frame over any body table equal to the idealized program's. -/
theorem frame_at (D : letI := namedBits; Defs nD τ sig (Elt Bits) (Pipeline.Sig Λ₀ (Fin 1) fun p => (pcfgs (F := Bits) p).Adm))
    (hD : letI := namedBits; D = defs (F := Bits)) (m : (ℓ : Loc nD τ sig) → Buf (Elt Bits) ℓ) (ρ : Dev nD → PrngReg) (hH : letI := namedBits; Hyps m) :
    letI := namedBits
    θ_run D (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  subst hD
  letI := namedBits
  exact frame m ρ hH

set_option maxHeartbeats 4000000 in
theorem frame_kernel : Cert.quiescent_Kernel (hKernel := Cert.Kernel.Gen.facts) (hPre_in_range := Cert.Pre_in_range.Gen.facts) := by
  intro m g hp
  letI := namedBits
  exact frame_at (Cert.Kernel.defs (F := Bits)) defs_same m g (hyps_of m fun j => range_of (F := Bits) _ _ _ _ (hp 0) j)

theorem frame_ideal : Cert.quiescent_KernelIdeal (hKernelIdeal := Cert.KernelIdeal.Gen.facts) (hPre_in_range := Cert.Pre_in_range.Gen.facts) :=
  fun m g hp => frame (F := Ideal) m g (hyps_of m fun j => range_of (F := Ideal) _ _ _ _ (hp 0) j)

end Cert.KernelIdeal.Fox

end
-- ==== Proof.Ref.lean ====
/- The reference's frame: it runs, keeps its arguments and declares no semaphore. -/
module

public import proofs.«01_k».proof.Defs
public import proofs.«01_k».proof.Proof.Gen.ReferenceIdeal.Run
public import Idealize.ShloMosaic.Lib.Quiescent

@[expose] public section

noncomputable section

namespace Cert.ReferenceIdeal.Attn

open Idealize.ShloMosaic Idealize.SL.Sem

variable {F : FTy → Type} [FloatOps F] [Named F]

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

theorem frame_all : Cert.quiescent_ReferenceIdeal (hReferenceIdeal := Cert.ReferenceIdeal.Gen.facts) :=
  fun m g _ => frame (F := Ideal) m g

end Cert.ReferenceIdeal.Attn

end
-- ==== Proof.Finite.lean ====
/- The frames under the algebraic claim's precondition, which also asks finite queries and keys. -/
module

public import proofs.«01_k».proof.Proof.Same
public import proofs.«01_k».proof.Proof.Ref
public import proofs.«01_k».proof.Proof.Gen.Pre_in_range_finite

@[expose] public section

noncomputable section

namespace Cert.KernelIdeal.Fox

open Idealize.ShloMosaic Idealize.ShloMosaic.TcCoe Idealize.SL.Sem
open Cert.KernelIdeal.Gen

theorem range_of_finite {F : FTy → Type} [FloatOps F] (x : IVec S64 32) (q k v) (h : (Cert.Pre_in_range_finite.fn (F := F) x q k v).1 = fun _ => 1#1) (j : S64.Idx) :
    (x j).toNat ≤ 4 * ((j 0).val % 8) :=
  range_of (F := F) x q k v h j

theorem frame_ideal_finite : Cert.quiescent_KernelIdeal_pre_in_range_finite (hKernelIdeal := Cert.KernelIdeal.Gen.facts)
    (hPre_in_range_finite := Cert.Pre_in_range_finite.Gen.facts) :=
  fun m g hp => frame (F := Ideal) m g (hyps_of m fun j => range_of_finite (F := Ideal) _ _ _ _ (hp 0).1 j)

theorem frame_ref_finite : Cert.quiescent_ReferenceIdeal_pre_in_range_finite (hReferenceIdeal := Cert.ReferenceIdeal.Gen.facts)
    (hPre_in_range_finite := Cert.Pre_in_range_finite.Gen.facts) :=
  fun m g _ => Cert.ReferenceIdeal.Attn.frame (F := Ideal) m g

end Cert.KernelIdeal.Fox

end
-- ==== Proof.Pay.lean ====
/- The kernel's block computations over the extended reals, read at an index: a head's running sums over keys, grown by
   one chunk of 256 keys, plainly below the query tile and under the causal mask on it. -/
module

public import proofs.«01_k».proof.Proof.Run
public import Idealize.ShloMosaic.Lib.Pointwise

@[expose] public section

set_option maxRecDepth 16384

noncomputable section

namespace Cert.KernelIdeal.Fox

open Idealize.ShloMosaic Idealize.ShloMosaic.TcCoe
open Cert.KernelIdeal.Gen

/-- The weight of key `n` for a query: two to the power of their product. -/
def pw (k : ℕ → Fin 128 → EReal) (q : Fin 128 → EReal) (n : ℕ) : EReal := Ideal.exp2 (∑ d, k n d * q d)

/-- One head's running sums `l`, `a` are the sums of the weights, and of the weighted values, over the keys from `lo` to
    before `hi x` for query `x`. -/
structure Sums (l : FVec Ideal S1x1024 .f32) (a : FVec Ideal S128x1024 .f32) (q k : ℕ → Fin 128 → EReal) (v : Fin 128 → ℕ → EReal)
    (lo : ℕ) (hi : ℕ → ℕ) : Prop where
  den : ∀ x : Fin 1024, l (ix2 0 x) = ∑ n ∈ Finset.Ico lo (hi x), pw k (q x) n
  num : ∀ (f : Fin 128) (x : Fin 1024), a (ix2 f x) = ∑ n ∈ Finset.Ico lo (hi x), v f n * pw k (q x) n

theorem sum_chunk (g : ℕ → EReal) {lo b : ℕ} (h : lo ≤ b) :
    (∑ n ∈ Finset.Ico lo b, g n) + ∑ y : Fin 256, g (b + y) = ∑ n ∈ Finset.Ico lo (b + 256), g n := by
  rw [← Finset.sum_Ico_consecutive g h (Nat.le_add_right b 256), Finset.sum_Ico_eq_sum_range (m := b), Nat.add_sub_cancel_left,
    Finset.sum_range]

/-- The keys at or before a query, of a chunk. -/
theorem sum_causal (g : ℕ → EReal) (b z : ℕ) :
    ∑ y : Fin 256, (if y.val ≤ z then g (b + y) else 0) = ∑ n ∈ Finset.Ico b (b + min (z + 1) 256), g n := by
  rw [Finset.sum_Ico_eq_sum_range, Nat.add_sub_cancel_left, ← Finset.sum_range (n := 256) fun y => if y ≤ z then g (b + y) else 0,
    ← Finset.sum_filter]
  congr 1
  ext y
  simp only [Finset.mem_filter, Finset.mem_range]
  omega

/-- A masked chunk extends the keys before `min (x + 1) c` of the tile to those before `min (x + 1) (c + 256)`. -/
theorem sum_step (g : ℕ → EReal) {lo b c x : ℕ} (h : lo ≤ b) {s : EReal} (hs : s = ∑ n ∈ Finset.Ico lo (b + min (x + 1) c), g n) :
    (if x < c then s else s + ∑ y : Fin 256, (if y.val ≤ x - c then g (b + c + y) else 0))
      = ∑ n ∈ Finset.Ico lo (b + min (x + 1) (c + 256)), g n := by
  split
  · rw [hs, show min (x + 1) (c + 256) = min (x + 1) c by omega]
  · rw [hs, sum_causal g (b + c) (x - c), show min (x + 1) c = c by omega, Finset.sum_Ico_consecutive g (by omega) (by omega),
      show b + c + min (x - c + 1) 256 = b + min (x + 1) (c + 256) by omega]

theorem mask_bot : Named.named (F := Ideal) κ "mask" (φ := .f32) (0xF149F2CA#32) = (⊥ : EReal) :=
  IdealRules.named_const.ideal_named_scalar κ "mask" _ _ rfl

/-- The kernel's power of two of an extended real. -/
theorem exp2_eq (s : EReal) : FloatOps.exp2 (F := Ideal) (φ := .f32) s = Ideal.exp2 s := rfl

/-- A masked weight. -/
theorem masked_nat (y x : ℕ) (hy : y < 2 ^ 31) (hx : x < 2 ^ 31) (s : EReal) :
    Ideal.exp2 (Scalar.select (IntOp.cmpi CmpIPredicate.sle (BitVec.ofNat 32 y) (BitVec.ofNat 32 x)) s (Named.named (F := Ideal) κ "mask" (φ := .f32) 4048155338#32))
      = if y ≤ x then Ideal.exp2 s else 0 := by
  rw [mask_bot, WordCmp.cmpi_sle_ofNat (w := 32) hy hx]
  by_cases h : y ≤ x
  · simp only [h, decide_true, if_true]; rfl
  · simp only [h, decide_false, if_false]; rfl

theorem masked (y : Fin 256) (x : Fin 1024) (s : EReal) :
    Ideal.exp2 (Scalar.select (IntOp.cmpi CmpIPredicate.sle (BitVec.ofNat 32 y.val) (BitVec.ofNat 32 x.val)) s (Named.named (F := Ideal) κ "mask" (φ := .f32) 4048155338#32))
      = if y.val ≤ x.val then Ideal.exp2 s else 0 := masked_nat _ _ (by omega) (by omega) s

theorem masked_sub (y : Fin 256) (x : Fin 1024) (c : ℕ) (s : EReal) :
    Ideal.exp2 (Scalar.select (IntOp.cmpi CmpIPredicate.sle (BitVec.ofNat 32 y.val) (BitVec.ofNat 32 (x.val - c))) s (Named.named (F := Ideal) κ "mask" (φ := .f32) 4048155338#32))
      = if y.val ≤ x.val - c then Ideal.exp2 s else 0 := masked_nat _ _ (by omega) (by omega) s

section
variable {l : FVec Ideal S1x1024 .f32} {a : FVec Ideal S128x1024 .f32} {q k : ℕ → Fin 128 → EReal} {v : Fin 128 → ℕ → EReal} {lo b : ℕ}
  {K : Vec Ideal S1x1x256x128 .bf16} {Vv : Vec Ideal S1x128x256 .bf16}

/-- One chunk below the query tile. -/
theorem Sums.chunk {Q : Vec Ideal S1x1x1024x128 .bf16} (h : Sums l a q k v lo fun _ => b) (hb : lo ≤ b)
    (hQ : ∀ j d, Q (ix4 0 0 j d) = q j d) (hK : ∀ y d, K (ix4 0 0 y d) = k (b + y) d) (hV : ∀ f y, Vv (ix3 0 f y) = v f (b + y)) :
    Sums (k0_pay9 l (k0_pay2 K Q)) (k0_pay10 a (k0_pay2 K Q) Vv) q k v lo fun _ => b + 256 where
  den x := by
    rw [← sum_chunk _ hb, ← h.den x]
    pointwise [k0_pay9, k0_pay8, k0_pay2]
    simp only [hQ, hK, exp2_eq, pw]
  num f x := by
    rw [← sum_chunk _ hb, ← h.num f x]
    pointwise [k0_pay10, k0_pay8, k0_pay2]
    simp only [hQ, hK, hV, exp2_eq, pw]

/-- The first chunk of the tile. -/
theorem Sums.diag0 {Q : Vec Ideal S1x1x1024x128 .bf16} (h : Sums l a q k v lo fun x => b + min (x + 1) 0) (hb : lo ≤ b)
    (hQ : ∀ j d, Q (ix4 0 0 j d) = q j d) (hK : ∀ y d, K (ix4 0 0 y d) = k (b + 0 + y) d) (hV : ∀ f y, Vv (ix3 0 f y) = v f (b + 0 + y)) :
    Sums (k0_pay126 l (k0_pay118 K Q)) (k0_pay127 a (k0_pay118 K Q) Vv) q k v lo fun x => b + min (x + 1) (0 + 256) where
  den x := by
    rw [← sum_step _ hb (h.den x)]
    pointwise [k0_pay126, k0_pay125, k0_pay118]
    simp only [hQ, hK, exp2_eq, masked, masked_sub, pw, Nat.not_lt_zero, if_false, Nat.sub_zero, Nat.add_zero]
  num f x := by
    rw [← sum_step _ hb (h.num f x)]
    pointwise [k0_pay127, k0_pay125, k0_pay118]
    simp only [hQ, hK, hV, exp2_eq, masked, masked_sub, pw, Nat.not_lt_zero, if_false, Nat.sub_zero, Nat.add_zero, mul_ite, mul_zero]

/-- The second chunk of the tile. -/
theorem Sums.diag1 {Q : Vec Ideal S1x1x768x128 .bf16} (h : Sums l a q k v lo fun x => b + min (x + 1) 256) (hb : lo ≤ b)
    (hQ : ∀ j d, Q (ix4 0 0 j d) = q (256 + j) d) (hK : ∀ y d, K (ix4 0 0 y d) = k (b + 256 + y) d) (hV : ∀ f y, Vv (ix3 0 f y) = v f (b + 256 + y)) :
    Sums (k0_pay135 (k0_pay120 K Q) l) (k0_pay136 a (k0_pay134 (k0_pay120 K Q) a Vv)) q k v lo fun x => b + min (x + 1) (256 + 256) where
  den x := by
    rw [← sum_step _ hb (h.den x)]
    pointwise [k0_pay135, k0_pay133, k0_pay120]
    simp only [hQ, hK, exp2_eq, masked, masked_sub, pw]
    by_cases hx : x.val < 256
    · simp only [hx, dite_true, if_true]
    · simp only [hx, dite_false, if_false, show 256 + (x.val - 256) = x.val by omega]
  num f x := by
    rw [← sum_step _ hb (h.num f x)]
    pointwise [k0_pay136, k0_pay134, k0_pay133, k0_pay120]
    simp only [hQ, hK, hV, exp2_eq, masked, masked_sub, pw, mul_ite, mul_zero]
    by_cases hx : x.val < 256
    · simp only [hx, dite_true, if_true]
    · simp only [hx, dite_false, if_false, show 256 + (x.val - 256) = x.val by omega]

/-- The third chunk of the tile. -/
theorem Sums.diag2 {Q : Vec Ideal S1x1x512x128 .bf16} (h : Sums l a q k v lo fun x => b + min (x + 1) 512) (hb : lo ≤ b)
    (hQ : ∀ j d, Q (ix4 0 0 j d) = q (512 + j) d) (hK : ∀ y d, K (ix4 0 0 y d) = k (b + 512 + y) d) (hV : ∀ f y, Vv (ix3 0 f y) = v f (b + 512 + y)) :
    Sums (k0_pay143 l (k0_pay142 (k0_pay124 K Q))) (k0_pay144 a (k0_pay141 Vv) (k0_pay142 (k0_pay124 K Q))) q k v lo fun x => b + min (x + 1) (512 + 256) where
  den x := by
    rw [← sum_step _ hb (h.den x)]
    pointwise [k0_pay143, k0_pay142, k0_pay124]
    simp only [hQ, hK, exp2_eq, masked, masked_sub, pw]
    by_cases hx : x.val < 512
    · simp only [hx, dite_true, if_true]
    · simp only [hx, dite_false, if_false, show 512 + (x.val - 512) = x.val by omega]
  num f x := by
    rw [← sum_step _ hb (h.num f x)]
    pointwise [k0_pay144, k0_pay141, k0_pay142, k0_pay124]
    simp only [hQ, hK, hV, exp2_eq, masked, masked_sub, pw, mul_ite, mul_zero]
    by_cases hx : x.val < 512
    · simp only [hx, dite_true, if_true]
    · simp only [hx, dite_false, if_false, show 512 + (x.val - 512) = x.val by omega]

end

theorem finish_at {d0 d1 : FVec Ideal S1x1024 .f32 × FVec Ideal S128x1024 .f32} {q0 k0 q1 k1 : ℕ → Fin 128 → EReal} {v : Fin 128 → ℕ → EReal} {lo b : ℕ}
    {Q0 Q1 K0 K1 : Vec Ideal S1x1x256x128 .bf16} {Vv : Vec Ideal S1x128x256 .bf16} (hb : lo ≤ b)
    (h0 : Sums d0.1 d0.2 q0 k0 v lo fun x => b + min (x + 1) 768) (h1 : Sums d1.1 d1.2 q1 k1 v lo fun x => b + min (x + 1) 768)
    (hQ0 : ∀ j d, Q0 (ix4 0 0 j d) = q0 (768 + j) d) (hK0 : ∀ y d, K0 (ix4 0 0 y d) = k0 (b + 768 + y) d)
    (hQ1 : ∀ j d, Q1 (ix4 0 0 j d) = q1 (768 + j) d) (hK1 : ∀ y d, K1 (ix4 0 0 y d) = k1 (b + 768 + y) d)
    (hV : ∀ f y, Vv (ix3 0 f y) = v f (b + 768 + y)) (x : Fin 1024) (f : Fin 128) :
    finish d0 d1 Q0 Q1 K0 K1 Vv (ix3 0 x f)
      = if f.val < 64 then Ideal.div (∑ n ∈ Finset.Ico lo (b + x + 1), v f n * pw k0 (q0 x) n) (∑ n ∈ Finset.Ico lo (b + x + 1), pw k0 (q0 x) n)
        else Ideal.div (∑ n ∈ Finset.Ico lo (b + x + 1), v f n * pw k1 (q1 x) n) (∑ n ∈ Finset.Ico lo (b + x + 1), pw k1 (q1 x) n) := by
  have e : b + x.val + 1 = b + min (x.val + 1) (768 + 256) := by omega
  rw [e, ← sum_step _ hb (h0.num f x), ← sum_step _ hb (h0.den x), ← sum_step _ hb (h1.num f x), ← sum_step _ hb (h1.den x)]
  pointwise [finish, k0_pay1, k0_pay152, k0_pay151, k0_pay148, k0_pay149, k0_pay132, k0_pay137]
  simp only [hQ0, hQ1, hK0, hK1, hV, exp2_eq, masked, masked_sub, pw, mul_ite, mul_zero,
    WordCmp.cmpi_slt_ofNat (w := 32) (a := f.val) (b := 64) (by omega) (by omega)]
  have hs : ∀ (p : Prop) [Decidable p] (u w : EReal), Scalar.select (BitVec.ofBool (decide p)) u w = if p then u else w := by
    intro p _ u w
    by_cases hp : p
    · simp only [hp, decide_true, if_true]; rfl
    · simp only [hp, decide_false, if_false]; rfl
  by_cases hx : x.val < 768
  · simp only [hx, dite_true, if_true]; rw [hs]
  · simp only [hx, dite_false, if_false, show 768 + (x.val - 768) = x.val by omega]; rw [hs]

end Cert.KernelIdeal.Fox

end
-- ==== Proof.Keys.lean ====
/- Where the body reads keys and values, and how many chunks it takes, in closed form of the query tile `q` and the first
   live key tile `w`, for a word `w` between 0 and `4 * q`. -/
module

public import proofs.«01_k».proof.Proof.Words

@[expose] public section

set_option maxRecDepth 16384

namespace Cert.KernelIdeal.Fox

open Idealize.ShloMosaic Idealize.ShloMosaic.TcCoe
open Cert.KernelIdeal.Gen

/-! The single chunks' offsets, of the word alone. -/
theorem narrow_offs : ∀ w : Fin 29, (∀ r : Fin 3,
      k0_off2 (BitVec.ofNat 32 w.val) (BitVec.ofNat 32 (256 * r.val)) = ![0, 0, 256 * w.val + 256 * r.val, 0]
      ∧ k0_off3 (BitVec.ofNat 32 w.val) (BitVec.ofNat 32 (256 * r.val)) = ![0, 1, 256 * w.val + 256 * r.val, 0]
      ∧ k0_off4 (BitVec.ofNat 32 w.val) (BitVec.ofNat 32 (256 * r.val)) = ![0, 0, 256 * w.val + 256 * r.val])
    ∧ (∀ r : Fin 2,
      k0_off5 (BitVec.ofNat 32 w.val) (BitVec.ofNat 32 (256 * r.val)) = ![0, 0, 256 * w.val + 256 * r.val, 0]
      ∧ k0_off6 (BitVec.ofNat 32 w.val) (BitVec.ofNat 32 (256 * r.val)) = ![0, 1, 256 * w.val + 256 * r.val, 0]
      ∧ k0_off7 (BitVec.ofNat 32 w.val) (BitVec.ofNat 32 (256 * r.val)) = ![0, 0, 256 * w.val + 256 * r.val])
    ∧ k0_off8 (BitVec.ofNat 32 w.val) = ![0, 0, 256 * w.val, 0]
    ∧ k0_off9 (BitVec.ofNat 32 w.val) = ![0, 1, 256 * w.val, 0]
    ∧ k0_off10 (BitVec.ofNat 32 w.val) = ![0, 0, 256 * w.val] := by
  decide +kernel

/-- How many single chunks there are, and how many trips of four. -/
theorem counts : ∀ q : Fin 8, ∀ w : Fin 29, w.val ≤ 4 * q.val →
    (k0_cond1 (pt q) (BitVec.ofNat 32 w.val) = 1#1 ↔ (4 * q.val - w.val) % 4 ≠ 0)
    ∧ ((4 * q.val - w.val) % 4 ≠ 0 → (k0_cond2 (pt q) (BitVec.ofNat 32 w.val) = 1#1 ↔ (4 * q.val - w.val) % 4 ≠ 1))
    ∧ ((4 * q.val - w.val) % 4 ≠ 0 → (4 * q.val - w.val) % 4 ≠ 1 → (k0_cond3 (pt q) (BitVec.ofNat 32 w.val) = 1#1 ↔ (4 * q.val - w.val) % 4 ≠ 2))
    ∧ (k0_t1_loop (pt q) (BitVec.ofNat 32 w.val)).trips = (4 * q.val - w.val) / 4
    ∧ (k0_t2_loop (pt q) (BitVec.ofNat 32 w.val)).trips = 0 := by
  decide +kernel

/-- A trip's offsets. -/
theorem wide_offs : ∀ q : Fin 8, ∀ w : Fin 29, w.val ≤ 4 * q.val → ∀ k : Fin (k0_t1_loop (pt q) (BitVec.ofNat 32 w.val)).trips, ∀ r : Fin 4,
    k0_off11 (pt q) (BitVec.ofNat 32 w.val) k (BitVec.ofNat 32 (256 * r.val)) = ![0, 0, 256 * (w.val + (4 * q.val - w.val) % 4) + 1024 * k.val + 256 * r.val, 0]
    ∧ k0_off12 (pt q) (BitVec.ofNat 32 w.val) k (BitVec.ofNat 32 (256 * r.val)) = ![0, 1, 256 * (w.val + (4 * q.val - w.val) % 4) + 1024 * k.val + 256 * r.val, 0]
    ∧ k0_off13 (pt q) (BitVec.ofNat 32 w.val) k (BitVec.ofNat 32 (256 * r.val)) = ![0, 0, 256 * (w.val + (4 * q.val - w.val) % 4) + 1024 * k.val + 256 * r.val] := by
  decide +kernel

end Cert.KernelIdeal.Fox
-- ==== Proof.State.lean ====
/- The body's state at every stage, over the extended reals: the sums of the weights, and of the weighted values, over
   the keys taken so far. -/
module

public import proofs.«01_k».proof.Proof.Pay
public import proofs.«01_k».proof.Proof.Keys

@[expose] public section

set_option maxRecDepth 16384

noncomputable section

namespace Cert.KernelIdeal.Fox

open Idealize.ShloMosaic Idealize.ShloMosaic.TcCoe
open Cert.KernelIdeal.Gen

/-- Where a unit-stride rectangle places an index. -/
theorem idx_val {s : Shape} (off size : Fin s.rank → ℕ) (h : ∀ a, off a + size a ≤ s.size a) (y : (Rect.unit off size h).toLoadRect.shape.Idx) (a : Fin s.rank) :
    ((Rect.unit off size h).toLoadRect.idx y a).val = off a + (y a).val := by
  show off a + 1 * (y a).val = _
  omega

section
variable (arg4 : Memref sig .tc .vmem S1x2x1024x128 .bf16) (arg5 : Memref sig .tc .vmem S1x2x8192x128 .bf16) (arg6 : Memref sig .tc .vmem S1x128x8192 .bf16)
  (X4 : BufTy.Contents (Elt Ideal) arg4.view.ty) (X5 : BufTy.Contents (Elt Ideal) arg5.view.ty) (X6 : BufTy.Contents (Elt Ideal) arg6.view.ty)

/-- Query `x` of the pair's head `j`, key `n` of it, and feature `f` of key `n`'s values, as the staging buffers hold them. -/
def qf (j : Fin 2) (x : ℕ) (d : Fin 128) : EReal := if h : x < 1024 then arg4.view.read (Elt Ideal) X4 (ix4 0 j ⟨x, h⟩ d) else 0
def kf (j : Fin 2) (n : ℕ) (d : Fin 128) : EReal := if h : n < 8192 then arg5.view.read (Elt Ideal) X5 (ix4 0 j ⟨n, h⟩ d) else 0
def vf (f : Fin 128) (n : ℕ) : EReal := if h : n < 8192 then arg6.view.read (Elt Ideal) X6 (ix3 0 f ⟨n, h⟩) else 0

theorem q_at {n : ℕ} (j : Fin 2) (b : ℕ) (h) (y : Fin n) (d : Fin 128) :
    arg4.view.readAt (Elt Ideal) (Rect.unit (s := S1x2x1024x128) ![0, j.val, b, 0] (![1, 1, n, 128]) h).toLoadRect X4 (ix4 0 0 y d) = qf arg4 X4 j (b + y) d := by
  have hb : b + n ≤ 1024 := h 2
  unfold qf
  rw [dif_pos (by omega), View.readAt_apply]
  congr 1
  funext a
  refine Fin.ext ((idx_val _ _ _ _ _).trans ?_)
  fin_cases a <;> first | rfl | exact Nat.zero_add _

theorem k_at {off : Fin 4 → ℕ} (h) (j : Fin 2) (b : ℕ) (ho : off = ![0, j.val, b, 0]) (y : Fin 256) (d : Fin 128) :
    rdK arg5 X5 off h (ix4 0 0 y d) = kf arg5 X5 j (b + y) d := by
  subst ho
  have hb : b + 256 ≤ 8192 := h 2
  unfold rdK kf
  rw [dif_pos (by omega), View.readAt_apply]
  congr 1
  funext a
  refine Fin.ext ((idx_val _ _ _ _ _).trans ?_)
  fin_cases a <;> first | rfl | exact Nat.zero_add _

theorem v_at {off : Fin 3 → ℕ} (h) (b : ℕ) (ho : off = ![0, 0, b]) (f : Fin 128) (y : Fin 256) :
    rdV arg6 X6 off h (ix3 0 f y) = vf arg6 X6 f (b + y) := by
  subst ho
  have hb : b + 256 ≤ 8192 := h 2
  unfold rdV vf
  rw [dif_pos (by omega), View.readAt_apply]
  congr 1
  funext a
  refine Fin.ext ((idx_val _ _ _ _ _).trans ?_)
  fin_cases a <;> first | rfl | exact Nat.zero_add _

/-- Both heads' sums, over the keys from `lo` to before `hi x`. -/
def Inv (st : St Ideal) (lo : ℕ) (hi : ℕ → ℕ) : Prop :=
  Sums st.1 st.2.1 (qf arg4 X4 0) (kf arg5 X5 0) (vf arg6 X6) lo hi ∧ Sums st.2.2.1 st.2.2.2 (qf arg4 X4 1) (kf arg5 X5 1) (vf arg6 X6) lo hi

theorem inv_zero (lo : ℕ) : Inv arg4 arg5 arg6 X4 X5 X6 zeroSt lo fun _ => lo := by
  constructor <;> constructor <;> intros <;>
    (rw [Finset.Ico_self, Finset.sum_empty]; pointwise [zeroSt, k0_pay98, k0_pay99, k0_pay100, k0_pay101])

variable {arg4 arg5 arg6 X4 X5 X6}

/-- One chunk below the query tile. -/
theorem Inv.chunk {st : St Ideal} {lo b : ℕ} {o0 o1 : Fin 4 → ℕ} {ov : Fin 3 → ℕ} (h : Inv arg4 arg5 arg6 X4 X5 X6 st lo fun _ => b) (hb : lo ≤ b)
    (h0) (h1) (hv) (e0 : o0 = ![0, 0, b, 0]) (e1 : o1 = ![0, 1, b, 0]) (ev : ov = ![0, 0, b]) :
    Inv arg4 arg5 arg6 X4 X5 X6 (chunk (rdQ0 arg4 X4) (rdQ1 arg4 X4) (rdK arg5 X5 o0 h0) (rdK arg5 X5 o1 h1) (rdV arg6 X6 ov hv) st) lo fun _ => b + 256 :=
  ⟨h.1.chunk hb (fun j d => (q_at arg4 X4 0 0 _ j d).trans (by rw [Nat.zero_add])) (k_at arg5 X5 h0 0 b e0) (v_at arg6 X6 hv b ev),
   h.2.chunk hb (fun j d => (q_at arg4 X4 1 0 _ j d).trans (by rw [Nat.zero_add])) (k_at arg5 X5 h1 1 b e1) (v_at arg6 X6 hv b ev)⟩

/-- The single chunks. -/
theorem inv_narrow (i : grid0.Coords) (w : BitVec 32) (hw : k0_chk1 i w) (h : w.toNat ≤ 4 * (i 2).val) :
    Inv arg4 arg5 arg6 X4 X5 X6 (narrow arg4 arg5 arg6 X4 X5 X6 i w hw) (256 * w.toNat) fun _ => 256 * (w.toNat + (4 * (i 2).val - w.toNat) % 4) := by
  have h8 : (i 2).val < 8 := (i 2).isLt
  have ew : BitVec.ofNat 32 (⟨w.toNat, by omega⟩ : Fin 29).val = w := BitVec.ofNat_toNat ..
  have hc := counts (i 2) ⟨w.toNat, by omega⟩ h
  have ho := narrow_offs ⟨w.toNat, by omega⟩
  rw [ew] at hc ho
  obtain ⟨c1, c2, c3, -, -⟩ := hc
  obtain ⟨o3, o2, o8, o9, o10⟩ := ho
  have c1 : k0_cond1 i w = 1#1 ↔ (4 * (i 2).val - w.toNat) % 4 ≠ 0 := c1
  have c2 : (4 * (i 2).val - w.toNat) % 4 ≠ 0 → (k0_cond2 i w = 1#1 ↔ (4 * (i 2).val - w.toNat) % 4 ≠ 1) := c2
  have c3 : (4 * (i 2).val - w.toNat) % 4 ≠ 0 → (4 * (i 2).val - w.toNat) % 4 ≠ 1 → (k0_cond3 i w = 1#1 ↔ (4 * (i 2).val - w.toNat) % 4 ≠ 2) := c3
  have hz := inv_zero arg4 arg5 arg6 X4 X5 X6 (256 * w.toNat)
  unfold narrow
  split_ifs with h1 h2 h3
  · have e : (4 * (i 2).val - w.toNat) % 4 = 3 := by
      have n1 := c1.1 h1; have n2 := (c2 n1).1 h2; have n3 := (c3 n1 n2).1 h3; omega
    simp only [e]
    exact ((hz.chunk le_rfl _ _ _ (o3 0).1 (o3 0).2.1 (o3 0).2.2).chunk (by omega) _ _ _ (o3 1).1 (o3 1).2.1 (o3 1).2.2).chunk (by omega) _ _ _ (o3 2).1 (o3 2).2.1 (o3 2).2.2
  · have e : (4 * (i 2).val - w.toNat) % 4 = 2 := by
      have n1 := c1.1 h1; have n2 := (c2 n1).1 h2; have n3 := mt (c3 n1 n2).2 h3; omega
    simp only [e]
    exact (hz.chunk le_rfl _ _ _ (o2 0).1 (o2 0).2.1 (o2 0).2.2).chunk (by omega) _ _ _ (o2 1).1 (o2 1).2.1 (o2 1).2.2
  · have e : (4 * (i 2).val - w.toNat) % 4 = 1 := by
      have n1 := c1.1 h1; have n2 := mt (c2 n1).2 h2; omega
    simp only [e]
    exact hz.chunk le_rfl _ _ _ o8 o9 o10
  · have e : (4 * (i 2).val - w.toNat) % 4 = 0 := by
      have := mt c1.2 h1; omega
    simp only [e]
    exact hz

end

section
variable (c : Dev nD) (i : grid0.Coords)
  (arg4 : Memref sig .tc .vmem S1x2x1024x128 .bf16) (harg4 : arg4.IsWhole) (arg5 : Memref sig .tc .vmem S1x2x8192x128 .bf16) (harg5 : arg5.IsWhole)
  (arg6 : Memref sig .tc .vmem S1x128x8192 .bf16) (harg6 : arg6.IsWhole) (arg7 : Memref sig .tc .vmem S1x1024x128 .bf16) (harg7 : arg7.IsWhole)

section
variable {F : FTy → Type} [FloatOps F] [Named F]
  (X4 : BufTy.Contents (Elt F) arg4.view.ty) (X5 : BufTy.Contents (Elt F) arg5.view.ty) (X6 : BufTy.Contents (Elt F) arg6.view.ty)

set_option maxHeartbeats 2000000 in
/-- One trip of the loop is four chunks. -/
theorem trip_eq (w : BitVec 32) (hw : k0_chk1 i w) (s : BitVec 32) (k : Fin (k0_t1_loop i w).trips) (st : St F) :
    tripR_k0_t1 Variants.none c none i tbM htbM arg4 harg4 arg5 harg5 arg6 harg6 arg7 harg7 w hw s X4 X5 X6 k st
      = chunk (rdQ0 arg4 X4) (rdQ1 arg4 X4) (rdK arg5 X5 _ (k0_off11_inb i w hw k 3)) (rdK arg5 X5 _ (k0_off12_inb i w hw k 3)) (rdV arg6 X6 _ (k0_off13_inb i w hw k 3))
        (chunk (rdQ0 arg4 X4) (rdQ1 arg4 X4) (rdK arg5 X5 _ (k0_off11_inb i w hw k 2)) (rdK arg5 X5 _ (k0_off12_inb i w hw k 2)) (rdV arg6 X6 _ (k0_off13_inb i w hw k 2))
        (chunk (rdQ0 arg4 X4) (rdQ1 arg4 X4) (rdK arg5 X5 _ (k0_off11_inb i w hw k 1)) (rdK arg5 X5 _ (k0_off12_inb i w hw k 1)) (rdV arg6 X6 _ (k0_off13_inb i w hw k 1))
        (chunk (rdQ0 arg4 X4) (rdQ1 arg4 X4) (rdK arg5 X5 _ (k0_off11_inb i w hw k 0)) (rdK arg5 X5 _ (k0_off12_inb i w hw k 0)) (rdV arg6 X6 _ (k0_off13_inb i w hw k 0)) st))) := by
  unfold tripR_k0_t1 trip_k0_t1
  rfl

end

variable {X4 : BufTy.Contents (Elt Ideal) arg4.view.ty} {X5 : BufTy.Contents (Elt Ideal) arg5.view.ty} {X6 : BufTy.Contents (Elt Ideal) arg6.view.ty}

/-- The state before the diagonal: the sums over the live keys below the query tile. -/
theorem inv_before (w : BitVec 32) (hw : k0_chk1 i w) (h : w.toNat ≤ 4 * (i 2).val) :
    Inv arg4 arg5 arg6 X4 X5 X6 (before c i arg4 harg4 arg5 harg5 arg6 harg6 arg7 harg7 X4 X5 X6 w hw) (256 * w.toNat) fun _ => 1024 * (i 2).val := by
  have h8 : (i 2).val < 8 := (i 2).isLt
  have ew : BitVec.ofNat 32 (⟨w.toNat, by omega⟩ : Fin 29).val = w := BitVec.ofNat_toNat ..
  have hc := counts (i 2) ⟨w.toNat, by omega⟩ h
  have hwide := wide_offs (i 2) ⟨w.toNat, by omega⟩ h
  rw [ew] at hc hwide
  obtain ⟨-, -, -, t1, t2⟩ := hc
  have t1 : (k0_t1_loop i w).trips = (4 * (i 2).val - w.toNat) / 4 := t1
  have t2 : (k0_t2_loop i w).trips = 0 := t2
  have loop : ∀ k : ℕ, k ≤ (k0_t1_loop i w).trips → Inv arg4 arg5 arg6 X4 X5 X6
      (st_k0_t1 Variants.none c none i tbM htbM arg4 harg4 arg5 harg5 arg6 harg6 arg7 harg7 w hw (startKey i w) X4 X5 X6
        (narrow arg4 arg5 arg6 X4 X5 X6 i w hw) k) (256 * w.toNat) fun _ => 256 * (w.toNat + (4 * (i 2).val - w.toNat) % 4) + 1024 * k := by
    intro k
    induction k with
    | zero => intro _; exact inv_narrow i w hw h
    | succ k ih =>
      intro hk
      have o := hwide ⟨k, hk⟩
      rw [st_k0_t1_succ Variants.none c none i tbM htbM arg4 harg4 arg5 harg5 arg6 harg6 arg7 harg7 w hw (startKey i w) X4 X5 X6
        (narrow arg4 arg5 arg6 X4 X5 X6 i w hw) ⟨k, hk⟩, trip_eq]
      have hi : (fun _ : ℕ => 256 * (w.toNat + (4 * (i 2).val - w.toNat) % 4) + 1024 * (k + 1))
          = fun _ => 256 * (w.toNat + (4 * (i 2).val - w.toNat) % 4) + 1024 * k + 256 * 0 + 256 + 256 + 256 + 256 := by funext _; omega
      rw [hi]
      exact ((((ih (by omega)).chunk (by omega) _ _ _ (o 0).1 (o 0).2.1 (o 0).2.2).chunk (by omega) _ _ _ (o 1).1 (o 1).2.1 (o 1).2.2).chunk (by omega) _ _ _ (o 2).1 (o 2).2.1 (o 2).2.2).chunk
        (by omega) _ _ _ (o 3).1 (o 3).2.1 (o 3).2.2
  unfold before
  rw [t2, st_k0_t2_zero]
  have e := loop _ le_rfl
  have hi : 256 * (w.toNat + (4 * (i 2).val - w.toNat) % 4) + 1024 * (k0_t1_loop i w).trips = 1024 * (i 2).val := by rw [t1]; omega
  rwa [hi] at e

/-- One head through the first three chunks of the query tile. -/
theorem sums_diag {l : FVec Ideal S1x1024 .f32} {a : FVec Ideal S128x1024 .f32} {lo b : ℕ} (j : Fin 2) (h : Sums l a (qf arg4 X4 j) (kf arg5 X5 j) (vf arg6 X6) lo fun _ => b) (hb : lo ≤ b)
    {o0 o1 o2 : Fin 4 → ℕ} {v0 v1 v2 : Fin 3 → ℕ} (h0) (h1) (h2) (g0) (g1) (g2) (r0) (r1) (r2)
    (e0 : o0 = ![0, j.val, b + 0, 0]) (e1 : o1 = ![0, j.val, b + 256, 0]) (e2 : o2 = ![0, j.val, b + 512, 0])
    (f0 : v0 = ![0, 0, b + 0]) (f1 : v1 = ![0, 0, b + 256]) (f2 : v2 = ![0, 0, b + 512]) :
    Sums (diag l a
        (arg4.view.readAt (Elt Ideal) (Rect.unit (s := S1x2x1024x128) ![0, j.val, 0, 0] S1x1x1024x128.size r0).toLoadRect X4)
        (arg4.view.readAt (Elt Ideal) (Rect.unit (s := S1x2x1024x128) ![0, j.val, 256, 0] S1x1x768x128.size r1).toLoadRect X4)
        (arg4.view.readAt (Elt Ideal) (Rect.unit (s := S1x2x1024x128) ![0, j.val, 512, 0] S1x1x512x128.size r2).toLoadRect X4)
        (rdK arg5 X5 o0 h0) (rdK arg5 X5 o1 h1) (rdK arg5 X5 o2 h2) (rdV arg6 X6 v0 g0) (rdV arg6 X6 v1 g1) (rdV arg6 X6 v2 g2)).1
      (diag l a
        (arg4.view.readAt (Elt Ideal) (Rect.unit (s := S1x2x1024x128) ![0, j.val, 0, 0] S1x1x1024x128.size r0).toLoadRect X4)
        (arg4.view.readAt (Elt Ideal) (Rect.unit (s := S1x2x1024x128) ![0, j.val, 256, 0] S1x1x768x128.size r1).toLoadRect X4)
        (arg4.view.readAt (Elt Ideal) (Rect.unit (s := S1x2x1024x128) ![0, j.val, 512, 0] S1x1x512x128.size r2).toLoadRect X4)
        (rdK arg5 X5 o0 h0) (rdK arg5 X5 o1 h1) (rdK arg5 X5 o2 h2) (rdV arg6 X6 v0 g0) (rdV arg6 X6 v1 g1) (rdV arg6 X6 v2 g2)).2
      (qf arg4 X4 j) (kf arg5 X5 j) (vf arg6 X6) lo fun x => b + min (x + 1) 768 := by
  have s0 : Sums l a (qf arg4 X4 j) (kf arg5 X5 j) (vf arg6 X6) lo fun x => b + min (x + 1) 0 := by
    simpa only [Nat.min_zero, Nat.add_zero] using h
  have s1 := s0.diag0 hb (fun y d => (q_at arg4 X4 j 0 r0 y d).trans (by rw [Nat.zero_add])) (k_at arg5 X5 h0 j _ e0) (v_at arg6 X6 g0 _ f0)
  have s2 := s1.diag1 hb (q_at arg4 X4 j 256 r1) (k_at arg5 X5 h1 j _ e1) (v_at arg6 X6 g1 _ f1)
  exact s2.diag2 hb (q_at arg4 X4 j 512 r2) (k_at arg5 X5 h2 j _ e2) (v_at arg6 X6 g2 _ f2)

/-- The attention of query `x` of head `j` over the keys `lo` to `hi`, at feature `f`, as the body divides it. -/
def attn (arg4 : Memref sig .tc .vmem S1x2x1024x128 .bf16) (arg5 : Memref sig .tc .vmem S1x2x8192x128 .bf16) (arg6 : Memref sig .tc .vmem S1x128x8192 .bf16)
    (X4 : BufTy.Contents (Elt Ideal) arg4.view.ty) (X5 : BufTy.Contents (Elt Ideal) arg5.view.ty) (X6 : BufTy.Contents (Elt Ideal) arg6.view.ty)
    (j : Fin 2) (x : ℕ) (f : Fin 128) (lo hi : ℕ) : EReal :=
  Ideal.div (∑ n ∈ Finset.Ico lo hi, vf arg6 X6 f n * pw (kf arg5 X5 j) (qf arg4 X4 j x) n) (∑ n ∈ Finset.Ico lo hi, pw (kf arg5 X5 j) (qf arg4 X4 j x) n)

/-- The stored block: features below 64 are the first head's attention, the others the second's. -/
theorem outBlock_at (w : BitVec 32) (hw : k0_chk1 i w) (h : w.toNat ≤ 4 * (i 2).val) (x : Fin 1024) (f : Fin 128) :
    outBlock c i arg4 harg4 arg5 harg5 arg6 harg6 arg7 harg7 X4 X5 X6 w hw (ix3 0 x f)
      = attn arg4 arg5 arg6 X4 X5 X6 (if f.val < 64 then 0 else 1) x f (256 * w.toNat) (1024 * (i 2).val + x + 1) := by
  have hb : 256 * w.toNat ≤ 1024 * (i 2).val := by omega
  have hi := inv_before c i arg4 harg4 arg5 harg5 arg6 harg6 arg7 harg7 (X4 := X4) (X5 := X5) (X6 := X6) w hw h
  have d0 := sums_diag arg4 arg5 arg6 (X4 := X4) (X5 := X5) (X6 := X6) 0 hi.1 hb (k0_off17_inb i 0) (k0_off17_inb i 1) (k0_off17_inb i 2) (k0_off19_inb i 0) (k0_off19_inb i 1) (k0_off19_inb i 2)
    inb_S1x2x1024x128_S1x1x1024x128_0_0_0_0 inb_S1x2x1024x128_S1x1x768x128_0_0_256_0 inb_S1x2x1024x128_S1x1x512x128_0_0_512_0
    (k0_off17_eq i 0) (k0_off17_eq i 1) (k0_off17_eq i 2) (k0_off19_eq i 0) (k0_off19_eq i 1) (k0_off19_eq i 2)
  have d1 := sums_diag arg4 arg5 arg6 (X4 := X4) (X5 := X5) (X6 := X6) 1 hi.2 hb (k0_off18_inb i 0) (k0_off18_inb i 1) (k0_off18_inb i 2) (k0_off19_inb i 0) (k0_off19_inb i 1) (k0_off19_inb i 2)
    inb_S1x2x1024x128_S1x1x1024x128_0_1_0_0 inb_S1x2x1024x128_S1x1x768x128_0_1_256_0 inb_S1x2x1024x128_S1x1x512x128_0_1_512_0
    (k0_off18_eq i 0) (k0_off18_eq i 1) (k0_off18_eq i 2) (k0_off19_eq i 0) (k0_off19_eq i 1) (k0_off19_eq i 2)
  refine (finish_at hb d0 d1 (q_at arg4 X4 0 768 _) (k_at arg5 X5 _ 0 _ (k0_off17_eq i 3)) (q_at arg4 X4 1 768 _) (k_at arg5 X5 _ 1 _ (k0_off18_eq i 3))
    (v_at arg6 X6 _ _ (k0_off19_eq i 3)) x f).trans ?_
  unfold attn
  split <;> rfl

end

end Cert.KernelIdeal.Fox

end
-- ==== Proof.Array.lean ====
/- The result array of the attention kernel: at every batch, position and feature the quotient of the weighted values'
   sum by the weights' sum, over the live keys. -/
module

public import proofs.«01_k».proof.Proof.State
public import proofs.«01_k».proof.Proof.Range
public import proofs.«01_k».proof.Proof.Frame
public import Idealize.ShloMosaic.Lib.Pipeline.ValueKit

@[expose] public section

set_option maxRecDepth 16384

noncomputable section

namespace Cert.KernelIdeal.Fox

open Idealize.ShloMosaic Idealize.ShloMosaic.TcCoe Idealize.SL.Sem
open Idealize.ShloMosaic.Pipeline (Dat Cfg Window)
open Cert.KernelIdeal.Gen

/-- The head of a feature of the result. -/
def head (f : Fin 512) : Fin 8 := ⟨f.val / 64, by omega⟩

/-- Key `n` of a head, feature `f` of key `n`'s values. -/
def kN (K : FVec Ideal S2x8x8192x128 .bf16) (b : Fin 2) (h : Fin 8) (n : ℕ) (d : Fin 128) : EReal := if hn : n < 8192 then K (ix4 b h ⟨n, hn⟩ d) else 0
def vN (V : FVec Ideal S2x512x8192 .bf16) (b : Fin 2) (f : Fin 512) (n : ℕ) : EReal := if hn : n < 8192 then V (ix3 b f ⟨n, hn⟩) else 0

/-- The first live key of a position for a feature's pair of heads. -/
def first (T : IVec S64 32) (b : Fin 2) (s : Fin 8192) (f : Fin 512) : ℕ :=
  256 * (T (ix1 ⟨32 * b.val + 8 * (f.val / 128) + s.val / 1024, by omega⟩)).toNat

/-- One element of the result. -/
def elem (T : IVec S64 32) (Q K : FVec Ideal S2x8x8192x128 .bf16) (V : FVec Ideal S2x512x8192 .bf16) (b : Fin 2) (s : Fin 8192) (f : Fin 512) : EReal :=
  Ideal.div (∑ n ∈ Finset.Ico (first T b s f) (s.val + 1), vN V b f n * pw (kN K b (head f)) (fun d => Q (ix4 b (head f) s d)) n)
    (∑ n ∈ Finset.Ico (first T b s f) (s.val + 1), pw (kN K b (head f)) (fun d => Q (ix4 b (head f) s d)) n)

def result (T : IVec S64 32) (Q K : FVec Ideal S2x8x8192x128 .bf16) (V : FVec Ideal S2x512x8192 .bf16) : FVec Ideal S2x8192x512 .bf16 :=
  fun i => elem T Q K V (i 0) (i 1) (i 2)

variable (m : (ℓ : Loc nD τ sig) → Buf (Elt Ideal) ℓ)

/-- Every window's block index at every point. -/
theorem idx (t : Fin grid0.N) : cc0_transform_0 (grid0.coords t) = ![(grid0.coords t 0).val, (grid0.coords t 1).val, (grid0.coords t 2).val, 0]
    ∧ cc0_transform_1 (grid0.coords t) = ![(grid0.coords t 0).val, (grid0.coords t 1).val, 0, 0]
    ∧ cc0_transform_2 (grid0.coords t) = ![(grid0.coords t 0).val, (grid0.coords t 1).val, 0]
    ∧ cc0_transform_3 (grid0.coords t) = ![(grid0.coords t 0).val, (grid0.coords t 2).val, (grid0.coords t 1).val] := by
  revert t; decide +kernel

theorem flush_all (t : Fin (cfgM m).N) : ((cfgM m).win 3).flush t = true :=
  (by decide +kernel : ∀ t : Fin grid0.N, Pipeline.Window.flushOf grid0 true cc0_transform_3 t = true) t

theorem points : ∀ (b : Fin 2) (q : Fin 8) (h : Fin 4), ∃ t : Fin grid0.N, cc0_transform_3 (grid0.coords t) = ![b.val, q.val, h.val] := by
  decide +kernel

theorem covers : ((cfgM m).win 3).Covers := by
  have hs : ∀ a, ((cfgM m).win 3).size a = (![1, 1024, 128] : Fin 3 → ℕ) a := fun a => rfl
  have hn : ∀ a, ((cfgM m).win 3).shape.size a = (![2, 8192, 512] : Fin 3 → ℕ) a := fun a => rfl
  have hb : ∀ a, ((cfgM m).win 3).nblk a = (![2, 8, 4] : Fin 3 → ℕ) a := fun a => by
    unfold Pipeline.Window.nblk
    rw [hs, hn]
    exact (by decide : ∀ a : Fin 3, ((![2, 8192, 512] : Fin 3 → ℕ) a + (![1, 1024, 128] : Fin 3 → ℕ) a - 1) / (![1, 1024, 128] : Fin 3 → ℕ) a = (![2, 8, 4] : Fin 3 → ℕ) a) a
  refine ⟨fun a => by rw [hs]; exact (by decide : ∀ a : Fin 3, 0 < (![1, 1024, 128] : Fin 3 → ℕ) a) a, fun β => ?_⟩
  obtain ⟨t, ht⟩ := points ((β (0 : Fin 3)).cast (hb _)) ((β (1 : Fin 3)).cast (hb _)) ((β (2 : Fin 3)).cast (hb _))
  exact ⟨t, flush_all m t, fun a => ⟨(congrFun ht a).trans (by fin_cases a <;> rfl), Or.inl rfl⟩⟩

/-! The staging buffers' contents, as the arrays hold them. -/
section
variable (c : Dev nD) (t : Fin (cfgM m).N)

/-- The batch of a point, and a head of its pair. -/
def batch (i : grid0.Coords) : Fin 2 := ⟨(i 0).val, (i 0).isLt⟩
def pair (i : grid0.Coords) (j : Fin 2) : Fin 8 := ⟨2 * (i 1).val + j.val, by have : (i 1).val < 4 := (i 1).isLt; omega⟩
/-- A feature of the pair among the result's. -/
def feat (i : grid0.Coords) (f : Fin 128) : Fin 512 := ⟨128 * (i 1).val + f.val, by have : (i 1).val < 4 := (i 1).isLt; omega⟩
/-- A query of the tile among the positions. -/
def pos (i : grid0.Coords) (x : Fin 1024) : Fin 8192 := ⟨1024 * (i 2).val + x.val, by have : (i 2).val < 8 := (i 2).isLt; omega⟩

theorem q_block (j : Fin 2) (x : Fin 1024) (d : Fin 128) :
    iblk m c 0 t (ix4 0 j x d : S1x2x1024x128.Idx) = m ((c.tc : Thread nD τ).loc main_arg1) (ix4 (batch (grid0.coords t)) (pair (grid0.coords t) j) (pos (grid0.coords t) x) d : S2x8x8192x128.Idx) := by
  show m ((c.tc : Thread nD τ).loc main_arg1) ((((cfgM m).win 0).blk t).view.emb (ix4 0 j x d : S1x2x1024x128.Idx)) = _
  congr 1
  funext a
  refine Fin.ext ((Pipeline.Window.rect_emb_val ((cfgM m).win 0) t (ix4 0 j x d : S1x2x1024x128.Idx) a).trans ?_)
  have e : ((cfgM m).win 0).index t a = _ := congrFun (idx t).1 a
  rw [e]
  fin_cases a
  · show (grid0.coords t 0).val * 1 + 0 = (grid0.coords t 0).val; omega
  · show (grid0.coords t 1).val * 2 + j.val = 2 * (grid0.coords t 1).val + j.val; omega
  · show (grid0.coords t 2).val * 1024 + x.val = 1024 * (grid0.coords t 2).val + x.val; omega
  · show 0 * 128 + d.val = d.val; omega

theorem k_block (j : Fin 2) (n : Fin 8192) (d : Fin 128) :
    iblk m c 1 t (ix4 0 j n d : S1x2x8192x128.Idx) = m ((c.tc : Thread nD τ).loc main_arg2) (ix4 (batch (grid0.coords t)) (pair (grid0.coords t) j) n d : S2x8x8192x128.Idx) := by
  show m ((c.tc : Thread nD τ).loc main_arg2) ((((cfgM m).win 1).blk t).view.emb (ix4 0 j n d : S1x2x8192x128.Idx)) = _
  congr 1
  funext a
  refine Fin.ext ((Pipeline.Window.rect_emb_val ((cfgM m).win 1) t (ix4 0 j n d : S1x2x8192x128.Idx) a).trans ?_)
  have e : ((cfgM m).win 1).index t a = _ := congrFun (idx t).2.1 a
  rw [e]
  fin_cases a
  · show (grid0.coords t 0).val * 1 + 0 = (grid0.coords t 0).val; omega
  · show (grid0.coords t 1).val * 2 + j.val = 2 * (grid0.coords t 1).val + j.val; omega
  · show 0 * 8192 + n.val = n.val; omega
  · show 0 * 128 + d.val = d.val; omega

theorem v_block (f : Fin 128) (n : Fin 8192) :
    iblk m c 2 t (ix3 0 f n : S1x128x8192.Idx) = m ((c.tc : Thread nD τ).loc main_arg3) (ix3 (batch (grid0.coords t)) (feat (grid0.coords t) f) n : S2x512x8192.Idx) := by
  show m ((c.tc : Thread nD τ).loc main_arg3) ((((cfgM m).win 2).blk t).view.emb (ix3 0 f n : S1x128x8192.Idx)) = _
  congr 1
  funext a
  refine Fin.ext ((Pipeline.Window.rect_emb_val ((cfgM m).win 2) t (ix3 0 f n : S1x128x8192.Idx) a).trans ?_)
  have e : ((cfgM m).win 2).index t a = _ := congrFun (idx t).2.2.1 a
  rw [e]
  fin_cases a
  · show (grid0.coords t 0).val * 1 + 0 = (grid0.coords t 0).val; omega
  · show (grid0.coords t 1).val * 128 + f.val = 128 * (grid0.coords t 1).val + f.val; omega
  · show 0 * 8192 + n.val = n.val; omega

theorem q_read (j : Fin 2) (x : Fin 1024) (d : Fin 128) :
    qf (ms0 m t) ((hs0 m t).unread (iblk m c 0 t)) j x.val d
      = m ((c.tc : Thread nD τ).loc main_arg1) (ix4 (batch (grid0.coords t)) (pair (grid0.coords t) j) (pos (grid0.coords t) x) d : S2x8x8192x128.Idx) := by
  unfold qf
  rw [dif_pos x.isLt]
  exact (congrFun ((hs0 m t).read_unread _) _).trans (q_block m c t j x d)

theorem k_read (j : Fin 2) (n : ℕ) (d : Fin 128) :
    kf (ms1 m t) ((hs1 m t).unread (iblk m c 1 t)) j n d
      = kN (m ((c.tc : Thread nD τ).loc main_arg2)) (batch (grid0.coords t)) (pair (grid0.coords t) j) n d := by
  unfold kf kN
  split
  · exact (congrFun ((hs1 m t).read_unread _) _).trans (k_block m c t j _ d)
  · rfl

theorem v_read (f : Fin 128) (n : ℕ) :
    vf (ms2 m t) ((hs2 m t).unread (iblk m c 2 t)) f n
      = vN (m ((c.tc : Thread nD τ).loc main_arg3)) (batch (grid0.coords t)) (feat (grid0.coords t) f) n := by
  unfold vf vN
  split
  · exact (congrFun ((hs2 m t).read_unread _) _).trans (v_block m c t f _)
  · rfl

/-- What the body leaves at a point. -/
theorem out_block (hH : Hyps m) (hr : ∀ j : S64.Idx, (show BitVec 32 from m (((0 : Dev nD).tc : Thread nD τ).loc main_arg0) j).toNat ≤ 4 * ((j 0).val % 8)) (x : Fin 1024) (f : Fin 128) :
    outAt m hH c t (ix3 0 x f) = elem (m ((c.tc : Thread nD τ).loc main_arg0)) (m ((c.tc : Thread nD τ).loc main_arg1)) (m ((c.tc : Thread nD τ).loc main_arg2)) (m ((c.tc : Thread nD τ).loc main_arg3))
      (batch (grid0.coords t)) (pos (grid0.coords t) x) (feat (grid0.coords t) f) := by
  obtain rfl : c = 0 := Subsingleton.elim _ _
  unfold outAt
  refine (outBlock_at _ _ _ _ _ _ _ _ _ _ _ _ (word_range (c := 0) (tbl m 0) hr _) x f).trans ?_
  have hh : pair (grid0.coords t) (if f.val < 64 then 0 else 1) = head (feat (grid0.coords t) f) := by
    have := f.isLt
    apply Fin.ext
    show 2 * (grid0.coords t 1).val + Fin.val (if f.val < 64 then 0 else 1 : Fin 2) = (128 * (grid0.coords t 1).val + f.val) / 64
    split
    · show _ + 0 = _; omega
    · show _ + 1 = _; omega
  have hT : 256 * (show BitVec 32 from wordAt (c := (0 : Dev nD)) (tbl m 0) (grid0.coords t)).toNat
      = first (m (((0 : Dev nD).tc : Thread nD τ).loc main_arg0)) (batch (grid0.coords t)) (pos (grid0.coords t) x) (feat (grid0.coords t) f) := by
    refine congrArg (fun w : BitVec 32 => 256 * w.toNat) ((wordAt_eq (c := (0 : Dev nD)) (tbl m 0) (grid0.coords t)).trans ?_)
    refine congrArg (m (((0 : Dev nD).tc : Thread nD τ).loc main_arg0)) ?_
    funext a
    match a with
    | ⟨0, _⟩ =>
    apply Fin.ext
    have h2 : (grid0.coords t 2).val < 8 := (grid0.coords t 2).isLt
    show 32 * (grid0.coords t 0).val + 8 * (grid0.coords t 1).val + (grid0.coords t 2).val
      = 32 * (grid0.coords t 0).val + 8 * ((128 * (grid0.coords t 1).val + f.val) / 128) + (1024 * (grid0.coords t 2).val + x.val) / 1024
    omega
  unfold attn elem
  have hq : qf (ms0 m t) ((hs0 m t).unread (iblk m 0 0 t)) (if f.val < 64 then 0 else 1) x.val
      = fun d => m (((0 : Dev nD).tc : Thread nD τ).loc main_arg1) (ix4 (batch (grid0.coords t)) (head (feat (grid0.coords t) f)) (pos (grid0.coords t) x) d : S2x8x8192x128.Idx) := by
    funext d; rw [← hh]; exact q_read m 0 t _ x d
  have hk : kf (ms1 m t) ((hs1 m t).unread (iblk m 0 1 t)) (if f.val < 64 then 0 else 1)
      = kN (m (((0 : Dev nD).tc : Thread nD τ).loc main_arg2)) (batch (grid0.coords t)) (head (feat (grid0.coords t) f)) := by
    funext n d; rw [← hh]; exact k_read m 0 t _ n d
  have hv : vf (ms2 m t) ((hs2 m t).unread (iblk m 0 2 t)) f
      = vN (m (((0 : Dev nD).tc : Thread nD τ).loc main_arg3)) (batch (grid0.coords t)) (feat (grid0.coords t) f) := by
    funext n; exact v_read m 0 t f n
  rw [hq, hk, hv]
  rw [hT]
  rfl

end

/-- The array after the run. -/
theorem final (hH : Hyps m) (hr : ∀ j : S64.Idx, (show BitVec 32 from m (((0 : Dev nD).tc : Thread nD τ).loc main_arg0) j).toNat ≤ 4 * ((j 0).val % 8)) (c : Dev nD) :
    (dats m hH 0 c).arrAt 3 (cfgM m).N
    = result (m ((c.tc : Thread nD τ).loc main_arg0)) (m ((c.tc : Thread nD τ).loc main_arg1)) (m ((c.tc : Thread nD τ).loc main_arg2)) (m ((c.tc : Thread nD τ).loc main_arg3)) := by
  refine (dats m hH 0 c).arrAt_eq_of_covers 3 _ (covers m) fun t hf y => ?_
  rw [after_3]
  have e : (y : S1x1024x128.Idx) = ix3 0 (y (1 : Fin 3)) (y (2 : Fin 3)) := by
    funext a
    match a with
    | ⟨0, _⟩ => exact Subsingleton.elim (α := Fin 1) _ _
    | ⟨1, _⟩ => rfl
    | ⟨2, _⟩ => rfl
  have p : ∀ a, ((((cfgM m).win 3).blk t).view.emb y a).val = cc0_transform_3 (grid0.coords t) a * (![1, 1024, 128] : Fin 3 → ℕ) a + (y a).val := fun a =>
    Pipeline.Window.rect_emb_val ((cfgM m).win 3) t y a
  rw [(idx t).2.2.2] at p
  refine (cast_eq _ _).trans (((congrArg (outAt m hH c t) e).trans (out_block m c t hH hr (y (1 : Fin 3)) (y (2 : Fin 3)))).trans ?_)
  · unfold result
    congr 1
    · apply Fin.ext; refine Eq.trans ?_ (p (0 : Fin 3)).symm
      have : (y (0 : Fin 3)).val < 1 := (y (0 : Fin 3)).isLt
      show (grid0.coords t 0).val = (grid0.coords t 0).val * 1 + (y (0 : Fin 3)).val; omega
    · apply Fin.ext; refine Eq.trans ?_ (p (1 : Fin 3)).symm
      show 1024 * (grid0.coords t 2).val + (y (1 : Fin 3)).val = (grid0.coords t 2).val * 1024 + (y (1 : Fin 3)).val; omega
    · apply Fin.ext; refine Eq.trans ?_ (p (2 : Fin 3)).symm
      show 128 * (grid0.coords t 1).val + (y (2 : Fin 3)).val = (grid0.coords t 1).val * 128 + (y (2 : Fin 3)).val; omega

end Cert.KernelIdeal.Fox

end
-- ==== Proof.Softmax.lean ====
/- Softmax over the live keys: the largest score is real, and the quotient of exponentials is the quotient of the weights. -/
module

public import proofs.«01_k».proof.Proof.Ref
public import proofs.«01_k».proof.Proof.Gen.ReferenceIdeal
public import Idealize.ShloMosaic.Lib.Pointwise
public import Idealize.ShloMosaic.Lib.IdealHost
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal.Gen

/-- Every row's largest score. -/
def top (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

theorem neg_inf : Ideal.ofBits FTy.f32 0xFF800000#32 = ⊥ := by
  exact EReal.neg_eq_top_iff.mp rfl

theorem red : S2x8x8192x8192.Reduces [3] S2x8x8192 := by decide

theorem lift_at (b : Fin 2) (h : Fin 8) (p n : Fin 8192) : red.lift (ix3 b h p : S2x8x8192.Idx) n = (ix4 b h p n : S2x8x8192x8192.Idx) := by
  funext a
  fin_cases a <;> rfl

/-- The largest of finitely many values below the top, one of them above the bottom, is real. -/
theorem fold_real {N : ℕ} (g : Fin N → EReal) (hs : ∀ n, g n < ⊤) (n : Fin N) (hn : ⊥ < g n) :
    ∃ r : ℝ, (Finset.univ : Finset (Fin N)).fold (FloatOps.maximumf (F := Ideal) (φ := .f32)) (Ideal.ofBits FTy.f32 0xFF800000#32) g = (r : EReal) := by
  rw [neg_inf]
  have h1 : (Finset.univ : Finset (Fin N)).fold max (⊥ : EReal) g < ⊤ := (Finset.fold_max_lt _).2 ⟨bot_lt_top, fun x _ => hs x⟩
  have h2 : (⊥ : EReal) < (Finset.univ : Finset (Fin N)).fold max (⊥ : EReal) g := (Finset.lt_fold_max _).2 (.inr ⟨n, Finset.mem_univ _, hn⟩)
  exact ⟨_, (EReal.coe_toReal h1.ne h2.ne').symm⟩

theorem max_at (r : FVec Ideal S2x8x8192 .f32) (i : S2x8x8192.Idx) :
    maximumf (broadcastInDim S2x8x8192 ![] bcast_S_S2x8x8192 (constant S_ .f32 0xFF800000#32)) r i = r i :=
  (congrArg (fun a : EReal => max a (r i)) neg_inf).trans (max_eq_right bot_le)

/-- A row's largest score is real when every score is below the top and one is above the bottom. -/
theorem top_real (s : FVec Ideal S2x8x8192x8192 .f32) (b : Fin 2) (h : Fin 8) (p : Fin 8192) (hs : ∀ n, s (ix4 b h p n) < (⊤ : EReal)) (n : Fin 8192) (hn : (⊥ : EReal) < s (ix4 b h p n)) :
    ∃ r : ℝ, top s (ix3 b h p) = (r : EReal) := by
  have e := Host.reduce_eq_fold_single (FloatOps.maximumf (F := Ideal) (φ := .f32)) s (constant S_ .f32 0xFF800000#32) reducesTo_S2x8x8192x8192_S2x8x8192_d3 red h_S_ (ix3 b h p)
  have hl : ∀ n : Fin 8192, s (red.lift (ix3 b h p : S2x8x8192.Idx) n) = s (ix4 b h p n) := fun n => congrArg s (lift_at b h p n)
  obtain ⟨r, hr⟩ := fold_real (N := S2x8x8192x8192.size 3) (s ∘ red.lift (ix3 b h p : S2x8x8192.Idx)) (fun n => (hl n).trans_lt (hs n)) n (hn.trans_eq (hl n).symm)
  exact ⟨r, (max_at _ _).trans (e.trans hr)⟩

/-- Scaling a sum by a nonnegative real. -/
theorem sum_scale {ι : Type} (A : Finset ι) (f : ι → EReal) (r : ℝ) (hr : 0 ≤ r) : (∑ i ∈ A, f i) * (r : EReal) = ∑ i ∈ A, f i * (r : EReal) := by
  classical
  induction A using Finset.induction_on with
  | empty => simp
  | insert a A ha ih =>
    rw [Finset.sum_insert ha, Finset.sum_insert ha, ← ih]
    exact EReal.right_distrib_of_nonneg_of_ne_top (EReal.coe_nonneg.2 hr) (EReal.coe_ne_top r) _ _

theorem sum_coe {ι : Type} (A : Finset ι) (f : ι → ℝ) : (∑ i ∈ A, (f i : EReal)) = ((∑ i ∈ A, f i : ℝ) : EReal) := by
  classical
  induction A using Finset.induction_on with
  | empty => simp
  | insert a A ha ih => rw [Finset.sum_insert ha, Finset.sum_insert ha, ih, EReal.coe_add]

/-- The weights `2 ^ x` divided by their sum are the exponentials of the scores `x * ln 2` less any real divided by
    theirs, the dead keys' scores at the bottom: so the two weighted sums agree, whatever the values. -/
theorem softmax_eq {N : ℕ} (live : Fin N → Prop) [DecidablePred live] (x : Fin N → ℝ) (t : ℝ) (v : Fin N → EReal) (n₀ : Fin N) (h₀ : live n₀)
    (s : Fin N → EReal) (hs : ∀ n, s n = if live n then ((x n * Real.log 2 : ℝ) : EReal) else ⊥) :
    ∑ n, Ideal.div (Ideal.exp (s n - (t : EReal))) (∑ n', Ideal.exp (s n' - (t : EReal))) * v n
      = Ideal.div (∑ n ∈ Finset.univ.filter live, v n * Ideal.exp2 (x n : EReal)) (∑ n ∈ Finset.univ.filter live, Ideal.exp2 (x n : EReal)) := by
  have he : ∀ n, Ideal.exp (s n - (t : EReal)) = ((if live n then Real.rpow 2 (x n) * Real.exp (-t) else 0 : ℝ) : EReal) := by
    intro n
    rw [hs]
    split
    · rw [← EReal.coe_sub, Ideal.exp_coe, sub_eq_add_neg, Real.exp_add]
      congr 2
      show _ = (2 : ℝ) ^ (x n)
      rw [Real.rpow_def_of_pos two_pos, mul_comm]
    · rw [sub_eq_add_neg, EReal.bot_add, Ideal.exp_bot]; rfl
  have hpos : ∀ n, 0 < Real.rpow 2 (x n) := fun n => Real.rpow_pos_of_pos two_pos _
  set W : ℝ := ∑ n ∈ Finset.univ.filter live, Real.rpow 2 (x n) with hW
  have hWp : 0 < W := Finset.sum_pos (fun n _ => hpos n) ⟨n₀, Finset.mem_filter.2 ⟨Finset.mem_univ _, h₀⟩⟩
  have hD : (∑ n, Ideal.exp (s n - (t : EReal))) = ((W * Real.exp (-t) : ℝ) : EReal) := by
    simp only [he]
    rw [sum_coe, ← Finset.sum_filter, ← Finset.sum_mul]
  have hR : (∑ n ∈ Finset.univ.filter live, Ideal.exp2 (x n : EReal)) = (W : EReal) := by
    simp only [Ideal.exp2_coe]
    rw [sum_coe]
  rw [hD, hR]
  have hWt : W * Real.exp (-t) ≠ 0 := (mul_pos hWp (Real.exp_pos _)).ne'
  rw [Ideal.div_coe hWp.ne', sum_scale _ _ _ (by positivity), Finset.sum_filter]
  refine Finset.sum_congr rfl fun n _ => ?_
  rw [Ideal.div_coe hWt, he]
  split
  · rw [Ideal.exp2_coe, ← EReal.coe_mul, mul_comm _ (v n), mul_assoc (v n), ← EReal.coe_mul]
    congr 2
    have := (Real.exp_pos (-t)).ne'
    field_simp
  · rw [EReal.coe_zero, zero_mul, zero_mul]

end Cert.ReferenceIdeal.Attn

end
-- ==== Proof.RefVal.lean ====
/- The reference's result at an index: plain softmax attention over the scores, position by position. -/
module

public import proofs.«01_k».proof.Proof.Softmax
public import proofs.«01_k».proof.Proof.Gen.ReferenceIdeal
public import Idealize.ShloMosaic.Lib.Pointwise
public import Idealize.ShloMosaic.Lib.IdealHost
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal.Gen

/-- The first live key of every position of every head. -/
def low (T : IVec S64 32) : IVec S2x8x8192 32 :=
  muli (shapeCast _ (broadcastInDim S2x8x8x1024 ![0, 1, 2] bcast_S2x8x8_S2x8x8x1024_0_1_2 (shapeCast _ (broadcastInDim S2x4x2x8 ![0, 1, 3] bcast_S2x4x8_S2x4x2x8_0_1_3 (shapeCast _ T shapeCasts_S64_S2x4x8)) shapeCasts_S2x4x2x8_S2x8x8)) shapeCasts_S2x8x8x1024_S2x8x8192) (broadcastInDim S2x8x8192 ![] bcast_S_S2x8x8192 (constantI S_ 32 256#32))

/-- The scores in natural units, the keys that are not live at the bottom. -/
def scores (T : IVec S64 32) (Q K : FVec Ideal S2x8x8192x128 .bf16) : FVec Ideal S2x8x8192x8192 .f32 :=
  select (andi (broadcastInDim S2x8x8192x8192 ![0, 1, 2, 3] bcast_S1x1x8192x8192_S2x8x8192x8192_0_1_2_3 (cmpi .sle (broadcastInDim S1x1x8192x8192 ![0, 1, 2, 3] bcast_S1x1x1x8192_S1x1x8192x8192_0_1_2_3 (broadcastInDim S1x1x1x8192 ![3] bcast_S8192_S1x1x1x8192_3 (iotaInDim S8192 32 0))) (broadcastInDim S1x1x8192x8192 ![0, 1, 2, 3] bcast_S1x1x8192x1_S1x1x8192x8192_0_1_2_3 (broadcastInDim S1x1x8192x1 ![2] bcast_S8192_S1x1x8192x1_2 (iotaInDim S8192 32 0))))) (cmpi .sge (broadcastInDim S2x8x8192x8192 ![0, 1, 2, 3] bcast_S1x1x1x8192_S2x8x8192x8192_0_1_2_3 (broadcastInDim S1x1x1x8192 ![3] bcast_S8192_S1x1x1x8192_3 (iotaInDim S8192 32 0))) (broadcastInDim S2x8x8192x8192 ![0, 1, 2, 3] bcast_S2x8x8192x1_S2x8x8192x8192_0_1_2_3 (broadcastInDim S2x8x8192x1 ![0, 1, 2] bcast_S2x8x8192_S2x8x8192x1_0_1_2 (low T))))) (mulf (Host.dotGeneral dot_S2x8x8192x128_S2x8x8192x128_S2x8x8192x8192_3_3_2_2_01_01 none (extf .f32 Q bitsLt_bf16_f32) (extf .f32 K bitsLt_bf16_f32)) (broadcastInDim S2x8x8192x8192 ![] bcast_S_S2x8x8192x8192 (Host.log (constant S_ .f32 0x40000000#32)))) (broadcastInDim S2x8x8192x8192 ![] bcast_S_S2x8x8192x8192 (id (constant S_ .f32 0xFF800000#32)))

/-- The exponentials of the scores less the largest. -/
def expo (s : FVec Ideal S2x8x8192x8192 .f32) (t : FVec Ideal S2x8x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 t)))

/-- The attention off the exponentials. -/
def outOf (e : FVec Ideal S2x8x8192x8192 .f32) (V : FVec Ideal S2x512x8192 .bf16) : FVec Ideal S2x8192x512 .bf16 :=
  truncf .bf16 (shapeCast _ (transpose S2x8192x8x64 [0, 2, 1, 3] (Host.dotGeneral dot_S2x8x8192x8192_S2x8x64x8192_S2x8x8192x64_3_3_2_2_01_01 none (Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd e (constant S_ .f32 0x00000000#32) reducesTo_S2x8x8192x8192_S2x8x8192_d3 h_S_)))) (shapeCast _ (extf .f32 V bitsLt_bf16_f32) shapeCasts_S2x512x8192_S2x8x64x8192)) transposes_S2x8x8192x64_S2x8192x8x64_0_2_1_3) shapeCasts_S2x8192x8x64_S2x8192x512) bitsLt_bf16_f32

set_option maxHeartbeats 2000000 in
theorem result_eq (m : (ℓ : Loc nD τ sig) → Buf (Elt Ideal) ℓ) (c : Dev nD) :
    Value.res_main_v43 m c = outOf (expo (scores (m ((c.tc : Thread nD τ).loc main_arg0)) (m ((c.tc : Thread nD τ).loc main_arg1)) (m ((c.tc : Thread nD τ).loc main_arg2)))
      (top (scores (m ((c.tc : Thread nD τ).loc main_arg0)) (m ((c.tc : Thread nD τ).loc main_arg1)) (m ((c.tc : Thread nD τ).loc main_arg2))))) (m ((c.tc : Thread nD τ).loc main_arg3)) := by
  unfold Value.res_main_v43 outOf expo top scores low
  rfl

theorem low_at (T : IVec S64 32) (b : Fin 2) (h : Fin 8) (p : Fin 8192) (f : Fin 512) (hf : f.val / 64 = h.val) (hT : (T (ix1 ⟨32 * b.val + 8 * (f.val / 128) + p.val / 1024, by omega⟩)).toNat ≤ 28) :
    low T (ix3 b h p) = BitVec.ofNat 32 (256 * (T (ix1 ⟨32 * b.val + 8 * (f.val / 128) + p.val / 1024, by omega⟩)).toNat) := by
  have e : low T (ix3 b h p) = T (ix1 ⟨32 * b.val + 8 * (f.val / 128) + p.val / 1024, by omega⟩) * 256#32 := by
    have ht : low T (ix3 b h p) = IntOp.muli (T (ix1 ⟨b.val * 32 + h.val / 2 * 8 + p.val / 1024, by omega⟩)) 256#32 := by pointwise [low]
    rw [ht]
    show T _ * _ = T _ * _
    congr 3
    apply Fin.ext
    show b.val * 32 + h.val / 2 * 8 + p.val / 1024 = 32 * b.val + 8 * (f.val / 128) + p.val / 1024
    omega
  rw [e]
  generalize T (ix1 ⟨32 * b.val + 8 * (f.val / 128) + p.val / 1024, by omega⟩) = w at hT ⊢
  apply BitVec.eq_of_toNat_eq
  rw [BitVec.toNat_mul, BitVec.toNat_ofNat]
  show w.toNat * 256 % _ = _
  rw [mul_comm, BitVec.toNat_ofNat]

/-- A score: the scaled product at a live key, the bottom at another. -/
theorem scores_at (T : IVec S64 32) (Q K : FVec Ideal S2x8x8192x128 .bf16) (b : Fin 2) (h : Fin 8) (p n : Fin 8192) (L : ℕ) (hL : L < 2 ^ 31) (hl : low T (ix3 b h p) = BitVec.ofNat 32 L) :
    scores T Q K (ix4 b h p n) = if L ≤ n.val ∧ n.val ≤ p.val then (∑ d, Q (ix4 b h p d) * K (ix4 b h n d)) * Ideal.log (Ideal.ofBits FTy.f32 0x40000000#32) else ⊥ := by
  have e : scores T Q K (ix4 b h p n) = Scalar.select (α := EReal)
      (IntOp.andi (IntOp.cmpi CmpIPredicate.sle (BitVec.ofNat 32 n.val) (BitVec.ofNat 32 p.val)) (IntOp.cmpi CmpIPredicate.sge (BitVec.ofNat 32 n.val) (low T (ix3 b h p))))
      ((∑ d, Q (ix4 b h p d) * K (ix4 b h n d)) * Ideal.log (Ideal.ofBits FTy.f32 0x40000000#32)) (id (constant (F := Ideal) S_ FTy.f32 0xFF800000#32) ix0) := by
    pointwise [scores]
  rw [e, hl, WordCmp.cmpi_sle_ofNat (w := 32) (by omega) (by omega), WordCmp.cmpi_sge_ofNat (w := 32) (by omega) (by omega)]
  have hb : (id (constant (F := Ideal) S_ FTy.f32 0xFF800000#32) ix0 : EReal) = ⊥ := neg_inf
  rw [hb]
  have hs : ∀ (P R : Prop) [Decidable P] [Decidable R] (x y : EReal), Scalar.select (α := EReal) (IntOp.andi (BitVec.ofBool (decide P)) (BitVec.ofBool (decide R))) x y = if R ∧ P then x else y := by
    intro P R _ _ x y
    by_cases hP : P <;> by_cases hR : R <;> simp [hP, hR, Scalar.select, IntOp.andi]
  exact hs _ _ _ _

theorem expo_at (s t) (b : Fin 2) (h : Fin 8) (p n : Fin 8192) : expo s t (ix4 b h p n) = Ideal.exp (s (ix4 b h p n) - t (ix3 b h p)) := by
  pointwise [expo]

theorem outOf_at (e V) (b : Fin 2) (p : Fin 8192) (f : Fin 512) : outOf e V (ix3 b p f)
    = ∑ n : Fin 8192, Ideal.div (e (ix4 b ⟨f.val / 64, by omega⟩ p n)) (∑ n' : Fin 8192, e (ix4 b ⟨f.val / 64, by omega⟩ p n')) * V (ix3 b f n) := by
  pointwise [outOf]

theorem log_two : Ideal.log (Ideal.ofBits FTy.f32 0x40000000#32) = ((Real.log 2 : ℝ) : EReal) := by
  have h2 : Ideal.ofBits FTy.f32 0x40000000#32 = ((2 : ℝ) : EReal) := by
    simp [Ideal.ofBits, Ideal.ieee, -EReal.coe_mul]; norm_num
  rw [h2, Ideal.log_coe, if_neg (by norm_num)]

/-- A product of finite rows is real. -/
theorem dot_real {N : ℕ} (q k : Fin N → EReal) (hq : ∀ d, q d ≠ ⊤ ∧ q d ≠ ⊥) (hk : ∀ d, k d ≠ ⊤ ∧ k d ≠ ⊥) : (∑ d, q d * k d) = ((∑ d, (q d).toReal * (k d).toReal : ℝ) : EReal) := by
  rw [← sum_coe]
  refine Finset.sum_congr rfl fun d _ => ?_
  rw [EReal.coe_mul, EReal.coe_toReal (hq d).1 (hq d).2, EReal.coe_toReal (hk d).1 (hk d).2]

/-- The reference's result at an index, of finite queries and keys. -/
theorem out_at (T : IVec S64 32) (Q K : FVec Ideal S2x8x8192x128 .bf16) (V : FVec Ideal S2x512x8192 .bf16) (hQ : ∀ i, Q i ≠ (⊤ : EReal) ∧ Q i ≠ (⊥ : EReal)) (hK : ∀ i, K i ≠ (⊤ : EReal) ∧ K i ≠ (⊥ : EReal))
    (b : Fin 2) (p : Fin 8192) (f : Fin 512) (L : ℕ) (hLp : L ≤ p.val) (hl : low T (ix3 b ⟨f.val / 64, by omega⟩ p) = BitVec.ofNat 32 L) :
    outOf (expo (scores T Q K) (top (scores T Q K))) V (ix3 b p f)
      = Ideal.div (∑ n ∈ Finset.univ.filter fun n : Fin 8192 => L ≤ n.val ∧ n.val ≤ p.val, V (ix3 b f n) * Ideal.exp2 (∑ d, K (ix4 b ⟨f.val / 64, by omega⟩ n d) * Q (ix4 b ⟨f.val / 64, by omega⟩ p d)))
        (∑ n ∈ Finset.univ.filter fun n : Fin 8192 => L ≤ n.val ∧ n.val ≤ p.val, Ideal.exp2 (∑ d, K (ix4 b ⟨f.val / 64, by omega⟩ n d) * Q (ix4 b ⟨f.val / 64, by omega⟩ p d))) := by
  set h : Fin 8 := ⟨f.val / 64, by omega⟩ with hh
  have hx : ∀ n : Fin 8192, (∑ d, Q (ix4 b h p d) * K (ix4 b h n d)) = ((∑ d, EReal.toReal (Q (ix4 b h p d)) * EReal.toReal (K (ix4 b h n d)) : ℝ) : EReal) := fun n =>
    dot_real (fun d => Q (ix4 b h p d)) (fun d => K (ix4 b h n d)) (fun d => hQ _) (fun d => hK _)
  set x : Fin 8192 → ℝ := fun n => ∑ d, EReal.toReal (Q (ix4 b h p d)) * EReal.toReal (K (ix4 b h n d)) with hxd
  have hs : ∀ n : Fin 8192, scores T Q K (ix4 b h p n) = if L ≤ n.val ∧ n.val ≤ p.val then ((x n * Real.log 2 : ℝ) : EReal) else ⊥ := by
    intro n
    rw [scores_at T Q K b h p n L (by omega) hl, hx n, log_two, ← EReal.coe_mul]
  obtain ⟨t, ht⟩ := top_real (scores T Q K) b h p (fun n => by rw [hs]; split; exacts [EReal.coe_lt_top _, bot_lt_top]) p
    (by rw [hs, if_pos ⟨hLp, le_rfl⟩]; exact EReal.bot_lt_coe _)
  rw [outOf_at]
  simp only [expo_at]
  rw [ht]
  refine (softmax_eq (fun n : Fin 8192 => L ≤ n.val ∧ n.val ≤ p.val) x t (fun n => V (ix3 b f n)) p ⟨hLp, le_rfl⟩ (fun n => scores T Q K (ix4 b h p n)) hs).trans ?_
  have hk : ∀ n : Fin 8192, (∑ d, K (ix4 b h n d) * Q (ix4 b h p d)) = (x n : EReal) := fun n =>
    (Finset.sum_congr rfl fun d _ => mul_comm _ _).trans (hx n)
  simp only [hk]

end Cert.ReferenceIdeal.Attn

end
-- ==== Proof.Value.lean ====
/- The value claim: the kernel's result array is the reference's. -/
module

public import proofs.«01_k».proof.Proof.Array
public import proofs.«01_k».proof.Proof.RefVal
public import proofs.«01_k».proof.Proof.Finite

@[expose] public section

set_option maxRecDepth 16384

noncomputable section

namespace Cert.KernelIdeal.Fox

open Idealize.ShloMosaic Idealize.ShloMosaic.TcCoe Idealize.SL.Sem
open Cert.KernelIdeal.Gen
open Cert.ReferenceIdeal.Attn (low scores top expo)

theorem inf_bf16 : Ideal.ofBits FTy.bf16 0x7F80#16 = (⊤ : EReal) := by
  simp [Ideal.ofBits, Ideal.ieee]

/-- A value whose magnitude is below the top is neither end. -/
theorem finite_of (x : EReal) (h : Ideal.cmp .olt (max x (-x)) ⊤ = 1#1) : x ≠ ⊤ ∧ x ≠ ⊥ := by
  have h' : max x (-x) < ⊤ := (StableHlo.Predicate.ofBool_eq_one_iff _).1 h |> of_decide_eq_true
  constructor
  · rintro rfl; exact absurd h' (by simp)
  · rintro rfl; exact absurd h' (by simp)

theorem finite_q (T : IVec S64 32) (Q K : FVec Ideal S2x8x8192x128 .bf16) (V : FVec Ideal S2x512x8192 .bf16)
    (h : (Cert.Pre_in_range_finite.fn (F := Ideal) T Q K V).2.1 = fun _ => 1#1) (i : S2x8x8192x128.Idx) : Q i ≠ (⊤ : EReal) ∧ Q i ≠ (⊥ : EReal) := by
  refine finite_of _ ?_
  have e := congrFun h i
  rw [← inf_bf16]
  exact e

theorem finite_k (T : IVec S64 32) (Q K : FVec Ideal S2x8x8192x128 .bf16) (V : FVec Ideal S2x512x8192 .bf16)
    (h : (Cert.Pre_in_range_finite.fn (F := Ideal) T Q K V).2.2 = fun _ => 1#1) (i : S2x8x8192x128.Idx) : K i ≠ (⊤ : EReal) ∧ K i ≠ (⊥ : EReal) := by
  refine finite_of _ ?_
  have e := congrFun h i
  rw [← inf_bf16]
  exact e

/-- A sum over an interval of positions, over the positions themselves. -/
theorem sum_live {N : ℕ} (lo p : ℕ) (hp : p < N) (g : ℕ → EReal) :
    ∑ n ∈ Finset.Ico lo (p + 1), g n = ∑ n ∈ Finset.univ.filter (fun n : Fin N => lo ≤ n.val ∧ n.val ≤ p), g n.val := by
  refine (Finset.sum_nbij (fun n : Fin N => n.val) ?_ ?_ ?_ fun _ _ => rfl).symm
  · intro n hn
    have := (Finset.mem_filter.1 hn).2
    exact Finset.mem_Ico.2 ⟨this.1, by omega⟩
  · intro a _ b _ h; exact Fin.ext h
  · intro n hn
    have hn := Finset.mem_Ico.1 (Finset.mem_coe.1 hn)
    exact ⟨⟨n, by omega⟩, Finset.mem_coe.2 (Finset.mem_filter.2 ⟨Finset.mem_univ _, hn.1, by show n ≤ p; omega⟩), rfl⟩

/-- The kernel's array and the reference's term agree. -/
theorem result_ref (T : IVec S64 32) (Q K : FVec Ideal S2x8x8192x128 .bf16) (V : FVec Ideal S2x512x8192 .bf16)
    (hT : ∀ j : S64.Idx, (T j).toNat ≤ 4 * ((j 0).val % 8)) (hQ : ∀ i, Q i ≠ (⊤ : EReal) ∧ Q i ≠ (⊥ : EReal)) (hK : ∀ i, K i ≠ (⊤ : EReal) ∧ K i ≠ (⊥ : EReal)) :
    Cert.ReferenceIdeal.Attn.outOf (expo (scores T Q K) (top (scores T Q K))) V = result T Q K V := by
  funext i
  have ei : i = (ix3 (i 0) (i 1) (i 2) : S2x8192x512.Idx) := by
    funext a
    match a with
    | ⟨0, _⟩ => rfl
    | ⟨1, _⟩ => rfl
    | ⟨2, _⟩ => rfl
  have key : ∀ (b : Fin 2) (p : Fin 8192) (f : Fin 512), Cert.ReferenceIdeal.Attn.outOf (expo (scores T Q K) (top (scores T Q K))) V (ix3 b p f) = elem T Q K V b p f := by
    intro b p f
    have hc := hT (ix1 ⟨32 * b.val + 8 * (f.val / 128) + p.val / 1024, by omega⟩)
    have hc : (T (ix1 ⟨32 * b.val + 8 * (f.val / 128) + p.val / 1024, by omega⟩)).toNat ≤ 4 * ((32 * b.val + 8 * (f.val / 128) + p.val / 1024) % 8) := hc
    have hlo : first T b p f ≤ p.val := by
      unfold first
      omega
    refine (Cert.ReferenceIdeal.Attn.out_at T Q K V hQ hK b p f (first T b p f) hlo (Cert.ReferenceIdeal.Attn.low_at T b ⟨f.val / 64, by omega⟩ p f rfl (by omega))).trans ?_
    unfold elem
    rw [sum_live (N := 8192) _ _ p.isLt, sum_live (N := 8192) _ _ p.isLt]
    have hk : ∀ n : Fin 8192, kN K b (head f) n.val = fun d => K (ix4 b (head f) n d) := fun n => by
      funext d; unfold kN; rw [dif_pos n.isLt]
    have hv : ∀ n : Fin 8192, vN V b f n.val = V (ix3 b f n) := fun n => by
      unfold vN; rw [dif_pos n.isLt]
    simp only [hv, pw, hk]
    rfl
  rw [ei]
  exact key _ _ _

theorem algebraic : Cert.algebraic_KernelIdeal_ReferenceIdeal_pre_in_range_finite (hKernelIdeal := Cert.KernelIdeal.Gen.facts)
    (hReferenceIdeal := Cert.ReferenceIdeal.Gen.facts) (hPre_in_range_finite := Cert.Pre_in_range_finite.Gen.facts) := by
  intro m g m' g' hp hargs
  have hr : ∀ j : S64.Idx, (show BitVec 32 from m (((0 : Dev nD).tc : Thread nD τ).loc main_arg0) j).toNat ≤ 4 * ((j 0).val % 8) :=
    fun j => range_of_finite (F := Ideal) _ _ _ _ (hp 0).1 j
  have hH : Hyps m := hyps_of m hr
  refine ⟨fun c => result (m ((c.tc : Thread nD τ).loc main_arg0)) (m ((c.tc : Thread nD τ).loc main_arg1)) (m ((c.tc : Thread nD τ).loc main_arg2)) (m ((c.tc : Thread nD τ).loc main_arg3)), ?_, ?_⟩
  · refine (θ_run defs _ _).mono (fun r h c => ⟨?_, h.2 c⟩) (θ_run_and (run_main m g hH) (unchanged m g hH))
    exact ((h.1 c).1 3).trans (final m hH hr c)
  · refine (θ_run _ _ _).mono (fun r h c => ⟨(h c).1.trans ?_, (h c).2⟩) (Cert.ReferenceIdeal.Value.run m' g')
    obtain rfl : c = 0 := Subsingleton.elim _ _
    have ha := hargs 0
    refine (Cert.ReferenceIdeal.Attn.result_eq m' 0).trans ?_
    rw [ha.1, ha.2.1, ha.2.2.1, ha.2.2.2]
    exact result_ref _ _ _ _ hr (finite_q _ _ _ _ (hp 0).2.1) (finite_k _ _ _ _ (hp 0).2.2)

end Cert.KernelIdeal.Fox

end
-- ==== Proof.MoeSetup.lean ====
/- The experts' kernel as the pipeline calls it, and its body cut into its steps: the first expert's weights asked for, the
   next expert's weights taken and the one after it asked for, and the two halves of a tile of tokens. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Batch
public import Idealize.ShloMosaic.Lib.Tactic
public import Idealize.ShloMosaic.Lib.WordCmp

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

/-! The tables, the weights where they lie, and the scratch, as the body is handed them. -/
abbrev teM : Memref sig .tc .smem S96 .i32 := Memref.whole main_arg0
abbrev hteM : teM.IsWhole := Memref.isWhole_whole _
abbrev tbM : Memref sig .tc .smem S96 .i32 := Memref.whole main_arg1
abbrev htbM : tbM.IsWhole := Memref.isWhole_whole _
abbrev trM : Memref sig .tc .smem S96 .i32 := Memref.whole main_arg2
abbrev htrM : trM.IsWhole := Memref.isWhole_whole _
abbrev nxM : Memref sig .tc .smem S96 .i32 := Memref.whole main_arg3
abbrev hnxM : nxM.IsWhole := Memref.isWhole_whole _
abbrev wgM : Memref sig .tc .hbm S32x1024x512 .f32 := Memref.whole main_arg5
abbrev hwgM : wgM.IsWhole := Memref.isWhole_whole _
abbrev wuM : Memref sig .tc .hbm S32x1024x512 .f32 := Memref.whole main_arg6
abbrev hwuM : wuM.IsWhole := Memref.isWhole_whole _
abbrev wdM : Memref sig .tc .hbm S32x512x1024 .f32 := Memref.whole main_arg7
abbrev hwdM : wdM.IsWhole := Memref.isWhole_whole _
abbrev cgM : Memref sig .tc .vmem S1024x1024 .bf16 := Memref.whole cc0_scratch0
abbrev hcgM : cgM.IsWhole := Memref.isWhole_whole _
abbrev cdM : Memref sig .tc .vmem S512x1024 .bf16 := Memref.whole cc0_scratch1
abbrev hcdM : cdM.IsWhole := Memref.isWhole_whole _
abbrev stM : Memref sig .tc .vmem S4096x128 .f32 := Memref.whole cc0_scratch2
abbrev hstM : stM.IsWhole := Memref.isWhole_whole _
abbrev fgM : Memref sig .tc .vmem S1024x512 .f32 := Memref.whole cc0_scratch3
abbrev hfgM : fgM.IsWhole := Memref.isWhole_whole _
abbrev fuM : Memref sig .tc .vmem S1024x512 .f32 := Memref.whole cc0_scratch4
abbrev hfuM : fuM.IsWhole := Memref.isWhole_whole _
abbrev fdM : Memref sig .tc .vmem S512x1024 .f32 := Memref.whole cc0_scratch5
abbrev hfdM : fdM.IsWhole := Memref.isWhole_whole _
abbrev smM : DmaSems sig S_ := cc0_scratch6

/-- The first point asks for the first expert's weights. -/
def ask0 (i : grid0.Coords) : Prog (TpuEff nD τ sig (Elt F) Λ₀ .tc) PUnit := do
  if h1 : k0_cond1 i = 1#1 then do
    let v30 : Elt F .i32 ← smemLoad teM (Rect.unit (s := S96) ![0] S1.size inb_S96_S1_0) numel1_S1 rfl
    have hw1 : k0_chk1 i v30 := (← Prog.lift (TpuEff.assume (k0_chk1 i v30) (k0_chk1.dec i v30))).down
    let v31 : Memref sig .tc .hbm S1x1024x512 .f32 := wgM.slice (Rect.unit (s := S32x1024x512) (k0_off3 v30) S1x1024x512.size (k0_off3_inb i v30 hw1 h1)) (fun _ => rfl)
    let v32 : Memref sig .tc .hbm S1024x512 .f32 := v31.squeeze S1024x512 squeezes_S1x1024x512_S1024x512
    Prog.lift (.enqueueDma v32 (.here fgM) (.dma smM.sem) ((View.wordExact_bits rfl).reshape _ _) hfgM.wordExact ⟨Or.inl rfl, trivial⟩)
    let v33 : Memref sig .tc .hbm S1x1024x512 .f32 := wuM.slice (Rect.unit (s := S32x1024x512) (k0_off3 v30) S1x1024x512.size (k0_off3_inb i v30 hw1 h1)) (fun _ => rfl)
    let v34 : Memref sig .tc .hbm S1024x512 .f32 := v33.squeeze S1024x512 squeezes_S1x1024x512_S1024x512
    Prog.lift (.enqueueDma v34 (.here fuM) (.dma smM.sem) ((View.wordExact_bits rfl).reshape _ _) hfuM.wordExact ⟨Or.inl rfl, trivial⟩)
    let v35 : Memref sig .tc .hbm S1x512x1024 .f32 := wdM.slice (Rect.unit (s := S32x512x1024) (k0_off4 v30) S1x512x1024.size (k0_off4_inb i v30 hw1 h1)) (fun _ => rfl)
    let v36 : Memref sig .tc .hbm S512x1024 .f32 := v35.squeeze S512x1024 squeezes_S1x512x1024_S512x1024
    Prog.lift (.enqueueDma v36 (.here fdM) (.dma smM.sem) ((View.wordExact_bits rfl).reshape _ _) hfdM.wordExact ⟨Or.inl rfl, trivial⟩)
    pure ⟨⟩
  else do
    pure ⟨⟩

/-- A live tile whose expert differs from the tile's before it takes the weights on the way, converts them, and asks for the
    next expert's if there is one. -/
def take (i : grid0.Coords) (v1 v4 v8 : BitVec 32) : Prog (TpuEff nD τ sig (Elt F) Λ₀ .tc) PUnit := do
  if h2 : k0_cond2 i v1 v4 v8 = 1#1 then do
    let v31 : Elt F .i32 ← smemLoad teM (Rect.unit (s := S96) (k0_off5 i) S1.size (k0_off5_inb i)) numel1_S1 rfl
    have hw2 : k0_chk2 i v1 v4 v8 v31 := (← Prog.lift (TpuEff.assume (k0_chk2 i v1 v4 v8 v31) (k0_chk2.dec i v1 v4 v8 v31))).down
    let v32 : Memref sig .tc .hbm S1x1024x512 .f32 := wgM.slice (Rect.unit (s := S32x1024x512) (k0_off6 v31) S1x1024x512.size (k0_off6_inb i v1 v4 v8 v31 hw2 h2)) (fun _ => rfl)
    let v33 : Memref sig .tc .hbm S1024x512 .f32 := v32.squeeze S1024x512 squeezes_S1x1024x512_S1024x512
    Prog.lift (.waitDma2 smM.sem v33 fgM ((View.wordExact_bits rfl).reshape _ _) hfgM.wordExact)
    let v34 : Memref sig .tc .hbm S1x1024x512 .f32 := wuM.slice (Rect.unit (s := S32x1024x512) (k0_off6 v31) S1x1024x512.size (k0_off6_inb i v1 v4 v8 v31 hw2 h2)) (fun _ => rfl)
    let v35 : Memref sig .tc .hbm S1024x512 .f32 := v34.squeeze S1024x512 squeezes_S1x1024x512_S1024x512
    Prog.lift (.waitDma2 smM.sem v35 fuM ((View.wordExact_bits rfl).reshape _ _) hfuM.wordExact)
    let v36 : Memref sig .tc .hbm S1x512x1024 .f32 := wdM.slice (Rect.unit (s := S32x512x1024) (k0_off7 v31) S1x512x1024.size (k0_off7_inb i v1 v4 v8 v31 hw2 h2)) (fun _ => rfl)
    let v37 : Memref sig .tc .hbm S512x1024 .f32 := v36.squeeze S512x1024 squeezes_S1x512x1024_S512x1024
    Prog.lift (.waitDma2 smM.sem v37 fdM ((View.wordExact_bits rfl).reshape _ _) hfdM.wordExact)
    let v38 : Vec F S1024x512 .f32 ← Prog.lift (.load fgM (Rect.unit (s := S1024x512) ![0, 0] S1024x512.size inb_S1024x512_S1024x512_0_0).toLoadRect (View.loadsAt_vmem h_S1024x512))
    let v40 : Vec F S1024x512 .bf16 ← Prog.lift (.load cgM (Rect.unit (s := S1024x1024) ![0, 0] S1024x512.size inb_S1024x1024_S1024x512_0_0).toLoadRect (View.loadsAt_vmem h_S1024x512))
    Prog.lift (.store cgM (Rect.unit (s := S1024x1024) ![0, 0] S1024x512.size inb_S1024x1024_S1024x512_0_0) (k0_pay1 v38) Finset.univ (View.stores_vmem h_S1024x512 (hcgM.storeExact_slice rfl _ packedbf16_S1024x1024_S1024x512_0_0) (fun _ => rfl)) (.inl rfl))
    let v43 : Vec F S1024x512 .f32 ← Prog.lift (.load fuM (Rect.unit (s := S1024x512) ![0, 0] S1024x512.size inb_S1024x512_S1024x512_0_0).toLoadRect (View.loadsAt_vmem h_S1024x512))
    let v45 : Vec F S1024x512 .bf16 ← Prog.lift (.load cgM (Rect.unit (s := S1024x1024) ![0, 512] S1024x512.size inb_S1024x1024_S1024x512_0_512).toLoadRect (View.loadsAt_vmem h_S1024x512))
    Prog.lift (.store cgM (Rect.unit (s := S1024x1024) ![0, 512] S1024x512.size inb_S1024x1024_S1024x512_0_512) (k0_pay2 v43) Finset.univ (View.stores_vmem h_S1024x512 (hcgM.storeExact_slice rfl _ packedbf16_S1024x1024_S1024x512_0_512) (fun _ => rfl)) (.inl rfl))
    let v48 : Vec F S512x1024 .f32 ← Prog.lift (.load fdM (Rect.unit (s := S512x1024) ![0, 0] S512x1024.size inb_S512x1024_S512x1024_0_0).toLoadRect (View.loadsAt_vmem h_S512x1024))
    let v50 : Vec F S512x1024 .bf16 ← Prog.lift (.load cdM (Rect.unit (s := S512x1024) ![0, 0] S512x1024.size inb_S512x1024_S512x1024_0_0).toLoadRect (View.loadsAt_vmem h_S512x1024))
    Prog.lift (.store cdM (Rect.unit (s := S512x1024) ![0, 0] S512x1024.size inb_S512x1024_S512x1024_0_0) (k0_pay3 v48) Finset.univ (View.stores_vmem h_S512x1024 (hcdM.storeExact_slice rfl _ packedbf16_S512x1024_S512x1024_0_0) (fun _ => rfl)) (.inl rfl))
    let v54 : Elt F .i32 ← smemLoad nxM (Rect.unit (s := S96) (k0_off8 i) S1.size (k0_off8_inb i)) numel1_S1 rfl
    if h3 : k0_cond3 v54 = 1#1 then do
      let v59 : Elt F .i32 ← smemLoad nxM (Rect.unit (s := S96) (k0_off9 i) S1.size (k0_off9_inb i)) numel1_S1 rfl
      have hw3 : k0_chk3 i v1 v4 v8 v54 v59 := (← Prog.lift (TpuEff.assume (k0_chk3 i v1 v4 v8 v54 v59) (k0_chk3.dec i v1 v4 v8 v54 v59))).down
      let v60 : Memref sig .tc .hbm S1x1024x512 .f32 := wgM.slice (Rect.unit (s := S32x1024x512) (k0_off10 v59) S1x1024x512.size (k0_off10_inb i v1 v4 v8 v54 v59 hw3 h2 h3)) (fun _ => rfl)
      let v61 : Memref sig .tc .hbm S1024x512 .f32 := v60.squeeze S1024x512 squeezes_S1x1024x512_S1024x512
      Prog.lift (.enqueueDma v61 (.here fgM) (.dma smM.sem) ((View.wordExact_bits rfl).reshape _ _) hfgM.wordExact ⟨Or.inl rfl, trivial⟩)
      let v62 : Memref sig .tc .hbm S1x1024x512 .f32 := wuM.slice (Rect.unit (s := S32x1024x512) (k0_off10 v59) S1x1024x512.size (k0_off10_inb i v1 v4 v8 v54 v59 hw3 h2 h3)) (fun _ => rfl)
      let v63 : Memref sig .tc .hbm S1024x512 .f32 := v62.squeeze S1024x512 squeezes_S1x1024x512_S1024x512
      Prog.lift (.enqueueDma v63 (.here fuM) (.dma smM.sem) ((View.wordExact_bits rfl).reshape _ _) hfuM.wordExact ⟨Or.inl rfl, trivial⟩)
      let v64 : Memref sig .tc .hbm S1x512x1024 .f32 := wdM.slice (Rect.unit (s := S32x512x1024) (k0_off11 v59) S1x512x1024.size (k0_off11_inb i v1 v4 v8 v54 v59 hw3 h2 h3)) (fun _ => rfl)
      let v65 : Memref sig .tc .hbm S512x1024 .f32 := v64.squeeze S512x1024 squeezes_S1x512x1024_S512x1024
      Prog.lift (.enqueueDma v65 (.here fdM) (.dma smM.sem) ((View.wordExact_bits rfl).reshape _ _) hfdM.wordExact ⟨Or.inl rfl, trivial⟩)
      pure ⟨⟩
    else do
      pure ⟨⟩
    pure ⟨⟩
  else do
    pure ⟨⟩

/-- The first half of a tile: the experts' computation where it holds a token, -/
def calc1 (i : grid0.Coords) (arg5 : Memref sig .tc .vmem S4096x128 .bf16) (harg5 : arg5.IsWhole) (arg9 : Memref sig .tc .vmem S4096x128 .f32) (harg9 : arg9.IsWhole) (v1 : BitVec 32) : Prog (TpuEff nD τ sig (Elt F) Λ₀ .tc) PUnit := do
  if h4 : k0_cond4 v1 = 1#1 then do
    let ⟨v54, v57⟩ : Σ' (v54 : FVec F S256x1024 .f32), FVec F S256x128 .f32 ← k0_part1 i teM hteM tbM htbM trM htrM nxM hnxM arg5 harg5 wgM hwgM wuM hwuM wdM hwdM arg9 harg9 cgM hcgM cdM hcdM stM hstM fgM hfgM fuM hfuM fdM hfdM smM
    let v58 : Vec F S256x128 .f32 ← Prog.lift (.load arg9 (⟨![1, 0], S256x128.size, ![8, 1], inb_S4096x128_S256x128_1_0_s_8_1⟩ : LoadRect S4096x128) (View.loadsAt_vmem h_S256x128))
    Prog.lift (.store arg9 ⟨(⟨![1, 0], S256x128.size, ![8, 1], inb_S4096x128_S256x128_1_0_s_8_1⟩ : LoadRect S4096x128), spos_8_1⟩ v57 Finset.univ (View.stores_vmem_bits_univ h_S256x128 rfl) (.inl rfl))
    let v60 : Vec F S256x128 .f32 ← Prog.lift (.load arg9 (⟨![2, 0], S256x128.size, ![8, 1], inb_S4096x128_S256x128_2_0_s_8_1⟩ : LoadRect S4096x128) (View.loadsAt_vmem h_S256x128))
    Prog.lift (.store arg9 ⟨(⟨![2, 0], S256x128.size, ![8, 1], inb_S4096x128_S256x128_2_0_s_8_1⟩ : LoadRect S4096x128), spos_8_1⟩ (k0_pay4 v54) Finset.univ (View.stores_vmem_bits_univ h_S256x128 rfl) (.inl rfl))
    let v62 : Vec F S256x128 .f32 ← Prog.lift (.load arg9 (⟨![3, 0], S256x128.size, ![8, 1], inb_S4096x128_S256x128_3_0_s_8_1⟩ : LoadRect S4096x128) (View.loadsAt_vmem h_S256x128))
    Prog.lift (.store arg9 ⟨(⟨![3, 0], S256x128.size, ![8, 1], inb_S4096x128_S256x128_3_0_s_8_1⟩ : LoadRect S4096x128), spos_8_1⟩ (k0_pay5 v54) Finset.univ (View.stores_vmem_bits_univ h_S256x128 rfl) (.inl rfl))
    let v64 : Vec F S256x128 .f32 ← Prog.lift (.load arg9 (⟨![4, 0], S256x128.size, ![8, 1], inb_S4096x128_S256x128_4_0_s_8_1⟩ : LoadRect S4096x128) (View.loadsAt_vmem h_S256x128))
    Prog.lift (.store arg9 ⟨(⟨![4, 0], S256x128.size, ![8, 1], inb_S4096x128_S256x128_4_0_s_8_1⟩ : LoadRect S4096x128), spos_8_1⟩ (k0_pay6 v54) Finset.univ (View.stores_vmem_bits_univ h_S256x128 rfl) (.inl rfl))
    let v66 : Vec F S256x128 .f32 ← Prog.lift (.load arg9 (⟨![5, 0], S256x128.size, ![8, 1], inb_S4096x128_S256x128_5_0_s_8_1⟩ : LoadRect S4096x128) (View.loadsAt_vmem h_S256x128))
    Prog.lift (.store arg9 ⟨(⟨![5, 0], S256x128.size, ![8, 1], inb_S4096x128_S256x128_5_0_s_8_1⟩ : LoadRect S4096x128), spos_8_1⟩ (k0_pay7 v54) Finset.univ (View.stores_vmem_bits_univ h_S256x128 rfl) (.inl rfl))
    let v68 : Vec F S256x128 .f32 ← Prog.lift (.load arg9 (⟨![6, 0], S256x128.size, ![8, 1], inb_S4096x128_S256x128_6_0_s_8_1⟩ : LoadRect S4096x128) (View.loadsAt_vmem h_S256x128))
    Prog.lift (.store arg9 ⟨(⟨![6, 0], S256x128.size, ![8, 1], inb_S4096x128_S256x128_6_0_s_8_1⟩ : LoadRect S4096x128), spos_8_1⟩ (k0_pay8 v54) Finset.univ (View.stores_vmem_bits_univ h_S256x128 rfl) (.inl rfl))
    let v70 : Vec F S256x128 .f32 ← Prog.lift (.load arg9 (⟨![7, 0], S256x128.size, ![8, 1], inb_S4096x128_S256x128_7_0_s_8_1⟩ : LoadRect S4096x128) (View.loadsAt_vmem h_S256x128))
    Prog.lift (.store arg9 ⟨(⟨![7, 0], S256x128.size, ![8, 1], inb_S4096x128_S256x128_7_0_s_8_1⟩ : LoadRect S4096x128), spos_8_1⟩ (k0_pay9 v54) Finset.univ (View.stores_vmem_bits_univ h_S256x128 rfl) (.inl rfl))
    pure ⟨⟩
  else do
    pure ⟨⟩

/-- zeros otherwise. -/
def zero1 (arg5 : Memref sig .tc .vmem S4096x128 .bf16) (harg5 : arg5.IsWhole) (arg9 : Memref sig .tc .vmem S4096x128 .f32) (harg9 : arg9.IsWhole) (v1 : BitVec 32) : Prog (TpuEff nD τ sig (Elt F) Λ₀ .tc) PUnit := do
  if h5 : k0_cond5 v1 = 1#1 then do
    let v31 : Vec F S2048x128 .f32 ← Prog.lift (.load arg9 (Rect.unit (s := S4096x128) ![0, 0] S2048x128.size inb_S4096x128_S2048x128_0_0).toLoadRect (View.loadsAt_vmem h_S2048x128))
    Prog.lift (.store arg9 (Rect.unit (s := S4096x128) ![0, 0] S2048x128.size inb_S4096x128_S2048x128_0_0) (k0_pay10 (F := F)) Finset.univ (View.stores_vmem_bits_univ h_S2048x128 rfl) (.inl rfl))
    pure ⟨⟩
  else do
    pure ⟨⟩

/-- The second half. -/
def calc2 (i : grid0.Coords) (arg5 : Memref sig .tc .vmem S4096x128 .bf16) (harg5 : arg5.IsWhole) (arg9 : Memref sig .tc .vmem S4096x128 .f32) (harg9 : arg9.IsWhole) (v1 : BitVec 32) : Prog (TpuEff nD τ sig (Elt F) Λ₀ .tc) PUnit := do
  if h6 : k0_cond6 v1 = 1#1 then do
    let ⟨v54, v57⟩ : Σ' (v54 : FVec F S256x1024 .f32), FVec F S256x128 .f32 ← k0_part2 i teM hteM tbM htbM trM htrM nxM hnxM arg5 harg5 wgM hwgM wuM hwuM wdM hwdM arg9 harg9 cgM hcgM cdM hcdM stM hstM fgM hfgM fuM hfuM fdM hfdM smM
    let v58 : Vec F S256x128 .f32 ← Prog.lift (.load arg9 (⟨![2049, 0], S256x128.size, ![8, 1], inb_S4096x128_S256x128_2049_0_s_8_1⟩ : LoadRect S4096x128) (View.loadsAt_vmem h_S256x128))
    Prog.lift (.store arg9 ⟨(⟨![2049, 0], S256x128.size, ![8, 1], inb_S4096x128_S256x128_2049_0_s_8_1⟩ : LoadRect S4096x128), spos_8_1⟩ v57 Finset.univ (View.stores_vmem_bits_univ h_S256x128 rfl) (.inl rfl))
    let v60 : Vec F S256x128 .f32 ← Prog.lift (.load arg9 (⟨![2050, 0], S256x128.size, ![8, 1], inb_S4096x128_S256x128_2050_0_s_8_1⟩ : LoadRect S4096x128) (View.loadsAt_vmem h_S256x128))
    Prog.lift (.store arg9 ⟨(⟨![2050, 0], S256x128.size, ![8, 1], inb_S4096x128_S256x128_2050_0_s_8_1⟩ : LoadRect S4096x128), spos_8_1⟩ (k0_pay11 v54) Finset.univ (View.stores_vmem_bits_univ h_S256x128 rfl) (.inl rfl))
    let v62 : Vec F S256x128 .f32 ← Prog.lift (.load arg9 (⟨![2051, 0], S256x128.size, ![8, 1], inb_S4096x128_S256x128_2051_0_s_8_1⟩ : LoadRect S4096x128) (View.loadsAt_vmem h_S256x128))
    Prog.lift (.store arg9 ⟨(⟨![2051, 0], S256x128.size, ![8, 1], inb_S4096x128_S256x128_2051_0_s_8_1⟩ : LoadRect S4096x128), spos_8_1⟩ (k0_pay12 v54) Finset.univ (View.stores_vmem_bits_univ h_S256x128 rfl) (.inl rfl))
    let v64 : Vec F S256x128 .f32 ← Prog.lift (.load arg9 (⟨![2052, 0], S256x128.size, ![8, 1], inb_S4096x128_S256x128_2052_0_s_8_1⟩ : LoadRect S4096x128) (View.loadsAt_vmem h_S256x128))
    Prog.lift (.store arg9 ⟨(⟨![2052, 0], S256x128.size, ![8, 1], inb_S4096x128_S256x128_2052_0_s_8_1⟩ : LoadRect S4096x128), spos_8_1⟩ (k0_pay13 v54) Finset.univ (View.stores_vmem_bits_univ h_S256x128 rfl) (.inl rfl))
    let v66 : Vec F S256x128 .f32 ← Prog.lift (.load arg9 (⟨![2053, 0], S256x128.size, ![8, 1], inb_S4096x128_S256x128_2053_0_s_8_1⟩ : LoadRect S4096x128) (View.loadsAt_vmem h_S256x128))
    Prog.lift (.store arg9 ⟨(⟨![2053, 0], S256x128.size, ![8, 1], inb_S4096x128_S256x128_2053_0_s_8_1⟩ : LoadRect S4096x128), spos_8_1⟩ (k0_pay14 v54) Finset.univ (View.stores_vmem_bits_univ h_S256x128 rfl) (.inl rfl))
    let v68 : Vec F S256x128 .f32 ← Prog.lift (.load arg9 (⟨![2054, 0], S256x128.size, ![8, 1], inb_S4096x128_S256x128_2054_0_s_8_1⟩ : LoadRect S4096x128) (View.loadsAt_vmem h_S256x128))
    Prog.lift (.store arg9 ⟨(⟨![2054, 0], S256x128.size, ![8, 1], inb_S4096x128_S256x128_2054_0_s_8_1⟩ : LoadRect S4096x128), spos_8_1⟩ (k0_pay15 v54) Finset.univ (View.stores_vmem_bits_univ h_S256x128 rfl) (.inl rfl))
    let v70 : Vec F S256x128 .f32 ← Prog.lift (.load arg9 (⟨![2055, 0], S256x128.size, ![8, 1], inb_S4096x128_S256x128_2055_0_s_8_1⟩ : LoadRect S4096x128) (View.loadsAt_vmem h_S256x128))
    Prog.lift (.store arg9 ⟨(⟨![2055, 0], S256x128.size, ![8, 1], inb_S4096x128_S256x128_2055_0_s_8_1⟩ : LoadRect S4096x128), spos_8_1⟩ (k0_pay16 v54) Finset.univ (View.stores_vmem_bits_univ h_S256x128 rfl) (.inl rfl))
    pure ⟨⟩
  else do
    pure ⟨⟩

def zero2 (arg5 : Memref sig .tc .vmem S4096x128 .bf16) (harg5 : arg5.IsWhole) (arg9 : Memref sig .tc .vmem S4096x128 .f32) (harg9 : arg9.IsWhole) (v1 : BitVec 32) : Prog (TpuEff nD τ sig (Elt F) Λ₀ .tc) PUnit := do
  if h7 : k0_cond7 v1 = 1#1 then do
    let v31 : Vec F S2048x128 .f32 ← Prog.lift (.load arg9 (Rect.unit (s := S4096x128) ![2048, 0] S2048x128.size inb_S4096x128_S2048x128_2048_0).toLoadRect (View.loadsAt_vmem h_S2048x128))
    Prog.lift (.store arg9 (Rect.unit (s := S4096x128) ![2048, 0] S2048x128.size inb_S4096x128_S2048x128_2048_0) (k0_pay17 (F := F)) Finset.univ (View.stores_vmem_bits_univ h_S2048x128 rfl) (.inl rfl))
    pure ⟨⟩
  else do
    pure ⟨⟩

/-- The body as its steps. -/
def steps (i : grid0.Coords) (arg5 : Memref sig .tc .vmem S4096x128 .bf16) (harg5 : arg5.IsWhole) (arg9 : Memref sig .tc .vmem S4096x128 .f32) (harg9 : arg9.IsWhole) : Prog (TpuEff nD τ sig (Elt F) Λ₀ .tc) PUnit := do
  let v1 : Elt F .i32 ← smemLoad trM (Rect.unit (s := S96) (k0_off1 i) S1.size (k0_off1_inb i)) numel1_S1 rfl
  let v4 : Elt F .i32 ← smemLoad teM (Rect.unit (s := S96) (k0_off1 i) S1.size (k0_off1_inb i)) numel1_S1 rfl
  let v8 : Elt F .i32 ← smemLoad teM (Rect.unit (s := S96) (k0_off2 i) S1.size (k0_off2_inb i)) numel1_S1 rfl
  ask0 i
  take i v1 v4 v8
  calc1 i arg5 harg5 arg9 harg9 v1
  zero1 arg5 harg5 arg9 harg9 v1
  calc2 i arg5 harg5 arg9 harg9 v1
  zero2 arg5 harg5 arg9 harg9 v1
  pure ⟨⟩

/-- The body on the buffers it is handed. -/
abbrev bodyOn (i : grid0.Coords) (arg5 : Memref sig .tc .vmem S4096x128 .bf16) (harg5 : arg5.IsWhole) (arg9 : Memref sig .tc .vmem S4096x128 .f32) (harg9 : arg9.IsWhole) : Prog (TpuEff nD τ sig (Elt F) Λ₀ .tc) PUnit :=
  cc0_experts i teM hteM tbM htbM trM htrM nxM hnxM arg5 harg5 wgM hwgM wuM hwuM wdM hwdM arg9 harg9 cgM hcgM cdM hcdM stM hstM fgM hfgM fuM hfuM fdM hfdM smM

/-- A branch that goes on after it is the branch, then what follows. -/
theorem cut {c : Prop} [Decidable c] {k k' : Prog (TpuEff nD τ sig (Elt F) Λ₀ .tc) PUnit} (hk : k = k') {A' A : c → Prog (TpuEff nD τ sig (Elt F) Λ₀ .tc) PUnit}
    (hA : ∀ h, A' h = (A h >>= fun _ => k)) :
    (if h : c then A' h else k) = ((if h : c then A h else pure PUnit.unit) >>= fun _ => k') := by
  subst hk
  by_cases h : c
  · rw [dif_pos h, dif_pos h, hA]
  · rw [dif_neg h, dif_neg h, pure_bind]

set_option maxHeartbeats 4000000 in
set_option maxRecDepth 65536 in
theorem bodyOn_eq (i : grid0.Coords) (arg5 : Memref sig .tc .vmem S4096x128 .bf16) (harg5 : arg5.IsWhole) (arg9 : Memref sig .tc .vmem S4096x128 .f32) (harg9 : arg9.IsWhole) :
    (bodyOn i arg5 harg5 arg9 harg9 : Prog (TpuEff nD τ sig (Elt F) Λ₀ .tc) PUnit) = steps i arg5 harg5 arg9 harg9 := by
  unfold bodyOn
  rw [cc0_experts_eq_skeleton]; unfold cc0_experts_skel steps
  refine bind_congr fun v1 => bind_congr fun v4 => bind_congr fun v8 => ?_
  refine cut ?_ (fun h => ?_)
  · refine cut ?_ (fun h => ?_)
    · refine cut ?_ (fun h => ?_)
      · refine cut ?_ (fun h => ?_)
        · refine cut ?_ (fun h => ?_)
          · refine cut ?_ (fun h => ?_)
            · rfl
            · rfl
          · simp only [bind_assoc, pure_bind]
        · rfl
      · simp only [bind_assoc, pure_bind]
    · simp only [bind_assoc]
      refine bind_congr fun v31 => bind_congr fun hw => ?_
      iterate 12 refine bind_congr fun _ => ?_
      refine bind_congr fun v54 => ?_
      by_cases h3 : k0_cond3 v54 = 1#1
      · simp only [dif_pos h3, bind_assoc, pure_bind]
      · simp only [dif_neg h3, pure_bind]
  · rfl

end Cert.ExpertsIdeal.Moe

end
-- ==== Proof.MoeCalc.lean ====
/- The two halves of a tile: a live half is the experts computation of its rows, stored every eighth row at a time; a dead
   half is zero. -/
module

public import proofs.«01_k».proof.Proof.MoeSetup
public import Idealize.ShloMosaic.Lib.VecWindow
public import Idealize.ShloMosaic.Lib.Pointwise
public import Idealize.ShloMosaic.Lib.WordCmp

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

/-! ## What the halves store -/

/-- The rows of a tile from row `b` on, half of them. -/
def rowsFrom (b : ℕ) (hb : b + 2048 ≤ 4096) (x : Vec F S4096x128 .bf16) : Vec F S2048x128 .bf16 :=
  fun i => x (ix2 ⟨b + (i 0).val, by have := (i 0).isLt; have h : S2048x128.size 0 = 2048 := rfl; omega⟩ (i 1))

/-- Every eighth row of a half, from row `n` on. -/
def lane (n : ℕ) (hn : n < 8) (P : FVec F S2048x128 .f32) : FVec F S256x128 .f32 :=
  fun i => P (ix2 ⟨n + 8 * (i 0).val, by have := (i 0).isLt; have h : S256x128.size 0 = 256 := rfl; omega⟩ (i 1))

/-- The computation of a half's 256 tokens: eight rows of 128 numbers each are one token. -/
def half (b : ℕ) (hb : b + 2048 ≤ 4096) (x : Vec F S4096x128 .bf16) (g : Vec F S1024x1024 .bf16) (d : Vec F S512x1024 .bf16) : FVec F S256x1024 .f32 :=
  k0_pay19 (lane 0 (by decide) (k0_pay18 (rowsFrom b hb x))) (lane 1 (by decide) (k0_pay18 (rowsFrom b hb x)))
    (lane 2 (by decide) (k0_pay18 (rowsFrom b hb x))) (lane 3 (by decide) (k0_pay18 (rowsFrom b hb x)))
    (lane 4 (by decide) (k0_pay18 (rowsFrom b hb x))) (lane 5 (by decide) (k0_pay18 (rowsFrom b hb x)))
    (lane 6 (by decide) (k0_pay18 (rowsFrom b hb x))) (lane 7 (by decide) (k0_pay18 (rowsFrom b hb x))) g d

/-- A row of a half, of its tokens: the token it is an eighth of, the eighth it is. -/
def spread (b : ℕ) (V : FVec F S256x1024 .f32) (q : S4096x128.Idx) (hq : (q 0).val < b + 2048) : F .f32 :=
  V (ix2 ⟨((q 0).val - b) / 8, by omega⟩ ⟨((q 0).val - b) % 8 * 128 + (q 1).val, by
    have := (q 1).isLt; have h : S4096x128.size 1 = 128 := rfl; omega⟩)

/-- The tile the body stores, of the row count's word. -/
def tileOut (v1 : BitVec 32) (x : Vec F S4096x128 .bf16) (g : Vec F S1024x1024 .bf16) (d : Vec F S512x1024 .bf16) : FVec F S4096x128 .f32 :=
  fun q => if hq : (q 0).val < 2048 then
      (if k0_cond4 v1 = 1#1 then spread 0 (half 0 (by decide) x g d) q (by omega) else Scalar.ofBits .f32 0x00000000#32)
    else (if k0_cond6 v1 = 1#1 then spread 2048 (half 2048 (by decide) x g d) q (by have := (q 0).isLt; have h : S4096x128.size 0 = 4096 := rfl; omega)
      else Scalar.ofBits .f32 0x00000000#32)

/-! ## The strided pieces -/

/-- The row is one of the 256 that start at `o`, eight apart. -/
def Eighth (o q : ℕ) : Prop := o ≤ q ∧ q < o + 2048 ∧ (q - o) % 8 = 0
/-- The row is one of the 2048 that start at `o`. -/
def Within (o q : ℕ) : Prop := o ≤ q ∧ q < o + 2048

theorem eighth_mod (b q : ℕ) (h : b ≤ q) (h' : q < b + 2048) : Eighth (b + (q - b) % 8) q := by unfold Eighth; omega

theorem eighths_low (q : ℕ) (h' : q < 2048) : Eighth 7 q ∨ Eighth 6 q ∨ Eighth 5 q ∨ Eighth 4 q ∨ Eighth 3 q ∨ Eighth 2 q ∨ Eighth 1 q ∨ Eighth 0 q := by
  have h := eighth_mod 0 q (Nat.zero_le _) (by omega)
  have hn : (q - 0) % 8 < 8 := Nat.mod_lt _ (by decide)
  generalize (q - 0) % 8 = n at h hn
  interval_cases n <;> simp only [Nat.zero_add] at h <;> simp only [h, _root_.true_or, _root_.or_true]
theorem eighths_high (q : ℕ) (h : 2048 ≤ q) (h' : q < 4096) : Eighth 2055 q ∨ Eighth 2054 q ∨ Eighth 2053 q ∨ Eighth 2052 q ∨ Eighth 2051 q ∨ Eighth 2050 q ∨ Eighth 2049 q ∨ Eighth 2048 q := by
  have h := eighth_mod 2048 q h (by omega)
  have hn : (q - 2048) % 8 < 8 := Nat.mod_lt _ (by decide)
  generalize (q - 2048) % 8 = n at h hn
  interval_cases n <;> simp only [Nat.reduceAdd] at h <;> simp only [h, _root_.true_or, _root_.or_true]
theorem within_low (q : ℕ) (h' : q < 2048) : Within 0 q := ⟨Nat.zero_le _, by omega⟩
theorem within_high (q : ℕ) (h : 2048 ≤ q) (h' : q < 4096) : Within 2048 q := ⟨h, by omega⟩

theorem mem_strided (o : ℕ) (inb) (y : S4096x128.Idx) :
    y ∈ (⟨![o, 0], ![256, 128], ![8, 1], inb⟩ : LoadRect S4096x128).set ↔ Eighth o (y 0).val := by
  unfold Eighth
  refine (LoadRect.mem_set _).trans ?_
  have h1 : (y 1).val < 128 := (y 1).isLt
  constructor
  · intro h
    obtain ⟨j, hj, e⟩ := h 0
    change j < 256 at hj
    change (y 0).val = o + 8 * j at e
    omega
  · rintro ⟨h, h', h''⟩ a
    match a with
    | ⟨0, _⟩ => exact ⟨((y 0).val - o) / 8, by change _ < 256; omega, by change (y 0).val = o + 8 * _; omega⟩
    | ⟨1, _⟩ => exact ⟨(y 1).val, h1, by change (y 1).val = 0 + 1 * _; omega⟩

theorem mem_rows (o : ℕ) (inb) (y : S4096x128.Idx) :
    y ∈ (Rect.unit (s := S4096x128) ![o, 0] ![2048, 128] inb).set ↔ Within o (y 0).val := by
  unfold Within
  refine (LoadRect.mem_set _).trans ?_
  have h1 : (y 1).val < 128 := (y 1).isLt
  constructor
  · intro h
    obtain ⟨j, hj, e⟩ := h 0
    change j < 2048 at hj
    change (y 0).val = o + 1 * j at e
    omega
  · rintro ⟨h, h'⟩ a
    match a with
    | ⟨0, _⟩ => exact ⟨(y 0).val - o, by change _ < 2048; omega, by change (y 0).val = o + 1 * _; omega⟩
    | ⟨1, _⟩ => exact ⟨(y 1).val, h1, by change (y 1).val = 0 + 1 * _; omega⟩

/-- Where a strided index lies among the rows. -/
theorem stride_coords (b n : ℕ) (inb inb') (i : S256x128.Idx) (hi : n + 8 * (i 0).val < 2048) (a : Fin 2) :
    (((⟨![b + n, 0], S256x128.size, ![8, 1], inb'⟩ : LoadRect S4096x128).idx i) a).val
      = (Rect.unit (s := S4096x128) ![b, 0] S2048x128.size inb).off a + (Rect.unit (s := S4096x128) ![b, 0] S2048x128.size inb).stride a
        * ((ix2 ⟨n + 8 * (i 0).val, hi⟩ (i 1) : S2048x128.Idx) a).val := by
  match a with
  | ⟨0, _⟩ => change b + n + 8 * (i 0).val = b + 1 * (n + 8 * (i 0).val); omega
  | ⟨1, _⟩ => change 0 + 1 * (i 1).val = 0 + 1 * (i 1).val; rfl

/-- The staged half, read back every eighth row. -/
theorem read_lane (b n o : ℕ) (hn : n < 8) (ho : o = b + n) (inb) (P : FVec F S2048x128 .f32) (L : List (View.Piece (Elt F) S4096x128 .f32)) (inb') :
    stM.view.readCov ((⟨Rect.unit (s := S4096x128) ![b, 0] S2048x128.size inb, P⟩ : View.Piece (Elt F) S4096x128 .f32) :: L)
      (⟨![o, 0], S256x128.size, ![8, 1], inb'⟩ : LoadRect S4096x128) = lane n hn P := by
  subst ho
  funext i
  have hi : n + 8 * (i 0).val < 2048 := by have : (i 0).val < 256 := (i 0).isLt; omega
  have key := View.read_writes_cons_hit_of_coords stM.view (View.junk (Val := Elt F) stM.view) (Rect.unit (s := S4096x128) ![b, 0] S2048x128.size inb) P L
    (ix2 ⟨n + 8 * (i 0).val, hi⟩ (i 1)) _ (stride_coords b n inb inb' i hi)
  unfold View.readCov lane
  exact key

/-- One strided piece holds the half's numbers at its rows. -/
theorem strided_spread (b n o : ℕ) (hn : n < 8) (ho : o = b + n) (inb) (sp) (V : FVec F S256x1024 .f32) (w : FVec F S256x128 .f32)
    (hw : ∀ x : S256x128.Idx, w x = V (ix2 (x 0) ⟨n * 128 + (x 1).val, by have : (x 1).val < 128 := (x 1).isLt; omega⟩))
    (x : S256x128.Idx) (hq) :
    w x = spread b V ((⟨⟨![o, 0], S256x128.size, ![8, 1], inb⟩, sp⟩ : Rect S4096x128).emb x) hq := by
  subst ho
  rw [hw]
  unfold spread
  have h0 : (((⟨⟨![b + n, 0], S256x128.size, ![8, 1], inb⟩, sp⟩ : Rect S4096x128).emb x) 0).val = b + n + 8 * (x 0).val := rfl
  have h1 : (((⟨⟨![b + n, 0], S256x128.size, ![8, 1], inb⟩, sp⟩ : Rect S4096x128).emb x) 1).val = 0 + 1 * (x 1).val := rfl
  refine congrArg V (congrArg₂ ix2 (Fin.ext ?_) (Fin.ext ?_))
  · simp only [h0]; omega
  · simp only [h0, h1]; omega

/-! ## The computation's steps -/

/-- The four steps after the weights are taken. -/
def calcs (i : grid0.Coords) (arg5 : Memref sig .tc .vmem S4096x128 .bf16) (harg5 : arg5.IsWhole) (arg9 : Memref sig .tc .vmem S4096x128 .f32) (harg9 : arg9.IsWhole) (v1 : BitVec 32) : Prog (TpuEff nD τ sig (Elt F) Λ₀ .tc) PUnit := do
  calc1 i arg5 harg5 arg9 harg9 v1
  zero1 arg5 harg5 arg9 harg9 v1
  calc2 i arg5 harg5 arg9 harg9 v1
  zero2 arg5 harg5 arg9 harg9 v1
  pure ⟨⟩

/-- A bit widened and compared with zero is the bit. -/
theorem bit_ne (b : BitVec 1) : Scalar.cmpi .ne (Scalar.extui b : BitVec 32) 0#32 = b := by revert b; decide
theorem bit_iff (b : BitVec 1) : Scalar.cmpi .ne (Scalar.extui b : BitVec 32) 0#32 = 1#1 ↔ b = 1#1 := by rw [bit_ne]

theorem cond3_iff (v : BitVec 32) : k0_cond3 v = 1#1 ↔ 0 ≤ v.toInt := by
  unfold k0_cond3; exact (bit_iff _).trans (WordCmp.ofBool_decide_eq_one_iff _)
theorem cond4_iff (v : BitVec 32) : k0_cond4 v = 1#1 ↔ 0 < v.toInt := by
  unfold k0_cond4; exact (bit_iff _).trans (WordCmp.ofBool_decide_eq_one_iff _)
theorem cond5_iff (v : BitVec 32) : k0_cond5 v = 1#1 ↔ ¬ k0_cond4 v = 1#1 := by
  rw [cond4_iff]; unfold k0_cond5
  exact (bit_iff _).trans <| (WordCmp.ofBool_decide_eq_one_iff _).trans (Int.not_lt (a := 0) (b := v.toInt)).symm
theorem cond6_iff (v : BitVec 32) : k0_cond6 v = 1#1 ↔ 256 < v.toInt := by
  unfold k0_cond6; exact (bit_iff _).trans (WordCmp.ofBool_decide_eq_one_iff _)
theorem cond7_iff (v : BitVec 32) : k0_cond7 v = 1#1 ↔ ¬ k0_cond6 v = 1#1 := by
  rw [cond6_iff]; unfold k0_cond7
  exact (bit_iff _).trans <| (WordCmp.ofBool_decide_eq_one_iff _).trans (Int.not_lt (a := 256) (b := v.toInt)).symm

/-! ## The pieces of each half -/

theorem read_rows (arg5 : Memref sig .tc .vmem S4096x128 .bf16) (f5 : arg5.view.ty.Contents (Elt F)) (b : ℕ) (hb : b + 2048 ≤ 4096) (inb) :
    arg5.view.readAt (Elt F) (Rect.unit (s := S4096x128) ![b, 0] S2048x128.size inb).toLoadRect f5 = rowsFrom b hb (arg5.view.read (Elt F) f5) := by
  funext i
  refine (View.readAt_apply ..).trans (congrArg (arg5.view.read (Elt F) f5) (funext fun a => Fin.ext ?_))
  match a with
  | ⟨0, _⟩ => change b + 1 * (i 0).val = b + (i 0).val; omega
  | ⟨1, _⟩ => change 0 + 1 * (i 1).val = (i 1).val; omega
theorem read_cg (G : cgM.view.ty.Contents (Elt F)) :
    cgM.view.readAt (Elt F) (Rect.unit (s := S1024x1024) ![0, 0] S1024x1024.size inb_S1024x1024_S1024x1024_0_0).toLoadRect G = cgM.view.read (Elt F) G := by
  funext i
  refine (View.readAt_apply ..).trans (congrArg (cgM.view.read (Elt F) G) (funext fun a => Fin.ext ?_))
  match a with
  | ⟨0, _⟩ => change 0 + 1 * (i 0).val = (i 0).val; omega
  | ⟨1, _⟩ => change 0 + 1 * (i 1).val = (i 1).val; omega
theorem read_cd (D : cdM.view.ty.Contents (Elt F)) :
    cdM.view.readAt (Elt F) (Rect.unit (s := S512x1024) ![0, 0] S512x1024.size inb_S512x1024_S512x1024_0_0).toLoadRect D = cdM.view.read (Elt F) D := by
  funext i
  refine (View.readAt_apply ..).trans (congrArg (cdM.view.read (Elt F) D) (funext fun a => Fin.ext ?_))
  match a with
  | ⟨0, _⟩ => change 0 + 1 * (i 0).val = (i 0).val; omega
  | ⟨1, _⟩ => change 0 + 1 * (i 1).val = (i 1).val; omega

theorem half_low (arg5 : Memref sig .tc .vmem S4096x128 .bf16) (f5 : arg5.view.ty.Contents (Elt F)) (G : cgM.view.ty.Contents (Elt F)) (D : cdM.view.ty.Contents (Elt F)) (L : List (View.Piece (Elt F) S4096x128 .f32)) :
    k0_pay19 (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![0, 0], S256x128.size, ![8, 1], inb_S4096x128_S256x128_0_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![1, 0], S256x128.size, ![8, 1], inb_S4096x128_S256x128_1_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![2, 0], S256x128.size, ![8, 1], inb_S4096x128_S256x128_2_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![3, 0], S256x128.size, ![8, 1], inb_S4096x128_S256x128_3_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![4, 0], S256x128.size, ![8, 1], inb_S4096x128_S256x128_4_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![5, 0], S256x128.size, ![8, 1], inb_S4096x128_S256x128_5_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![6, 0], S256x128.size, ![8, 1], inb_S4096x128_S256x128_6_0_s_8_1⟩ : LoadRect S4096x128))
      (stM.view.readCov ((⟨Rect.unit (s := S4096x128) ![0, 0] S2048x128.size inb_S4096x128_S2048x128_0_0, k0_pay18 (arg5.view.readAt (Elt F) (Rect.unit (s := S4096x128) ![0, 0] S2048x128.size inb_S4096x128_S2048x128_0_0).toLoadRect f5)⟩ : View.Piece (Elt F) S4096x128 .f32) :: L) (⟨![7, 0], S256x128.size, ![8, 1], inb_S4096x128_S256x128_7_0_s_8_1⟩ : LoadRect S4096x128))
      (cgM.view.readAt (Elt F) (Rect.unit (s := S1024x1024) ![0, 0] S1024x1024.size inb_S1024x1024_S1024x1024_0_0).toLoadRect G)
      (cdM.view.readAt (Elt F) (Rect.unit (s := S512x1024) ![0, 0] S512x1024.size inb_S512x1024_S512x1024_0_0).toLoadRect D)
      = half 0 (by decide) (arg5.view.read (Elt F) f5) (cgM.view.read (Elt F) G) (cdM.view.read (Elt F) D) := by
  rw [read_lane 0 0 0 (by decide) rfl, read_lane 0 1 1 (by decide) rfl, read_lane 0 2 2 (by decide) rfl, read_lane 0 3 3 (by decide) rfl, read_lane 0 4 4 (by decide) rfl, read_lane 0 5 5 (by decide) rfl, read_lane 0 6 6 (by decide) rfl, read_lane 0 7 7 (by decide) rfl]
  rw [read_rows arg5 f5 0 (by decide), read_cg, read_cd]
  rfl

theorem half_high (arg5 : Memref sig .tc .vmem S4096x128 .bf16) (f5 : arg5.view.ty.Contents (Elt F)) (G : cgM.view.ty.Contents (Elt F)) (D : cdM.view.ty.Contents (Elt F)) (L : List (View.Piece (Elt F) S4096x128 .f32)) :
    k0_pay23 (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2048, 0], S256x128.size, ![8, 1], inb_S4096x128_S256x128_2048_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2049, 0], S256x128.size, ![8, 1], inb_S4096x128_S256x128_2049_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2050, 0], S256x128.size, ![8, 1], inb_S4096x128_S256x128_2050_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2051, 0], S256x128.size, ![8, 1], inb_S4096x128_S256x128_2051_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2052, 0], S256x128.size, ![8, 1], inb_S4096x128_S256x128_2052_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2053, 0], S256x128.size, ![8, 1], inb_S4096x128_S256x128_2053_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2054, 0], S256x128.size, ![8, 1], inb_S4096x128_S256x128_2054_0_s_8_1⟩ : LoadRect S4096x128))
      (stM.view.readCov ((⟨Rect.unit (s := S4096x128) ![2048, 0] S2048x128.size inb_S4096x128_S2048x128_2048_0, k0_pay22 (arg5.view.readAt (Elt F) (Rect.unit (s := S4096x128) ![2048, 0] S2048x128.size inb_S4096x128_S2048x128_2048_0).toLoadRect f5)⟩ : View.Piece (Elt F) S4096x128 .f32) :: L) (⟨![2055, 0], S256x128.size, ![8, 1], inb_S4096x128_S256x128_2055_0_s_8_1⟩ : LoadRect S4096x128))
      (cgM.view.readAt (Elt F) (Rect.unit (s := S1024x1024) ![0, 0] S1024x1024.size inb_S1024x1024_S1024x1024_0_0).toLoadRect G)
      (cdM.view.readAt (Elt F) (Rect.unit (s := S512x1024) ![0, 0] S512x1024.size inb_S512x1024_S512x1024_0_0).toLoadRect D)
      = half 2048 (by decide) (arg5.view.read (Elt F) f5) (cgM.view.read (Elt F) G) (cdM.view.read (Elt F) D) := by
  rw [read_lane 2048 0 2048 (by decide) rfl, read_lane 2048 1 2049 (by decide) rfl, read_lane 2048 2 2050 (by decide) rfl, read_lane 2048 3 2051 (by decide) rfl, read_lane 2048 4 2052 (by decide) rfl, read_lane 2048 5 2053 (by decide) rfl, read_lane 2048 6 2054 (by decide) rfl, read_lane 2048 7 2055 (by decide) rfl]
  rw [read_rows arg5 f5 2048 (by decide), read_cg, read_cd]
  rfl

theorem slice_at (V : FVec F S256x1024 .f32) (n o : ℕ) (hn : n < 8) (ho : o = n * 128) (hs) (x : S256x128.Idx) :
    extractStridedSlice S256x128 ![0, o] V hs x = V (ix2 (x 0) ⟨n * 128 + (x 1).val, by have : (x 1).val < 128 := (x 1).isLt; omega⟩) := by
  subst ho
  refine congrArg V (funext fun a => Fin.ext ?_)
  match a with
  | ⟨0, _⟩ => change 0 + (x 0).val = (x 0).val; omega
  | ⟨1, _⟩ => rfl

section
variable (v1 : BitVec 32) (x5 : Vec F S4096x128 .bf16) (g : Vec F S1024x1024 .bf16) (d : Vec F S512x1024 .bf16)

theorem piece_low (h4 : k0_cond4 v1 = 1#1) (n o : ℕ) (hn : n < 8) (ho : o = n * 128) (inb) (sp) (V : FVec F S256x1024 .f32) (hV : V = half 0 (by decide) x5 g d) (hs)
    (x : S256x128.Idx) : extractStridedSlice S256x128 ![0, o] V hs x = tileOut v1 x5 g d ((⟨⟨![n, 0], S256x128.size, ![8, 1], inb⟩, sp⟩ : Rect S4096x128).emb x) := by
  subst hV
  have hq : (((⟨⟨![n, 0], S256x128.size, ![8, 1], inb⟩, sp⟩ : Rect S4096x128).emb x) 0).val < 2048 := by
    have : (x 0).val < 256 := (x 0).isLt
    change n + 8 * (x 0).val < 2048; omega
  unfold tileOut
  rw [dif_pos hq, if_pos h4]
  exact strided_spread 0 n n hn (by omega) inb sp _ _ (slice_at _ n o hn ho hs) x (by omega)

theorem piece_high (h6 : k0_cond6 v1 = 1#1) (n k o : ℕ) (hn : n < 8) (hk : k = 2048 + n) (ho : o = n * 128) (inb) (sp) (V : FVec F S256x1024 .f32)
    (hV : V = half 2048 (by decide) x5 g d) (hs) (x : S256x128.Idx) :
    extractStridedSlice S256x128 ![0, o] V hs x = tileOut v1 x5 g d ((⟨⟨![k, 0], S256x128.size, ![8, 1], inb⟩, sp⟩ : Rect S4096x128).emb x) := by
  subst hV
  have h0 : (x 0).val < 256 := (x 0).isLt
  have hq : ¬ (((⟨⟨![k, 0], S256x128.size, ![8, 1], inb⟩, sp⟩ : Rect S4096x128).emb x) 0).val < 2048 := by
    change ¬ k + 8 * (x 0).val < 2048; omega
  unfold tileOut
  rw [dif_neg hq, if_pos h6]
  exact strided_spread 2048 n k hn hk inb sp _ _ (slice_at _ n o hn ho hs) x (by change k + 8 * (x 0).val < _; omega)

theorem zero_low (h4 : ¬ k0_cond4 v1 = 1#1) (inb) (x : S2048x128.Idx) :
    (k0_pay10 (F := F)) x = tileOut v1 x5 g d ((Rect.unit (s := S4096x128) ![0, 0] S2048x128.size inb).emb x) := by
  have hq : (((Rect.unit (s := S4096x128) ![0, 0] S2048x128.size inb).emb x) 0).val < 2048 := by
    have : (x 0).val < 2048 := (x 0).isLt
    change 0 + 1 * (x 0).val < 2048; omega
  unfold tileOut
  rw [dif_pos hq, if_neg h4]
  rfl

theorem zero_high (h6 : ¬ k0_cond6 v1 = 1#1) (inb) (x : S2048x128.Idx) :
    (k0_pay17 (F := F)) x = tileOut v1 x5 g d ((Rect.unit (s := S4096x128) ![2048, 0] S2048x128.size inb).emb x) := by
  have hq : ¬ (((Rect.unit (s := S4096x128) ![2048, 0] S2048x128.size inb).emb x) 0).val < 2048 := by
    change ¬ 2048 + 1 * (x 0).val < 2048; omega
  unfold tileOut
  rw [dif_neg hq, if_neg h6]
  rfl
end

section
variable (c : Dev nD) (i : grid0.Coords)
  (arg5 : Memref sig .tc .vmem S4096x128 .bf16) (harg5 : arg5.IsWhole) (arg9 : Memref sig .tc .vmem S4096x128 .f32) (harg9 : arg9.IsWhole)

set_option maxHeartbeats 1000000 in
theorem calcs_wp (v1 : BitVec 32) (x : Vec F S4096x128 .bf16) (G : Buf (Elt F) (cgM.view.loc (c : Thread nD τ))) (D : Buf (Elt F) (cdM.view.loc (c : Thread nD τ)))
    (E : Set ℕ) (K : PUnit → sProp 𝕄) :
    iprop(owns (c : Thread nD τ) arg5 fullShare x ∗ (cgM.view.loc (c : Thread nD τ) ↦{fullShare} G) ∗ (cdM.view.loc (c : Thread nD τ) ↦{fullShare} D)
        ∗ (∃ f : Buf (Elt F) (stM.view.loc (c : Thread nD τ)), stM.view.loc (c : Thread nD τ) ↦{fullShare} f) ∗ (∃ d, owns (c : Thread nD τ) arg9 fullShare d)
        ∗ (iprop(owns (c : Thread nD τ) arg5 fullShare x ∗ (cgM.view.loc (c : Thread nD τ) ↦{fullShare} G) ∗ (cdM.view.loc (c : Thread nD τ) ↦{fullShare} D)
          ∗ (∃ f : Buf (Elt F) (stM.view.loc (c : Thread nD τ)), stM.view.loc (c : Thread nD τ) ↦{fullShare} f)
          ∗ owns (c : Thread nD τ) arg9 fullShare (tileOut v1 x (cgM.view.read (Elt F) G) (cdM.view.read (Elt F) D))) -∗ K ⟨⟩))
      ⊢ wp frame (wpE (defs₀ (F := F)) Variants.none c none) E (calcs i arg5 harg5 arg9 harg9 v1) K := by
  have e5 := cond5_iff v1
  have e7 := cond7_iff v1
  unfold owns
  iintro ⟨⟨%f5, %hf5, H5⟩, HG, HD, ⟨%f12, HS⟩, ⟨%d9, %f9, -, H9⟩, Hk⟩
  subst hf5
  unfold calcs calc1 zero1 calc2 zero2
  by_cases h4 : k0_cond4 v1 = 1#1
  · rw [dif_pos h4, dif_neg (fun h => e5.mp h h4), k0_part1_eq_skeleton]; unfold k0_part1_skel
    by_cases h6 : k0_cond6 v1 = 1#1
    · rw [dif_pos h6, dif_neg (fun h => e7.mp h h6), k0_part2_eq_skeleton]; unfold k0_part2_skel
      sl_exec
      sl_step
      iapply Hk
      isplitl [H5]
      · iexists f5; isplitr; · ipureintro; exact rfl
        iexact H5
      isplitl [HG]; · iexact HG
      isplitl [HD]; · iexact HD
      isplitl [HS]; · iexists _; iexact HS
      iexists _
      isplitr
      swap; · iexact H9
      ipureintro
      funext y
      have hy : (y 0).val < 4096 := (y 0).isLt
      refine View.read_writes_apply_of_pieces arg9.view f9 _ _ ?_ y ?_
      · simp only [List.forall_mem_cons]
        exact ⟨piece_high v1 _ _ _ h6 7 2055 896 (by decide) rfl rfl _ _ _ (half_high arg5 f5 G D _) slices_S256x1024_o0_896_S256x128, piece_high v1 _ _ _ h6 6 2054 768 (by decide) rfl rfl _ _ _ (half_high arg5 f5 G D _) slices_S256x1024_o0_768_S256x128, piece_high v1 _ _ _ h6 5 2053 640 (by decide) rfl rfl _ _ _ (half_high arg5 f5 G D _) slices_S256x1024_o0_640_S256x128, piece_high v1 _ _ _ h6 4 2052 512 (by decide) rfl rfl _ _ _ (half_high arg5 f5 G D _) slices_S256x1024_o0_512_S256x128, piece_high v1 _ _ _ h6 3 2051 384 (by decide) rfl rfl _ _ _ (half_high arg5 f5 G D _) slices_S256x1024_o0_384_S256x128, piece_high v1 _ _ _ h6 2 2050 256 (by decide) rfl rfl _ _ _ (half_high arg5 f5 G D _) slices_S256x1024_o0_256_S256x128, piece_high v1 _ _ _ h6 1 2049 128 (by decide) rfl rfl _ _ _ (half_high arg5 f5 G D _) slices_S256x1024_o0_128_S256x128, piece_high v1 _ _ _ h6 0 2048 0 (by decide) rfl rfl _ _ _ (half_high arg5 f5 G D _) slices_S256x1024_o0_0_S256x128, piece_low v1 _ _ _ h4 7 896 (by decide) rfl _ _ _ (half_low arg5 f5 G D _) slices_S256x1024_o0_896_S256x128, piece_low v1 _ _ _ h4 6 768 (by decide) rfl _ _ _ (half_low arg5 f5 G D _) slices_S256x1024_o0_768_S256x128, piece_low v1 _ _ _ h4 5 640 (by decide) rfl _ _ _ (half_low arg5 f5 G D _) slices_S256x1024_o0_640_S256x128, piece_low v1 _ _ _ h4 4 512 (by decide) rfl _ _ _ (half_low arg5 f5 G D _) slices_S256x1024_o0_512_S256x128, piece_low v1 _ _ _ h4 3 384 (by decide) rfl _ _ _ (half_low arg5 f5 G D _) slices_S256x1024_o0_384_S256x128, piece_low v1 _ _ _ h4 2 256 (by decide) rfl _ _ _ (half_low arg5 f5 G D _) slices_S256x1024_o0_256_S256x128, piece_low v1 _ _ _ h4 1 128 (by decide) rfl _ _ _ (half_low arg5 f5 G D _) slices_S256x1024_o0_128_S256x128, piece_low v1 _ _ _ h4 0 0 (by decide) rfl _ _ _ (half_low arg5 f5 G D _) slices_S256x1024_o0_0_S256x128, List.forall_mem_nil _⟩
      · simp only [List.exists_mem_cons_iff, mem_strided, mem_rows, List.not_mem_nil, _root_.false_and, exists_false, _root_.or_false]
        rcases Nat.lt_or_ge (y 0).val 2048 with hlt | hge
        · have hc := eighths_low _ hlt
          first | exact Or.inr (Or.inr (Or.inr (Or.inr (Or.inr (Or.inr (Or.inr (Or.inr hc))))))) | exact Or.inr hc
        · rcases eighths_high _ hge hy with h | h | h | h | h | h | h | h <;> simp only [h, _root_.true_or, _root_.or_true]
    · rw [dif_neg h6, dif_pos (e7.mpr h6)]
      sl_exec
      sl_step
      iapply Hk
      isplitl [H5]
      · iexists f5; isplitr; · ipureintro; exact rfl
        iexact H5
      isplitl [HG]; · iexact HG
      isplitl [HD]; · iexact HD
      isplitl [HS]; · iexists _; iexact HS
      iexists _
      isplitr
      swap; · iexact H9
      ipureintro
      funext y
      have hy : (y 0).val < 4096 := (y 0).isLt
      refine View.read_writes_apply_of_pieces arg9.view f9 _ _ ?_ y ?_
      · simp only [List.forall_mem_cons]
        exact ⟨zero_high v1 _ _ _ h6 _, piece_low v1 _ _ _ h4 7 896 (by decide) rfl _ _ _ (half_low arg5 f5 G D _) slices_S256x1024_o0_896_S256x128, piece_low v1 _ _ _ h4 6 768 (by decide) rfl _ _ _ (half_low arg5 f5 G D _) slices_S256x1024_o0_768_S256x128, piece_low v1 _ _ _ h4 5 640 (by decide) rfl _ _ _ (half_low arg5 f5 G D _) slices_S256x1024_o0_640_S256x128, piece_low v1 _ _ _ h4 4 512 (by decide) rfl _ _ _ (half_low arg5 f5 G D _) slices_S256x1024_o0_512_S256x128, piece_low v1 _ _ _ h4 3 384 (by decide) rfl _ _ _ (half_low arg5 f5 G D _) slices_S256x1024_o0_384_S256x128, piece_low v1 _ _ _ h4 2 256 (by decide) rfl _ _ _ (half_low arg5 f5 G D _) slices_S256x1024_o0_256_S256x128, piece_low v1 _ _ _ h4 1 128 (by decide) rfl _ _ _ (half_low arg5 f5 G D _) slices_S256x1024_o0_128_S256x128, piece_low v1 _ _ _ h4 0 0 (by decide) rfl _ _ _ (half_low arg5 f5 G D _) slices_S256x1024_o0_0_S256x128, List.forall_mem_nil _⟩
      · simp only [List.exists_mem_cons_iff, mem_strided, mem_rows, List.not_mem_nil, _root_.false_and, exists_false, _root_.or_false]
        rcases Nat.lt_or_ge (y 0).val 2048 with hlt | hge
        · have hc := eighths_low _ hlt
          first | exact Or.inr (Or.inr (Or.inr (Or.inr (Or.inr (Or.inr (Or.inr (Or.inr hc))))))) | exact Or.inr hc
        · exact Or.inl (within_high _ hge hy)
  · rw [dif_neg h4, dif_pos (e5.mpr h4)]
    by_cases h6 : k0_cond6 v1 = 1#1
    · rw [dif_pos h6, dif_neg (fun h => e7.mp h h6), k0_part2_eq_skeleton]; unfold k0_part2_skel
      sl_exec
      sl_step
      iapply Hk
      isplitl [H5]
      · iexists f5; isplitr; · ipureintro; exact rfl
        iexact H5
      isplitl [HG]; · iexact HG
      isplitl [HD]; · iexact HD
      isplitl [HS]; · iexists _; iexact HS
      iexists _
      isplitr
      swap; · iexact H9
      ipureintro
      funext y
      have hy : (y 0).val < 4096 := (y 0).isLt
      refine View.read_writes_apply_of_pieces arg9.view f9 _ _ ?_ y ?_
      · simp only [List.forall_mem_cons]
        exact ⟨piece_high v1 _ _ _ h6 7 2055 896 (by decide) rfl rfl _ _ _ (half_high arg5 f5 G D _) slices_S256x1024_o0_896_S256x128, piece_high v1 _ _ _ h6 6 2054 768 (by decide) rfl rfl _ _ _ (half_high arg5 f5 G D _) slices_S256x1024_o0_768_S256x128, piece_high v1 _ _ _ h6 5 2053 640 (by decide) rfl rfl _ _ _ (half_high arg5 f5 G D _) slices_S256x1024_o0_640_S256x128, piece_high v1 _ _ _ h6 4 2052 512 (by decide) rfl rfl _ _ _ (half_high arg5 f5 G D _) slices_S256x1024_o0_512_S256x128, piece_high v1 _ _ _ h6 3 2051 384 (by decide) rfl rfl _ _ _ (half_high arg5 f5 G D _) slices_S256x1024_o0_384_S256x128, piece_high v1 _ _ _ h6 2 2050 256 (by decide) rfl rfl _ _ _ (half_high arg5 f5 G D _) slices_S256x1024_o0_256_S256x128, piece_high v1 _ _ _ h6 1 2049 128 (by decide) rfl rfl _ _ _ (half_high arg5 f5 G D _) slices_S256x1024_o0_128_S256x128, piece_high v1 _ _ _ h6 0 2048 0 (by decide) rfl rfl _ _ _ (half_high arg5 f5 G D _) slices_S256x1024_o0_0_S256x128, zero_low v1 _ _ _ h4 _, List.forall_mem_nil _⟩
      · simp only [List.exists_mem_cons_iff, mem_strided, mem_rows, List.not_mem_nil, _root_.false_and, exists_false, _root_.or_false]
        rcases Nat.lt_or_ge (y 0).val 2048 with hlt | hge
        · have hc := within_low _ hlt
          first | exact Or.inr (Or.inr (Or.inr (Or.inr (Or.inr (Or.inr (Or.inr (Or.inr hc))))))) | exact Or.inr hc
        · rcases eighths_high _ hge hy with h | h | h | h | h | h | h | h <;> simp only [h, _root_.true_or, _root_.or_true]
    · rw [dif_neg h6, dif_pos (e7.mpr h6)]
      sl_exec
      sl_step
      iapply Hk
      isplitl [H5]
      · iexists f5; isplitr; · ipureintro; exact rfl
        iexact H5
      isplitl [HG]; · iexact HG
      isplitl [HD]; · iexact HD
      isplitl [HS]; · iexists _; iexact HS
      iexists _
      isplitr
      swap; · iexact H9
      ipureintro
      funext y
      have hy : (y 0).val < 4096 := (y 0).isLt
      refine View.read_writes_apply_of_pieces arg9.view f9 _ _ ?_ y ?_
      · simp only [List.forall_mem_cons]
        exact ⟨zero_high v1 _ _ _ h6 _, zero_low v1 _ _ _ h4 _, List.forall_mem_nil _⟩
      · simp only [List.exists_mem_cons_iff, mem_strided, mem_rows, List.not_mem_nil, _root_.false_and, exists_false, _root_.or_false]
        rcases Nat.lt_or_ge (y 0).val 2048 with hlt | hge
        · have hc := within_low _ hlt
          first | exact Or.inr (Or.inr (Or.inr (Or.inr (Or.inr (Or.inr (Or.inr (Or.inr hc))))))) | exact Or.inr hc
        · exact Or.inl (within_high _ hge hy)
end

end Cert.ExpertsIdeal.Moe

end
-- ==== Proof.MoeTake.lean ====
/- The weights on their way: the three copies of one expert, asked for together and taken together. -/
module

public import proofs.«01_k».proof.Proof.MoeCalc
public import Idealize.ShloMosaic.Lib.Ring

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

/-! ## The copies -/

/-- The three matrices of expert `w` where they lie. -/
abbrev srcG (w : ℕ) (h : ∀ a, (![w, 0, 0] : Fin 3 → ℕ) a + S1x1024x512.size a ≤ S32x1024x512.size a) : Memref sig .tc .hbm S1024x512 .f32 :=
  (wgM.slice (Rect.unit (s := S32x1024x512) ![w, 0, 0] S1x1024x512.size h) (fun _ => rfl)).squeeze S1024x512 squeezes_S1x1024x512_S1024x512
abbrev srcU (w : ℕ) (h : ∀ a, (![w, 0, 0] : Fin 3 → ℕ) a + S1x1024x512.size a ≤ S32x1024x512.size a) : Memref sig .tc .hbm S1024x512 .f32 :=
  (wuM.slice (Rect.unit (s := S32x1024x512) ![w, 0, 0] S1x1024x512.size h) (fun _ => rfl)).squeeze S1024x512 squeezes_S1x1024x512_S1024x512
abbrev srcD (w : ℕ) (h : ∀ a, (![w, 0, 0] : Fin 3 → ℕ) a + S1x512x1024.size a ≤ S32x512x1024.size a) : Memref sig .tc .hbm S512x1024 .f32 :=
  (wdM.slice (Rect.unit (s := S32x512x1024) ![w, 0, 0] S1x512x1024.size h) (fun _ => rfl)).squeeze S512x1024 squeezes_S1x512x1024_S512x1024

theorem inbG (w : ℕ) (h : w < 32) : ∀ a, (![w, 0, 0] : Fin 3 → ℕ) a + S1x1024x512.size a ≤ S32x1024x512.size a := by
  intro a
  match a with
  | ⟨0, _⟩ => change w + 1 ≤ 32; omega
  | ⟨1, _⟩ => exact (by decide : 0 + 1024 ≤ 1024)
  | ⟨2, _⟩ => exact (by decide : 0 + 512 ≤ 512)
theorem inbD (w : ℕ) (h : w < 32) : ∀ a, (![w, 0, 0] : Fin 3 → ℕ) a + S1x512x1024.size a ≤ S32x512x1024.size a := by
  intro a
  match a with
  | ⟨0, _⟩ => change w + 1 ≤ 32; omega
  | ⟨1, _⟩ => exact (by decide : 0 + 512 ≤ 512)
  | ⟨2, _⟩ => exact (by decide : 0 + 1024 ≤ 1024)

section
variable (c : Dev nD) (Wg : Buf (Elt F) (wgM.view.loc (c : Thread nD τ))) (Wu : Buf (Elt F) (wuM.view.loc (c : Thread nD τ))) (Wd : Buf (Elt F) (wdM.view.loc (c : Thread nD τ)))

/-- A buffer held whole. -/
abbrev hold {sp : Space} {S : Shape} {e : EltTy} (M : Memref sig .tc sp S e) (f : Buf (Elt F) (M.view.loc (c : Thread nD τ))) : sProp 𝕄 :=
  M.view.loc (c : Thread nD τ) ↦{fullShare} f

/-- What the three copies of expert `w` leave. -/
def deliv (w : ℕ) (h : w < 32) (fg : Buf (Elt F) (fgM.view.loc (c : Thread nD τ))) (fu : Buf (Elt F) (fuM.view.loc (c : Thread nD τ))) (fd : Buf (Elt F) (fdM.view.loc (c : Thread nD τ))) : Fin 3 → sProp 𝕄 := fun t => match t with
  | ⟨0, _⟩ => iprop(hold c fgM (View.write (Elt F) fgM.view fg (ReadAs.same.apply ((srcG w (inbG w h)).view.read (Elt F) Wg)) Finset.univ) ∗ (srcG w (inbG w h)).view.loc (c : Thread nD τ) ↦[(srcG w (inbG w h)).view.set]{fullShare} Wg)
  | ⟨1, _⟩ => iprop(hold c fuM (View.write (Elt F) fuM.view fu (ReadAs.same.apply ((srcU w (inbG w h)).view.read (Elt F) Wu)) Finset.univ) ∗ (srcU w (inbG w h)).view.loc (c : Thread nD τ) ↦[(srcU w (inbG w h)).view.set]{fullShare} Wu)
  | ⟨2, _⟩ => iprop(hold c fdM (View.write (Elt F) fdM.view fd (ReadAs.same.apply ((srcD w (inbD w h)).view.read (Elt F) Wd)) Finset.univ) ∗ (srcD w (inbD w h)).view.loc (c : Thread nD τ) ↦[(srcD w (inbD w h)).view.set]{fullShare} Wd)

instance (w : ℕ) (h : w < 32) (fg fu fd) : ∀ t, Storable (upEmb : UEmb _ 𝕄) (deliv c Wg Wu Wd w h fg fu fd t) := by
  intro t; fin_cases t <;> simp only [deliv] <;> infer_instance

abbrev amt : ℕ := (fgM).view.amount (SemLoc.dma (sig := sig) 4)

/-- Nothing is on the way: the landing buffers are held at whatever they hold, the weights whole, the semaphore at zero. -/
def idle : sProp 𝕄 :=
  iprop((∃ f, hold c fgM f) ∗ (∃ f, hold c fuM f) ∗ (∃ f, hold c fdM f) ∗ hold c wgM Wg ∗ hold c wuM Wu ∗ hold c wdM Wd
    ∗ semVal ((c : Thread nD τ), SemLoc.dma 4) 0)

/-- Expert `w`'s three matrices are on the way; of the weights' arrays the rest is held. -/
def away (w : ℕ) (h : w < 32) : sProp 𝕄 :=
  iprop(∃ fg fu fd, Transfers.Batch (countersEmb (U := Pipeline.UD sig nD τ)) (c : Thread nD τ) (.dma 4) () amt (deliv c Wg Wu Wd w h fg fu fd) 3 0
    ∗ (wgM.view.loc (c : Thread nD τ) ↦[Finset.univ \ (srcG w (inbG w h)).view.set]{fullShare} Wg)
    ∗ (wuM.view.loc (c : Thread nD τ) ↦[Finset.univ \ (srcU w (inbG w h)).view.set]{fullShare} Wu)
    ∗ (wdM.view.loc (c : Thread nD τ) ↦[Finset.univ \ (srcD w (inbD w h)).view.set]{fullShare} Wd))

set_option maxHeartbeats 1000000 in
/-- The first point's request leaves the first expert's weights on the way. -/
theorem ask_wp (i : grid0.Coords) (h1 : k0_cond1 i = 1#1) (xt : Buf (Elt F) (teM.view.loc (c : Thread nD τ)))
   (v : BitVec 32) (hv : v.toNat < 32) (hr : (teM.view.readAt (Elt F) (Rect.unit (s := S96) ![0] S1.size inb_S96_S1_0).toLoadRect xt (Shape.Idx.first (numel1_S1.symm ▸ Nat.one_pos)) : BitVec 32) = v)
   (K : PUnit → sProp 𝕄) :
    iprop((teM.view.loc (c : Thread nD τ) ↦{fullShare.right} xt) ∗ idle c Wg Wu Wd
      ∗ (iprop((teM.view.loc (c : Thread nD τ) ↦{fullShare.right} xt) ∗ away c Wg Wu Wd v.toNat hv) -∗ K ⟨⟩)) ⊢
      wp frame (wpE (defs₀ (F := F)) Variants.none c none) Set.univ (ask0 i) K := by
  unfold idle away
  iintro ⟨HT, ⟨⟨%fg, Hg⟩, ⟨%fu, Hu⟩, ⟨%fd, Hd⟩, HWg, HWu, HWd, HS⟩, HK⟩
  imod (Transfers.batch_alloc' (Lvl := ℕ) (countersEmb (U := Pipeline.UD sig nD τ)) (c : Thread nD τ) () amt (deliv c Wg Wu Wd v.toNat hv fg fu fd) (sm := .dma 4) (E := Set.univ)) $$ HS with HB
  unfold ask0
  rw [dif_pos h1]
  have hc : k0_chk1 i v := ⟨fun _ => inbG _ hv, fun _ => inbD _ hv⟩
  sl_exec
  have hr' : ask_wp.sl.r c xt = v := hr
  rw [hr']
  sl_exec (disch := first | sl_exact hc)
  sl_step
  iapply HK
  isplitl [HT]; · iexact HT
  iexists fg; iexists fu; iexists fd
  isplitl [HB]; · iexact HB
  isplitl [HWg]; · iexact HWg
  isplitl [HWu]; · iexact HWu
  iexact HWd

/-- Expert `w`'s gate and up matrices side by side, as the kernel converts them, -/
def gates (w : ℕ) (h : w < 32) : FVec F S1024x1024 .bf16 := fun y =>
  if hy : (y 1).val < 512 then k0_pay1 ((srcG w (inbG w h)).view.read (Elt F) Wg) (ix2 (y 0) ⟨(y 1).val, hy⟩)
  else k0_pay2 ((srcU w (inbG w h)).view.read (Elt F) Wu) (ix2 (y 0) ⟨(y 1).val - 512, by have : (y 1).val < 1024 := (y 1).isLt; omega⟩)
/-- and its down matrix. -/
def downs (w : ℕ) (h : w < 32) : FVec F S512x1024 .bf16 := k0_pay3 ((srcD w (inbD w h)).view.read (Elt F) Wd)

/-- The scratch holds expert `w`'s converted matrices. -/
def ready (w : ℕ) (h : w < 32) : sProp 𝕄 :=
  iprop(∃ G D, ⌜cgM.view.read (Elt F) G = gates c Wg Wu w h ∧ cdM.view.read (Elt F) D = downs c Wd w h⌝ ∗ hold c cgM G ∗ hold c cdM D)

theorem landed {s : Shape} {e : EltTy} {off : Fin s.rank → ℕ} (M : Memref sig .tc .vmem s e) (inb : ∀ a, off a + s.size a ≤ s.size a) (f : M.view.ty.Contents (Elt F)) (x : s.Idx → Elt F e) :
    M.view.readAt (Elt F) (Rect.unit off s.size inb).toLoadRect (View.write (Elt F) M.view f x Finset.univ) = x := by
  rw [View.readAt_full]
  exact View.read_write_univ ..

theorem gates_read (w : ℕ) (h : w < 32) (G : cgM.view.ty.Contents (Elt F)) (inb1 inb2) :
    cgM.view.read (Elt F) (cgM.view.writes (Elt F) G
      [⟨Rect.unit (s := S1024x1024) ![0, 512] S1024x512.size inb1, k0_pay2 ((srcU w (inbG w h)).view.read (Elt F) Wu)⟩,
       ⟨Rect.unit (s := S1024x1024) ![0, 0] S1024x512.size inb2, k0_pay1 ((srcG w (inbG w h)).view.read (Elt F) Wg)⟩]) = gates c Wg Wu w h := by
  funext y
  unfold gates
  have hy1 : (y 1).val < 1024 := (y 1).isLt
  by_cases hy : (y 1).val < 512
  · rw [dif_pos hy]
    refine (View.read_writes_cons_unit_of_not_mem cgM.view G (s := S1024x1024) inb1 _ _ y rfl (1 : Fin 2) (Or.inl hy)).trans ?_
    exact View.read_writes_cons_unit_of_mem cgM.view G (s := S1024x1024) inb2 _ _ y (ix2 (y 0) ⟨(y 1).val, hy⟩) rfl fun a => by
      match a with
      | ⟨0, _⟩ => change (y 0).val = 0 + (y 0).val; omega
      | ⟨1, _⟩ => change (y 1).val = 0 + (y 1).val; omega
  · rw [dif_neg hy]
    exact View.read_writes_cons_unit_of_mem cgM.view G (s := S1024x1024) inb1 _ _ y (ix2 (y 0) ⟨(y 1).val - 512, by omega⟩) rfl fun a => by
      match a with
      | ⟨0, _⟩ => change (y 0).val = 0 + (y 0).val; omega
      | ⟨1, _⟩ => change (y 1).val = 512 + ((y 1).val - 512); omega

/-- What the take leaves of the pipeline of weights: the next expert's on the way, or nothing. -/
def next (n : BitVec 32) (hn : k0_cond3 n = 1#1 → n.toNat < 32) : sProp 𝕄 :=
  if h3 : k0_cond3 n = 1#1 then away c Wg Wu Wd n.toNat (hn h3) else idle c Wg Wu Wd

set_option maxHeartbeats 1000000 in
/-- The take leaves the point's expert's weights converted, and the next one's on the way. -/
theorem take_wp (i : grid0.Coords) (v1 v4 v8 : BitVec 32) (h2 : k0_cond2 i v1 v4 v8 = 1#1)
   (xt : Buf (Elt F) (teM.view.loc (c : Thread nD τ))) (xn : Buf (Elt F) (nxM.view.loc (c : Thread nD τ)))
   (v : BitVec 32) (hv : v.toNat < 32) (hr : (teM.view.readAt (Elt F) (Rect.unit (s := S96) (k0_off5 i) S1.size (k0_off5_inb i)).toLoadRect xt (Shape.Idx.first (numel1_S1.symm ▸ Nat.one_pos)) : BitVec 32) = v)
   (n : BitVec 32) (hn : (nxM.view.readAt (Elt F) (Rect.unit (s := S96) (k0_off8 i) S1.size (k0_off8_inb i)).toLoadRect xn (Shape.Idx.first (numel1_S1.symm ▸ Nat.one_pos)) : BitVec 32) = n) (hn32 : k0_cond3 n = 1#1 → n.toNat < 32)
   (G : Buf (Elt F) (cgM.view.loc (c : Thread nD τ))) (D : Buf (Elt F) (cdM.view.loc (c : Thread nD τ)))
   (K : PUnit → sProp 𝕄) :
    iprop((teM.view.loc (c : Thread nD τ) ↦{fullShare.right} xt) ∗ (nxM.view.loc (c : Thread nD τ) ↦{fullShare.right} xn) ∗ away c Wg Wu Wd v.toNat hv
      ∗ hold c cgM G ∗ hold c cdM D ∗ (∃ W, owes (c : Thread nD τ) 0 W)
      ∗ (iprop((teM.view.loc (c : Thread nD τ) ↦{fullShare.right} xt) ∗ (nxM.view.loc (c : Thread nD τ) ↦{fullShare.right} xn) ∗ next c Wg Wu Wd n hn32
          ∗ ready c Wg Wu Wd v.toNat hv ∗ (∃ W, owes (c : Thread nD τ) 0 W)) -∗ K ⟨⟩)) ⊢
      wp frame (wpE (defs₀ (F := F)) Variants.none c none) Set.univ (take i v1 v4 v8) K := by
  unfold away
  iintro ⟨HT, HN, ⟨%fg, %fu, %fd, HB, HWg, HWu, HWd⟩, HG, HD, ⟨%W, HO⟩, HK⟩
  unfold take
  rw [dif_pos h2]
  have hc : k0_chk2 i v1 v4 v8 v := ⟨fun _ => inbG _ hv, fun _ => inbD _ hv⟩
  sl_exec
  have hr' : take_wp.sl.r c i xt = v := hr
  rw [hr']
  sl_exec (disch := first | sl_exact hc)
  have hn' : take_wp.sl.r_1 c i xn = n := hn
  rw [hn', landed, landed, landed]
  ihave HWg2 : (hold c wgM Wg) $$ [HWg]
  · iexact HWg
  ihave HWu2 : (hold c wuM Wu) $$ [HWu]
  · iexact HWu
  ihave HWd2 : (hold c wdM Wd) $$ [HWd]
  · iexact HWd
  by_cases h3 : k0_cond3 n = 1#1
  · imod (Transfers.batch_alloc' (Lvl := ℕ) (countersEmb (U := Pipeline.UD sig nD τ)) (c : Thread nD τ) () amt (deliv c Wg Wu Wd n.toNat (hn32 h3)
        (View.write (Elt F) fgM.view fg (ReadAs.same.apply ((srcG v.toNat (inbG _ hv)).view.read (Elt F) Wg)) Finset.univ)
        (View.write (Elt F) fuM.view fu (ReadAs.same.apply ((srcU v.toNat (inbG _ hv)).view.read (Elt F) Wu)) Finset.univ)
        (View.write (Elt F) fdM.view fd (ReadAs.same.apply ((srcD v.toNat (inbD _ hv)).view.read (Elt F) Wd)) Finset.univ)) (sm := .dma 4) (E := Set.univ)) $$ [HB] with HB
    · iexact HB
    have hc3 : k0_chk3 i v1 v4 v8 n n := ⟨fun _ _ => inbG _ (hn32 h3), fun _ _ => inbD _ (hn32 h3)⟩
    sl_exec
    have hr2 : take_wp.sl.r_3 c i xn = n := hn
    rw [hr2]
    sl_exec (disch := first | sl_exact hc3)
    sl_step
    iapply HK
    isplitl [HT]; · iexact HT
    isplitl [HN]; · iexact HN
    isplitl [HB HWg2 HWu2 HWd2]
    · unfold next; rw [dif_pos h3]; unfold away
      iexists _; iexists _; iexists _
      isplitl [HB]; · iexact HB
      isplitl [HWg2]; · iexact HWg2
      isplitl [HWu2]; · iexact HWu2
      iexact HWd2
    isplitl [HG HD]
    · unfold ready
      iexists _; iexists _
      isplitr; swap
      · isplitl [HG]; · iexact HG
        iexact HD
      ipureintro
      exact ⟨gates_read c Wg Wu v.toNat hv G _ _, View.read_writes_full ..⟩
    iexists _; iexact HO
  · sl_exec
    sl_step
    iapply HK
    isplitl [HT]; · iexact HT
    isplitl [HN]; · iexact HN
    isplitl [HB HB_dst0 HB_dst1 HB_dst2 HWg2 HWu2 HWd2]
    · unfold next; rw [dif_neg h3]; unfold idle
      isplitl [HB_dst0]; · iexists _; iexact HB_dst0
      isplitl [HB_dst1]; · iexists _; iexact HB_dst1
      isplitl [HB_dst2]; · iexists _; iexact HB_dst2
      isplitl [HWg2]; · iexact HWg2
      isplitl [HWu2]; · iexact HWu2
      isplitl [HWd2]; · iexact HWd2
      iexact HB
    isplitl [HG HD]
    · unfold ready
      iexists _; iexists _
      isplitr; swap
      · isplitl [HG]; · iexact HG
        iexact HD
      ipureintro
      exact ⟨gates_read c Wg Wu v.toNat hv G _ _, View.read_writes_full ..⟩
    iexists _; iexact HO
end
end Cert.ExpertsIdeal.Moe

end
-- ==== Proof.MoeStep.lean ====
/- The words of the tables, what they promise, and what the kernel keeps of the weights from point to point. -/
module

public import proofs.«01_k».proof.Proof.MoeTake
public import Idealize.ShloMosaic.Lib.Ring
public import Idealize.ShloMosaic.Lib.StableHlo.Predicate

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

/-- Entry `k` of a table. -/
def word {c : Dev nD} (M : Memref sig .tc .smem S96 .i32) (x : Buf (Elt F) (M.view.loc (c : Thread nD τ))) (k : Fin 96) : BitVec 32 :=
  M.view.read (Elt F) x (ix1 k)

theorem word_at {c : Dev nD} (M : Memref sig .tc .smem S96 .i32) (x : Buf (Elt F) (M.view.loc (c : Thread nD τ))) (off : Fin 1 → ℕ) (inb) (k : Fin 96) (h : off 0 = k.val) :
    (M.view.readAt (Elt F) (Rect.unit (s := S96) off S1.size inb).toLoadRect x (Shape.Idx.first (numel1_S1.symm ▸ Nat.one_pos)) : BitVec 32) = word M x k := by
  unfold word
  refine (View.readAt_apply ..).trans (congrArg (M.view.read (Elt F) x) (funext fun a => Fin.ext ?_))
  match a with
  | ⟨0, _⟩ => change off 0 + 1 * 0 = k.val; omega

variable (c : Dev nD)

/-- A table's entry is loaded. -/
theorem load_wp (M : Memref sig .tc .smem S96 .i32) (x : Buf (Elt F) (M.view.loc (c : Thread nD τ))) (off : Fin 1 → ℕ) (inb) (k : Fin 96) (h : off 0 = k.val)
    (K : BitVec 32 → sProp 𝕄) :
    iprop((M.view.loc (c : Thread nD τ) ↦{fullShare.right} x) ∗ (iprop(M.view.loc (c : Thread nD τ) ↦{fullShare.right} x) -∗ K (word M x k)))
      ⊢ wp frame (wpE (defs₀ (F := F)) Variants.none c none) Set.univ (smemLoad M (Rect.unit (s := S96) off S1.size inb) numel1_S1 rfl) K := by
  rw [← word_at M x off inb k h]
  iintro ⟨H, HK⟩
  sl_exec
  sl_step
  iapply HK
  iexact H

/-- What the tables promise the kernel. -/
structure Good (te tb tr nx : Fin 96 → BitVec 32) : Prop where
  te_lt : ∀ k, (te k).toNat < 32
  tb_lt : ∀ k, (tb k).toNat < 96
  nx_lt : ∀ k, 0 ≤ (nx k).toInt → (nx k).toNat < 32
  first : 0 < (tr 0).toInt
  down : ∀ (k : ℕ) (h : k + 1 < 96), 0 < (tr ⟨k + 1, h⟩).toInt → 0 < (tr ⟨k, by omega⟩).toInt
  same : ∀ (k : ℕ) (h : k + 1 < 96), 0 < (tr ⟨k + 1, h⟩).toInt → te ⟨k + 1, h⟩ = te ⟨k, by omega⟩ → nx ⟨k + 1, h⟩ = nx ⟨k, by omega⟩
  fresh : ∀ (k : ℕ) (h : k + 1 < 96), 0 < (tr ⟨k + 1, h⟩).toInt → te ⟨k + 1, h⟩ ≠ te ⟨k, by omega⟩ → te ⟨k + 1, h⟩ = nx ⟨k, by omega⟩
  quiet : ∀ (k : ℕ) (h : k + 1 < 96), ¬ 0 < (tr ⟨k + 1, h⟩).toInt → 0 < (tr ⟨k, by omega⟩).toInt → (nx ⟨k, by omega⟩).toInt < 0
  last : 0 < (tr 95).toInt → (nx 95).toInt < 0

variable (Wg : Buf (Elt F) (wgM.view.loc (c : Thread nD τ))) (Wu : Buf (Elt F) (wuM.view.loc (c : Thread nD τ))) (Wd : Buf (Elt F) (wdM.view.loc (c : Thread nD τ)))
variable {te tb tr nx : Fin 96 → BitVec 32} (hG : Good te tb tr nx)

/-- Nothing is on the way and the scratch holds nothing of use. -/
def still : sProp 𝕄 := iprop(idle c Wg Wu Wd ∗ (∃ G, hold c cgM G) ∗ (∃ D, hold c cdM D))

include hG in
theorem Good.sent (k : Fin 96) : k0_cond3 (nx k) = 1#1 → (nx k).toNat < 32 := fun h => hG.nx_lt k ((cond3_iff _).1 h)

/-- What the kernel keeps of the weights before point `k`. -/
def Kept : (k : ℕ) → k ≤ 96 → sProp 𝕄
  | 0, _ => still c Wg Wu Wd
  | k + 1, h => if 0 < (tr ⟨k, h⟩).toInt then iprop(next c Wg Wu Wd (nx ⟨k, h⟩) (hG.sent _) ∗ ready c Wg Wu Wd (te ⟨k, h⟩).toNat (hG.te_lt _))
      else still c Wg Wu Wd

theorem ready_open (w : ℕ) (h : w < 32) : ready c Wg Wu Wd w h
    ⊢ iprop(∃ G D, ⌜cgM.view.read (Elt F) G = gates c Wg Wu w h ∧ cdM.view.read (Elt F) D = downs c Wd w h⌝ ∗ hold c cgM G ∗ hold c cdM D) := by
  unfold ready; exact .rfl
theorem still_open : still c Wg Wu Wd ⊢ iprop(idle c Wg Wu Wd ∗ (∃ G, hold c cgM G) ∗ (∃ D, hold c cdM D)) := by
  unfold still; exact .rfl
theorem same_in {P Q : sProp 𝕄} (h : P = Q) : P ⊢ Q := by rw [h]
theorem Kept_live (k : ℕ) (h : k < 96) (hl : 0 < (tr ⟨k, h⟩).toInt) :
    Kept c Wg Wu Wd hG (k + 1) h = iprop(next c Wg Wu Wd (nx ⟨k, h⟩) (hG.sent _) ∗ ready c Wg Wu Wd (te ⟨k, h⟩).toNat (hG.te_lt _)) := if_pos hl
theorem Kept_dead (k : ℕ) (h : k < 96) (hl : ¬ 0 < (tr ⟨k, h⟩).toInt) : Kept c Wg Wu Wd hG (k + 1) h = still c Wg Wu Wd := if_neg hl

theorem live_open (k : ℕ) (h : k < 96) (hl : 0 < (tr ⟨k, h⟩).toInt) : Kept c Wg Wu Wd hG (k + 1) h
    ⊢ iprop(next c Wg Wu Wd (nx ⟨k, h⟩) (hG.sent _) ∗ (∃ G D, ⌜cgM.view.read (Elt F) G = gates c Wg Wu _ (hG.te_lt ⟨k, h⟩) ∧ cdM.view.read (Elt F) D = downs c Wd _ (hG.te_lt ⟨k, h⟩)⌝ ∗ hold c cgM G ∗ hold c cdM D)) := by
  rw [Kept_live c Wg Wu Wd hG k h hl]; unfold ready; exact .rfl
/-- After a dead tile, or a live one with no next expert, nothing is on the way. -/
theorem Kept_over (k : ℕ) (h : k < 96) (hq : 0 < (tr ⟨k, h⟩).toInt → (nx ⟨k, h⟩).toInt < 0) : Kept c Wg Wu Wd hG (k + 1) h ⊢ still c Wg Wu Wd := by
  by_cases hl : 0 < (tr ⟨k, h⟩).toInt
  · rw [Kept_live c Wg Wu Wd hG k h hl]
    have h3 : ¬ k0_cond3 (nx ⟨k, h⟩) = 1#1 := fun e => by have := (cond3_iff _).1 e; have := hq hl; omega
    unfold next ready still
    rw [dif_neg h3]
    iintro ⟨HX, ⟨%G, %D, %hGD, HG, HD⟩⟩
    isplitl [HX]; · iexact HX
    isplitl [HG]; · iexists G; iexact HG
    iexists D; iexact HD
  · rw [Kept_dead c Wg Wu Wd hG k h hl]

theorem off2_eq : ∀ i : grid0.Coords, k0_off2 i 0 = (i 0).val - 1 := by decide +kernel
theorem cond1_iff : ∀ i : grid0.Coords, k0_cond1 i = 1#1 ↔ (i 0).val = 0 := by decide +kernel
theorem first_iff : ∀ i : grid0.Coords, Scalar.cmpi .eq (BitVec.ofNat 32 (i 0).val) 0#32 = BitVec.ofBool (decide ((i 0).val = 0)) := by decide +kernel

theorem cond2_iff (i : grid0.Coords) (v1 v4 v8 : BitVec 32) : k0_cond2 i v1 v4 v8 = 1#1 ↔ 0 < v1.toInt ∧ ((i 0).val = 0 ∨ v4 ≠ v8) := by
  have key : ∀ a b d : BitVec 1, Scalar.andi a (Scalar.ori b d) = 1#1 ↔ a = 1#1 ∧ (b = 1#1 ∨ d = 1#1) := by decide
  unfold k0_cond2
  refine (bit_iff _).trans ((key _ _ _).trans (and_congr (WordCmp.ofBool_decide_eq_one_iff _) (or_congr ?_ ?_)))
  · rw [first_iff]; exact WordCmp.ofBool_decide_eq_one_iff _
  · change BitVec.ofBool (v4 != v8) = 1#1 ↔ _
    rw [StableHlo.Predicate.ofBool_eq_one_iff]; exact bne_iff_ne

/-- The rest of a tile once its weights are in the scratch; a dead tile's weights do not matter. -/
theorem tileOut_dead (v1 : BitVec 32) (h : ¬ 0 < v1.toInt) (x : Vec F S4096x128 .bf16) (g g' d d') : tileOut v1 x g d = tileOut v1 x g' d' := by
  have h4 : ¬ k0_cond4 v1 = 1#1 := fun e => h ((cond4_iff _).1 e)
  have h6 : ¬ k0_cond6 v1 = 1#1 := fun e => h (by have := (cond6_iff _).1 e; omega)
  funext q
  unfold tileOut
  by_cases hq : (q 0).val < 2048
  · rw [dif_pos hq, dif_pos hq, if_neg h4, if_neg h4]
  · rw [dif_neg hq, dif_neg hq, if_neg h6, if_neg h6]

theorem ask_skip (i : grid0.Coords) (h : ¬ k0_cond1 i = 1#1) (K : PUnit → sProp 𝕄) : K ⟨⟩ ⊢ wp frame (wpE (defs₀ (F := F)) Variants.none c none) Set.univ (ask0 i) K := by
  iintro HK
  unfold ask0
  rw [dif_neg h]
  sl_step
  iexact HK

theorem take_skip (i : grid0.Coords) (v1 v4 v8 : BitVec 32) (h : ¬ k0_cond2 i v1 v4 v8 = 1#1) (K : PUnit → sProp 𝕄) :
    K ⟨⟩ ⊢ wp frame (wpE (defs₀ (F := F)) Variants.none c none) Set.univ (take i v1 v4 v8) K := by
  iintro HK
  unfold take
  rw [dif_neg h]
  sl_step
  iexact HK

variable (xte : Buf (Elt F) (teM.view.loc (c : Thread nD τ))) (xnx : Buf (Elt F) (nxM.view.loc (c : Thread nD τ)))

/-- At point `k` the weights move on: asked for, taken, kept or let be. -/
theorem turn_wp (hG : Good (word teM xte) tb tr (word nxM xnx)) (i : grid0.Coords) (k : ℕ) (hk : k < 96) (hi : (i 0).val = k) (v8 : BitVec 32)
    (hv8 : ∀ j (hj : j < 96), k = j + 1 → v8 = word teM xte ⟨j, hj⟩) (K : PUnit → sProp 𝕄) :
    iprop(Kept c Wg Wu Wd hG k hk.le ∗ (teM.view.loc (c : Thread nD τ) ↦{fullShare.right} xte) ∗ (nxM.view.loc (c : Thread nD τ) ↦{fullShare.right} xnx)
      ∗ (∃ W, owes (c : Thread nD τ) 0 W)
      ∗ (iprop(Kept c Wg Wu Wd hG (k + 1) hk ∗ (teM.view.loc (c : Thread nD τ) ↦{fullShare.right} xte) ∗ (nxM.view.loc (c : Thread nD τ) ↦{fullShare.right} xnx)
          ∗ (∃ W, owes (c : Thread nD τ) 0 W)) -∗ K ⟨⟩))
      ⊢ wp frame (wpE (defs₀ (F := F)) Variants.none c none) Set.univ (ask0 i) (fun _ => wp frame (wpE (defs₀ (F := F)) Variants.none c none) Set.univ (take i (tr ⟨k, hk⟩) (word teM xte ⟨k, hk⟩) v8) K) := by
  have hr5 : (teM.view.readAt (Elt F) (Rect.unit (s := S96) (k0_off5 i) S1.size (k0_off5_inb i)).toLoadRect xte (Shape.Idx.first (numel1_S1.symm ▸ Nat.one_pos)) : BitVec 32) = word teM xte ⟨k, hk⟩ :=
    word_at teM xte _ _ ⟨k, hk⟩ ((congrFun (k0_off5_eq i) 0).trans hi)
  have hr8 : (nxM.view.readAt (Elt F) (Rect.unit (s := S96) (k0_off8 i) S1.size (k0_off8_inb i)).toLoadRect xnx (Shape.Idx.first (numel1_S1.symm ▸ Nat.one_pos)) : BitVec 32) = word nxM xnx ⟨k, hk⟩ :=
    word_at nxM xnx _ _ ⟨k, hk⟩ ((congrFun (k0_off8_eq i) 0).trans hi)
  match k, hk, hi with
  | 0, hk, hi =>
    have h1 : k0_cond1 i = 1#1 := (cond1_iff i).2 hi
    have hl : 0 < (tr ⟨0, hk⟩).toInt := hG.first
    have h2 : k0_cond2 i (tr ⟨0, hk⟩) (word teM xte ⟨0, hk⟩) v8 = 1#1 := (cond2_iff ..).2 ⟨hl, Or.inl hi⟩
    simp only [Kept]
    rw [if_pos hl]
    unfold still
    iintro ⟨⟨HI, ⟨%G, HG⟩, ⟨%D, HD⟩⟩, HT, HN, HO, HK⟩
    iapply (ask_wp c Wg Wu Wd i h1 xte (word teM xte ⟨0, hk⟩) (hG.te_lt _) (word_at teM xte _ _ ⟨0, hk⟩ rfl) _)
    isplitl [HT]; · iexact HT
    isplitl [HI]; · iexact HI
    iintro ⟨HT, HA⟩
    iapply (take_wp c Wg Wu Wd i _ _ v8 h2 xte xnx (word teM xte ⟨0, hk⟩) (hG.te_lt _) hr5 (word nxM xnx ⟨0, hk⟩) hr8 (hG.sent _) G D _)
    isplitl [HT]; · iexact HT
    isplitl [HN]; · iexact HN
    isplitl [HA]; · iexact HA
    isplitl [HG]; · iexact HG
    isplitl [HD]; · iexact HD
    isplitl [HO]; · iexact HO
    iintro ⟨HT, HN, HX, HR, HO⟩
    iapply HK
    isplitl [HX HR]
    · isplitl [HX]; · iexact HX
      iexact HR
    isplitl [HT]; · iexact HT
    isplitl [HN]; · iexact HN
    iexact HO
  | k + 1, hk, hi =>
    have h1 : ¬ k0_cond1 i = 1#1 := fun e => by have := (cond1_iff i).1 e; omega
    obtain rfl : v8 = word teM xte ⟨k, by omega⟩ := hv8 k (by omega) rfl
    by_cases hl : 0 < (tr ⟨k + 1, hk⟩).toInt
    · have hl' := hG.down k hk hl
      rw [Kept_live c Wg Wu Wd hG k hk.le hl', Kept_live c Wg Wu Wd hG (k + 1) hk hl]
      by_cases he : word teM xte ⟨k + 1, hk⟩ = word teM xte ⟨k, by omega⟩
      · have h2 : ¬ k0_cond2 i (tr ⟨k + 1, hk⟩) (word teM xte ⟨k + 1, hk⟩) (word teM xte ⟨k, by omega⟩) = 1#1 := fun e => by
          rcases ((cond2_iff ..).1 e).2 with h | h
          · omega
          · exact h he
        have hn := hG.same k hk hl he
        have e : ∀ (n n' v v' : BitVec 32) (_ : n = n') (_ : v = v') hn hn' hv hv',
            iprop(next c Wg Wu Wd n hn ∗ ready c Wg Wu Wd v.toNat hv) ⊢ iprop(next c Wg Wu Wd n' hn' ∗ ready c Wg Wu Wd v'.toNat hv') := by
          rintro n _ v _ rfl rfl _ _ _ _; exact .rfl
        iintro ⟨HP, HT, HN, HO, HK⟩
        iapply (ask_skip c i h1 _)
        iapply (take_skip c i _ _ _ h2 _)
        iapply HK
        isplitl [HP]
        · iapply (e _ _ _ _ hn.symm he.symm (hG.sent _) (hG.sent _) (hG.te_lt _) (hG.te_lt _))
          iexact HP
        isplitl [HT]; · iexact HT
        isplitl [HN]; · iexact HN
        iexact HO
      · have h2 : k0_cond2 i (tr ⟨k + 1, hk⟩) (word teM xte ⟨k + 1, hk⟩) (word teM xte ⟨k, by omega⟩) = 1#1 := (cond2_iff ..).2 ⟨hl, Or.inr he⟩
        have hn := hG.fresh k hk hl he
        have hlt := hG.te_lt ⟨k + 1, hk⟩
        have h3 : k0_cond3 (word nxM xnx ⟨k, by omega⟩) = 1#1 := (cond3_iff _).2 (by rw [← hn, BitVec.toInt_eq_toNat_cond]; split <;> omega)
        have e : ∀ (n v : BitVec 32) (_ : v = n) (_ : k0_cond3 n = 1#1) hn hv, next c Wg Wu Wd n hn ⊢ away c Wg Wu Wd v.toNat hv := by
          rintro n _ rfl h3 _ _; unfold next; rw [dif_pos h3]
        iintro ⟨⟨HX, HY⟩, HT, HN, HO, HK⟩
        iapply (ask_skip c i h1 _)
        ihave HY2 : (iprop(∃ G D, ⌜cgM.view.read (Elt F) G = gates c Wg Wu _ (hG.te_lt ⟨k, by omega⟩) ∧ cdM.view.read (Elt F) D = downs c Wd _ (hG.te_lt ⟨k, by omega⟩)⌝ ∗ hold c cgM G ∗ hold c cdM D)) $$ [HY]
        · iapply (ready_open c Wg Wu Wd _ _); iexact HY
        icases HY2 with ⟨%G, %D, %hGD, HG, HD⟩
        iapply (take_wp c Wg Wu Wd i _ _ _ h2 xte xnx (word teM xte ⟨k + 1, hk⟩) (hG.te_lt _) hr5 (word nxM xnx ⟨k + 1, hk⟩) hr8 (hG.sent _) G D _)
        isplitl [HT]; · iexact HT
        isplitl [HN]; · iexact HN
        isplitl [HX]
        · iapply (e _ _ hn h3 (hG.sent _) (hG.te_lt _)); iexact HX
        isplitl [HG]; · iexact HG
        isplitl [HD]; · iexact HD
        isplitl [HO]; · iexact HO
        iintro ⟨HT, HN, HX, HR, HO⟩
        iapply HK
        isplitl [HX HR]
        · isplitl [HX]; · iexact HX
          iexact HR
        isplitl [HT]; · iexact HT
        isplitl [HN]; · iexact HN
        iexact HO
    · have h2 : ¬ k0_cond2 i (tr ⟨k + 1, hk⟩) (word teM xte ⟨k + 1, hk⟩) (word teM xte ⟨k, by omega⟩) = 1#1 := fun e => hl ((cond2_iff ..).1 e).1
      rw [Kept_dead c Wg Wu Wd hG (k + 1) hk hl]
      iintro ⟨HP, HT, HN, HO, HK⟩
      iapply (ask_skip c i h1 _)
      iapply (take_skip c i _ _ _ h2 _)
      iapply HK
      isplitl [HP]
      · iapply (Kept_over c Wg Wu Wd hG k hk.le fun hl' => hG.quiet k hk hl hl'); iexact HP
      isplitl [HT]; · iexact HT
      isplitl [HN]; · iexact HN
      iexact HO

variable (xtr : Buf (Elt F) (trM.view.loc (c : Thread nD τ)))

/-- The body at point `k`. -/
theorem steps_wp (hG : Good (word teM xte) tb (word trM xtr) (word nxM xnx)) (i : grid0.Coords) (k : ℕ) (hk : k < 96) (hi : (i 0).val = k)
    (arg5 : Memref sig .tc .vmem S4096x128 .bf16) (harg5 : arg5.IsWhole) (arg9 : Memref sig .tc .vmem S4096x128 .f32) (harg9 : arg9.IsWhole)
    (x : Vec F S4096x128 .bf16) (K : PUnit → sProp 𝕄) :
    iprop(Kept c Wg Wu Wd hG k hk.le ∗ (teM.view.loc (c : Thread nD τ) ↦{fullShare.right} xte) ∗ (trM.view.loc (c : Thread nD τ) ↦{fullShare.right} xtr) ∗ (nxM.view.loc (c : Thread nD τ) ↦{fullShare.right} xnx)
      ∗ (∃ W, owes (c : Thread nD τ) 0 W) ∗ (∃ f, hold c stM f) ∗ owns (c : Thread nD τ) arg5 fullShare x ∗ (∃ d, owns (c : Thread nD τ) arg9 fullShare d)
      ∗ (iprop(Kept c Wg Wu Wd hG (k + 1) hk ∗ (teM.view.loc (c : Thread nD τ) ↦{fullShare.right} xte) ∗ (trM.view.loc (c : Thread nD τ) ↦{fullShare.right} xtr) ∗ (nxM.view.loc (c : Thread nD τ) ↦{fullShare.right} xnx)
          ∗ (∃ W, owes (c : Thread nD τ) 0 W) ∗ (∃ f, hold c stM f) ∗ owns (c : Thread nD τ) arg5 fullShare x
          ∗ owns (c : Thread nD τ) arg9 fullShare (tileOut (word trM xtr ⟨k, hk⟩) x (gates c Wg Wu (word teM xte ⟨k, hk⟩).toNat (hG.te_lt _)) (downs c Wd (word teM xte ⟨k, hk⟩).toNat (hG.te_lt _)))) -∗ K ⟨⟩))
      ⊢ wp frame (wpE (defs₀ (F := F)) Variants.none c none) Set.univ (steps i arg5 harg5 arg9 harg9) K := by
  have e : steps (F := F) i arg5 harg5 arg9 harg9 = (smemLoad trM (Rect.unit (s := S96) (k0_off1 i) S1.size (k0_off1_inb i)) numel1_S1 rfl >>= fun v1 =>
      smemLoad teM (Rect.unit (s := S96) (k0_off1 i) S1.size (k0_off1_inb i)) numel1_S1 rfl >>= fun v4 =>
      smemLoad teM (Rect.unit (s := S96) (k0_off2 i) S1.size (k0_off2_inb i)) numel1_S1 rfl >>= fun v8 =>
      ask0 i >>= fun _ => take i v1 v4 v8 >>= fun _ => calcs i arg5 harg5 arg9 harg9 v1) := rfl
  rw [e]
  simp only [wp_bind]
  iintro ⟨HP, HT, HR, HN, HO, HS, H5, H9, HK⟩
  iapply (load_wp c trM xtr _ _ ⟨k, hk⟩ ((congrFun (k0_off1_eq i) 0).trans hi) _)
  isplitl [HR]; · iexact HR
  iintro HR
  iapply (load_wp c teM xte _ _ ⟨k, hk⟩ ((congrFun (k0_off1_eq i) 0).trans hi) _)
  isplitl [HT]; · iexact HT
  iintro HT
  iapply (load_wp c teM xte _ _ ⟨k - 1, by omega⟩ ((off2_eq i).trans (by rw [hi])) _)
  isplitl [HT]; · iexact HT
  iintro HT
  iapply (turn_wp c Wg Wu Wd xte xnx hG i k hk hi _ (fun j hj e => by subst e; rfl) _)
  isplitl [HP]; · iexact HP
  isplitl [HT]; · iexact HT
  isplitl [HN]; · iexact HN
  isplitl [HO]; · iexact HO
  iintro ⟨HP, HT, HN, HO⟩
  by_cases hl : 0 < (word trM xtr ⟨k, hk⟩).toInt
  · ihave HP2 : (iprop(next c Wg Wu Wd (word nxM xnx ⟨k, hk⟩) (hG.sent _) ∗ (∃ G D, ⌜cgM.view.read (Elt F) G = gates c Wg Wu _ (hG.te_lt ⟨k, hk⟩) ∧ cdM.view.read (Elt F) D = downs c Wd _ (hG.te_lt ⟨k, hk⟩)⌝ ∗ hold c cgM G ∗ hold c cdM D))) $$ [HP]
    · iapply (live_open c Wg Wu Wd hG k hk hl); iexact HP
    icases HP2 with ⟨HX, ⟨%G, %D, %hGD, HG, HD⟩⟩
    iapply (calcs_wp c i arg5 harg5 arg9 harg9 _ x G D Set.univ _)
    isplitl [H5]; · iexact H5
    isplitl [HG]; · iexact HG
    isplitl [HD]; · iexact HD
    isplitl [HS]; · iexact HS
    isplitl [H9]; · iexact H9
    iintro ⟨H5, HG, HD, HS, H9⟩
    rw [hGD.1, hGD.2]
    iapply HK
    isplitl [HX HG HD]
    · iapply (same_in (Kept_live c Wg Wu Wd hG k hk hl).symm)
      isplitl [HX]; · iexact HX
      unfold ready
      iexists G; iexists D
      isplitr; · ipureintro; exact hGD
      isplitl [HG]; · iexact HG
      iexact HD
    isplitl [HT]; · iexact HT
    isplitl [HR]; · iexact HR
    isplitl [HN]; · iexact HN
    isplitl [HO]; · iexact HO
    isplitl [HS]; · iexact HS
    isplitl [H5]; · iexact H5
    iexact H9
  · ihave HP2 : (iprop(idle c Wg Wu Wd ∗ (∃ G, hold c cgM G) ∗ (∃ D, hold c cdM D))) $$ [HP]
    · iapply (still_open c Wg Wu Wd); iapply (same_in (Kept_dead c Wg Wu Wd hG k hk hl)); iexact HP
    icases HP2 with ⟨HX, ⟨%G, HG⟩, ⟨%D, HD⟩⟩
    iapply (calcs_wp c i arg5 harg5 arg9 harg9 _ x G D Set.univ _)
    isplitl [H5]; · iexact H5
    isplitl [HG]; · iexact HG
    isplitl [HD]; · iexact HD
    isplitl [HS]; · iexact HS
    isplitl [H9]; · iexact H9
    iintro ⟨H5, HG, HD, HS, H9⟩
    rw [tileOut_dead (F := F) _ hl x (cgM.view.read (Elt F) G) (gates c Wg Wu (word teM xte ⟨k, hk⟩).toNat (hG.te_lt _)) (cdM.view.read (Elt F) D) (downs c Wd (word teM xte ⟨k, hk⟩).toNat (hG.te_lt _))]
    iapply HK
    isplitl [HX HG HD]
    · iapply (same_in (Kept_dead c Wg Wu Wd hG k hk hl).symm)
      unfold still
      isplitl [HX]; · iexact HX
      isplitl [HG]; · iexists G; iexact HG
      iexists D; iexact HD
    isplitl [HT]; · iexact HT
    isplitl [HR]; · iexact HR
    isplitl [HN]; · iexact HN
    isplitl [HO]; · iexact HO
    isplitl [HS]; · iexact HS
    isplitl [H5]; · iexact H5
    iexact H9

end Cert.ExpertsIdeal.Moe

end
-- ==== Proof.MoeFrame.lean ====
/- The run of the experts' kernel at any values, of tables that are in order: it terminates, leaves its arguments alone
   and its counters at zero, and leaves in the result array the tiles the body stores. -/
module

public import proofs.«01_k».proof.Proof.MoeStep
public import Idealize.ShloMosaic.Lib.Claim
public import Idealize.ShloMosaic.Lib.Pipeline.Kit
public import Idealize.ShloMosaic.Lib.Pipeline.FrameBody

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- @main is the region alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents at the launch (there is one device). -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

/-! The four tables' words: a tile's expert, its block of rows, the count of its real rows, the expert to fetch next. -/
abbrev teW : Fin 96 → BitVec 32 := word (F := F) (c := (0 : Dev nD)) teM (tbl m 0)
abbrev tbW : Fin 96 → BitVec 32 := word (F := F) (c := (0 : Dev nD)) tbM (tbl m 1)
abbrev trW : Fin 96 → BitVec 32 := word (F := F) (c := (0 : Dev nD)) trM (tbl m 2)
abbrev nxW : Fin 96 → BitVec 32 := word (F := F) (c := (0 : Dev nD)) nxM (tbl m 3)

/-- The tables are in order. -/
abbrev Hyps : Prop := Good (teW m) (tbW m) (trW m) (nxW m)

theorem block_word (i : grid0.Coords) (a : Fin 2) :
    cc0_transform_0 k0_off1_inb numel1_S1 (tbl m) i a = ![(tbW m ⟨(i 0).val, (i 0).isLt⟩).toNat, 0] a := by
  have e : (tbl m).at 1 (Rect.unit (s := S96) (k0_off1 i) S1.size (k0_off1_inb i)) numel1_S1 = tbW m ⟨(i 0).val, (i 0).isLt⟩ :=
    (word_at (F := F) (c := (0 : Dev nD)) tbM (tbl m 1) (k0_off1 i) (k0_off1_inb i) ⟨(i 0).val, (i 0).isLt⟩ (congrFun (k0_off1_eq i) 0))
  match a with
  | ⟨0, _⟩ => exact congrArg BitVec.toNat e
  | ⟨1, _⟩ => rfl

/-- Every tile's block of rows is inside the array. -/
theorem ok (hH : Hyps m) : ok0 (F := F) (tbl m) := by
  intro i
  refine ⟨fun a => ?_, .inr (Affine.block_words_dvd (of_decide_eq_true rfl) (by decide))⟩
  rw [block_word]
  match a with
  | ⟨0, _⟩ =>
    have := hH.tb_lt ⟨(i 0).val, (i 0).isLt⟩
    change ((tbW m ⟨(i 0).val, (i 0).isLt⟩).toNat + 1) * 4096 ≤ 393216
    omega
  | ⟨1, _⟩ => change (0 + 1) * 128 ≤ 128; decide
abbrev adm (hH : Hyps m) : (pcfg0 (F := F)).Adm := ⟨tbl m, ok m hH⟩
abbrev cfgM (hH : Hyps m) : Pipeline.Cfg sig Λ₀ := cfg0 (adm m hH)

/-- A table held for reading at the half share the region hands the body. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄)
    = iprop(tbPt c teM (tbl m 0) ∗ tbPt c tbM (tbl m 1) ∗ tbPt c trM (tbl m 2) ∗ tbPt c nxM (tbl m 3)) := by
  unfold Pipeline.ΦT Pipeline.prefHeld
  exact (bigSep_univ_eq_bigSepL [(0 : Fin 4), 1, 2, 3] (by decide) (by decide) _).trans rfl

/-- Window `w`'s block at point `t`, read off its array as launched. -/
def iblk (hH : Hyps m) (c : Dev nD) (w : Fin (cfgM m hH).W) (t : Fin (cfgM m hH).N) : (((cfgM m hH).win w).xblock ((cfgM m hH).grid.coords t)).Idx → Elt F ((cfgM m hH).win w).elt :=
  (((cfgM m hH).win w).blk t).view.read (Elt F) (V m c (Pipeline.arrRef spec0 w))

/-- The tile's input window holds its block of rows at every point, for any proof data over these arrays whose body
    leaves the block in place. -/
theorem before_0_of (hH : Hyps m) {c : Dev nD} (dat : Dat τ (Elt F) Unit ℕ (Pipeline.UD sig nD τ) ℕ (cfgM m hH) c) (hA : dat.A 0 = V m c (Pipeline.arrRef spec0 0))
    (hafter : ∀ t, dat.after 0 t = iblk m hH c 0 t) (t : Fin (cfgM m hH).N) (d) : dat.before 0 t d = iblk m hH c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem point_lt (hH : Hyps m) (t : Fin (cfgM m hH).N) : t.val < 96 := lt_of_lt_of_eq t.isLt N_0
theorem point_eq : ∀ t : Fin grid0.N, (grid0.coords t 0).val = t.val := by decide +kernel

/-! The gates and the output weights of a tile's expert. -/
abbrev gatesAt (hH : Hyps m) (c : Dev nD) (k : Fin 96) : FVec F S1024x1024 .bf16 :=
  gates (F := F) c (V m c main_arg5) (V m c main_arg6) (teW m k).toNat (hH.te_lt k)
abbrev downsAt (hH : Hyps m) (c : Dev nD) (k : Fin 96) : FVec F S512x1024 .bf16 :=
  downs (F := F) c (V m c main_arg7) (teW m k).toNat (hH.te_lt k)

/-- The output tile after the body at point `t`. -/
def outAt (hH : Hyps m) (c : Dev nD) (t : Fin (cfgM m hH).N) : Vec F S4096x128 .f32 :=
  tileOut (trW m ⟨t.val, point_lt m hH t⟩) (iblk m hH c 0 t) (gatesAt m hH c ⟨t.val, point_lt m hH t⟩) (downsAt m hH c ⟨t.val, point_lt m hH t⟩)

/-- What the body keeps from a point to the next: the weights in hand and on the way, the staging scratch, the
    generator's register and the tables. -/
def carry (hH : Hyps m) (c : Dev nD) (k : ℕ) (hk : k ≤ 96) : sProp 𝕄 :=
  iprop(Kept c (V m c main_arg5) (V m c main_arg6) (V m c main_arg7) hH k hk ∗ (∃ f, hold c stM f) ∗ (∃ r, prngReg c r) ∗ Pipeline.ΦT pre0 (tbl m) c)

/-- The pipeline's proof data: the input's block stays, the output's tile ends at `outAt`; nothing is owed. -/
def dats (hH : Hyps m) (_ : Fin 1) (c : Dev nD) : Dat τ (Elt F) Unit ℕ (Pipeline.UD sig nD τ) ℕ (cfgM m hH) c where
  A w := V m c (Pipeline.arrRef spec0 w)
  after w t := match w with
    | ⟨0, _⟩ => iblk m hH c 0 t
    | ⟨1, _⟩ => outAt m hH c t
  Φ t := carry m hH c t.val (Nat.lt_succ_iff.1 (lt_of_lt_of_eq t.isLt (congrArg (· + 1) N_0)))
  q _ := fullShare
  owed _ := 0

theorem A_eq (hH : Hyps m) (c : Dev nD) (w : Fin (cfgM m hH).W) : (dats m hH 0 c).A w = V m c (Pipeline.arrRef spec0 w) := by
  dsimp only [dats]

theorem after_0 (hH : Hyps m) (c : Dev nD) (t : Fin (cfgM m hH).N) : (dats m hH 0 c).after 0 t = iblk m hH c 0 t := by dsimp only [dats]; try rfl
theorem after_1 (hH : Hyps m) (c : Dev nD) (t : Fin (cfgM m hH).N) : (dats m hH 0 c).after 1 t = outAt m hH c t := by dsimp only [dats]; try rfl

theorem before_0 (hH : Hyps m) (c : Dev nD) (t : Fin (cfgM m hH).N) (d) : (dats m hH 0 c).before 0 t d = iblk m hH c 0 t :=
  before_0_of m hH (dats m hH 0 c) (A_eq m hH c 0) (after_0 m hH c) t d

/-! Each window's staging memref at point `t`, and its wholeness. -/
abbrev ms0 (hH : Hyps m) (t : Fin (cfgM m hH).N) : Memref sig .tc .vmem S4096x128 .bf16 := spec0_0.stage ((cfgM m hH).slots t 0)
abbrev hs0 (hH : Hyps m) (t : Fin (cfgM m hH).N) : (ms0 m hH t).IsWhole := hstage0_0 (((cfgM m hH).slots t 0).cast nbuf0_0)
abbrev ms1 (hH : Hyps m) (t : Fin (cfgM m hH).N) : Memref sig .tc .vmem S4096x128 .f32 := spec0_1.stage ((cfgM m hH).slots t 1)
abbrev hs1 (hH : Hyps m) (t : Fin (cfgM m hH).N) : (ms1 m hH t).IsWhole := hstage0_1 (((cfgM m hH).slots t 1).cast nbuf0_1)

/-- The body as the pipeline calls it at point `t`. -/
abbrev bodyAt (hH : Hyps m) (t : Fin (cfgM m hH).N) : Prog (TpuEff nD τ sig (Elt F) Λ₀ .tc) PUnit :=
  bodyOn (grid0.coords t) (ms0 m hH t) (hs0 m hH t) (ms1 m hH t) (hs1 m hH t)

/-- What the body is called with at point `t`, window by window, -/
def bodyPre (hH : Hyps m) (c : Dev nD) (t : Fin (cfgM m hH).N) : sProp 𝕄 :=
  iprop((dats m hH 0 c).Φ t.castSucc ∗ (dats m hH 0 c).owesAt () t.castSucc
    ∗ (∃ d, owns (c : Thread nD τ) (ms0 m hH t) fullShare ((dats m hH 0 c).before 0 t d))
    ∗ (∃ d, owns (c : Thread nD τ) (ms1 m hH t) fullShare ((dats m hH 0 c).before 1 t d)))

/-- and what it returns. -/
def bodyPost (hH : Hyps m) (c : Dev nD) (t : Fin (cfgM m hH).N) : sProp 𝕄 :=
  iprop((dats m hH 0 c).Φ t.succ ∗ (dats m hH 0 c).owesAt () t.succ
    ∗ owns (c : Thread nD τ) (ms0 m hH t) fullShare ((dats m hH 0 c).after 0 t)
    ∗ owns (c : Thread nD τ) (ms1 m hH t) fullShare ((dats m hH 0 c).after 1 t))

theorem owes_in (hH : Hyps m) (c : Dev nD) (t : Fin ((cfgM m hH).N + 1)) :
    ((dats m hH 0 c).owesAt () t : sProp 𝕄) ⊢ iprop(∃ W, owes (c : Thread nD τ) 0 W) := by
  unfold Dat.owesAt Pipeline.owesWithin
  rw [show (dats m hH 0 c).owed t = 0 from rfl]
  iintro ⟨%W, %hW, H⟩
  iexists W; iexact H

theorem owes_out (hH : Hyps m) (c : Dev nD) (t : Fin ((cfgM m hH).N + 1)) :
    iprop(∃ W, owes (c : Thread nD τ) 0 W) ⊢ ((dats m hH 0 c).owesAt () t : sProp 𝕄) := by
  unfold Dat.owesAt Pipeline.owesWithin
  rw [show (dats m hH 0 c).owed t = 0 from rfl]
  iintro ⟨%W, H⟩
  iexists W; isplitr; · ipureintro; exact fun _ _ => Or.inl trivial
  iexact H

theorem sound_body (hH : Hyps m) (c : Dev nD) (t : Fin (cfgM m hH).N) :
    bodyPre m hH c t ⊢ wp frame (wpE (defs₀ (F := F)) Variants.none c none) Set.univ (bodyAt m hH t) (fun _ => bodyPost m hH c t) := by
  obtain rfl : c = 0 := Subsingleton.elim _ _
  unfold bodyPre bodyPost bodyAt
  simp only [before_0]
  rw [after_0, after_1, bodyOn_eq,
    show (dats m hH 0 (0 : Dev nD)).Φ t.castSucc = carry m hH 0 t.val (point_lt m hH t).le from rfl,
    show (dats m hH 0 (0 : Dev nD)).Φ t.succ = carry m hH 0 (t.val + 1) (point_lt m hH t) from rfl]
  unfold carry outAt
  rw [PhiT_eq]
  iintro ⟨⟨HP, HS, HR, HT0, HT1, HT2, HT3⟩, Ho, ⟨%d0, H0⟩, ⟨%d1, H1⟩⟩
  iapply (steps_wp (0 : Dev nD) (V m 0 main_arg5) (V m 0 main_arg6) (V m 0 main_arg7) (tbl m 0) (tbl m 3) (tbl m 2) hH (grid0.coords t) t.val (point_lt m hH t) (point_eq t)
    (ms0 m hH t) (hs0 m hH t) (ms1 m hH t) (hs1 m hH t) (iblk m hH 0 0 t) _)
  isplitl [HP]; · iexact HP
  isplitl [HT0]; · iexact HT0
  isplitl [HT2]; · iexact HT2
  isplitl [HT3]; · iexact HT3
  isplitl [Ho]; · iapply (owes_in m hH 0 _); iexact Ho
  isplitl [HS]; · iexact HS
  isplitl [H0]; · iexact H0
  isplitl [H1]; · iexists _; iexact H1
  iintro ⟨HP, HT0, HT2, HT3, Ho, HS, H0, H1⟩
  isplitl [HP HS HR HT0 HT1 HT2 HT3]
  · isplitl [HP]; · iexact HP
    isplitl [HS]; · iexact HS
    isplitl [HR]; · iexact HR
    isplitl [HT0]; · iexact HT0
    isplitl [HT1]; · iexact HT1
    isplitl [HT2]; · iexact HT2
    iexact HT3
  isplitl [Ho]; · iapply (owes_out m hH 0 _); iexact Ho
  isplitl [H0]; · iexact H0
  iexact H1

/-- The body stores a tile at every point. -/
theorem busy (v : BitVec 32) : (!(k0_cond4 v == 1#1) && !(k0_cond5 v == 1#1) && !(k0_cond6 v == 1#1) && !(k0_cond7 v == 1#1)) = false := by
  by_cases h : k0_cond4 v = 1#1
  · simp [h]
  · simp [(cond5_iff v).2 h]

theorem idle_1 (hH : Hyps m) (i : grid0.Coords) : (cfgM m hH).idle 1 i = false := busy _

theorem defs₀_row (hH : Hyps m) (t : Fin (cfgM m hH).N) :
    defs₀ (F := F) .tc (cfgM m hH).body ((cfgM m hH).bodyArgs t ((cfgM m hH).slots t)) = bodyAt m hH t := by
  unfold defs₀; rw [Defs.onTc_tc]

theorem body_obligation (hH : Hyps m) (c : Dev nD) : BodyObligation (dats (F := F) m hH 0 c) (defs₀ (F := F)) Variants.none () Set.univ := fun t => by
  rw [bigSep_W0, bigSep_W0, defs₀_row m hH]
  refine triple_restated (sound_body m hH c t) rfl .rfl fun _ => ?_
  have hb := idle_1 m hH ((cfgM m hH).grid.coords t)
  unfold bodyPost
  refine sep_mono .rfl (sep_mono .rfl (sep_mono .rfl ?_))
  dsimp only
  split
  · rename_i h; exact absurd (h.symm.trans hb) (by decide)
  · exact .rfl

/-- The kernel's own semaphore. -/
abbrev osem0 : Fin 1 → SemLoc sig := fun _ => SemLoc.dma 4
/-- The arrays it fetches from itself. -/
abbrev fetched : Finset (Ref sig .tc) := {main_arg5, main_arg6, main_arg7}

theorem fetched_sub : fetched ⊆ Pipeline.restRefsP sig pre0 spec0 := by decide

theorem own_facts : Pipeline.OwnSemFacts spec0 osem0 := by decide

theorem sems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 4) 0) := by
  rw [Pipeline.ownSems0_eq_of_list c osem0 [0] (by decide) (by decide)]; rfl

theorem fetched_eq (c : Dev nD) : (bigSep fetched fun b => ((c.tc : Thread nD τ).loc b) ↦{fullShare} V m c b : sProp 𝕄)
    = iprop(hold c wgM (V m c main_arg5) ∗ hold c wuM (V m c main_arg6) ∗ hold c wdM (V m c main_arg7)) := by
  rw [BI.bigSep_eq_bigSepL_of_eq [main_arg5, main_arg6, main_arg7] (by decide) (by decide)]; rfl

theorem still_in (c : Dev nD) : (Pipeline.ΦD osem0 spec0 fetched (V m) c : sProp 𝕄)
    ⊢ iprop(still c (V m c main_arg5) (V m c main_arg6) (V m c main_arg7) ∗ (∃ f, hold c stM f) ∗ (∃ r, prngReg c r)) := by
  rw [Pipeline.ΦD_eq, scopedRest0_eq, sems_eq, fetched_eq]
  unfold still idle
  iintro ⟨⟨HG, HD, HS, HFG, HFU, HFD⟩, HR, HV, HW0, HW1, HW2⟩
  isplitl [HG HD HFG HFU HFD HV HW0 HW1 HW2]
  · isplitl [HFG HFU HFD HV HW0 HW1 HW2]
    · isplitl [HFG]; · iexact HFG
      isplitl [HFU]; · iexact HFU
      isplitl [HFD]; · iexact HFD
      isplitl [HW0]; · iexact HW0
      isplitl [HW1]; · iexact HW1
      isplitl [HW2]; · iexact HW2
      iexact HV
    isplitl [HG]; · iexact HG
    iexact HD
  isplitl [HS]; · iexact HS
  iexact HR

theorem still_out (c : Dev nD) : iprop(still c (V m c main_arg5) (V m c main_arg6) (V m c main_arg7) ∗ (∃ f, hold c stM f) ∗ (∃ r, prngReg c r))
    ⊢ (Pipeline.ΦD osem0 spec0 fetched (V m) c : sProp 𝕄) := by
  rw [Pipeline.ΦD_eq, scopedRest0_eq, sems_eq, fetched_eq]
  unfold still idle
  iintro ⟨⟨⟨HFG, HFU, HFD, HW0, HW1, HW2, HV⟩, HG, HD⟩, HS, HR⟩
  isplitl [HG HD HS HFG HFU HFD]
  · isplitl [HG]; · iexact HG
    isplitl [HD]; · iexact HD
    isplitl [HS]; · iexact HS
    isplitl [HFG]; · iexact HFG
    isplitl [HFU]; · iexact HFU
    iexact HFD
  isplitl [HR]; · iexact HR
  isplitl [HV]; · iexact HV
  isplitl [HW0]; · iexact HW0
  isplitl [HW1]; · iexact HW1
  iexact HW2

theorem start (hH : Hyps m) (c : Dev nD) : iprop(Pipeline.ΦD osem0 spec0 fetched (V m) c ∗ Pipeline.ΦT pre0 (tbl m) c) ⊢ ((dats m hH 0 c).Φ 0 : sProp 𝕄) := by
  rw [show (dats m hH 0 c).Φ 0 = iprop(still c (V m c main_arg5) (V m c main_arg6) (V m c main_arg7) ∗ (∃ f, hold c stM f) ∗ (∃ r, prngReg c r) ∗ Pipeline.ΦT pre0 (tbl m) c) from rfl]
  iintro ⟨HD, HT⟩
  ihave H : (iprop(still c (V m c main_arg5) (V m c main_arg6) (V m c main_arg7) ∗ (∃ f, hold c stM f) ∗ (∃ r, prngReg c r))) $$ [HD]
  · iapply (still_in m c); iexact HD
  icases H with ⟨HP, HS, HR⟩
  isplitl [HP]; · iexact HP
  isplitl [HS]; · iexact HS
  isplitl [HR]; · iexact HR
  iexact HT

theorem finish (hH : Hyps m) (c : Dev nD) : ((dats m hH 0 c).Φ (Fin.last (cfgM m hH).N) : sProp 𝕄) ⊢ Pipeline.ΦD osem0 spec0 fetched (V m) c := by
  have e : ∀ k (_ : k = 96) hk, carry m hH c k hk = carry m hH c (95 + 1) (by decide) := by rintro _ rfl _; rfl
  rw [show (dats m hH 0 c).Φ (Fin.last (cfgM m hH).N) = carry m hH c (Fin.last (cfgM m hH).N).val _ from rfl, e _ (show (Fin.last (cfgM m hH).N).val = 96 from N_0)]
  unfold carry
  iintro ⟨HP, HS, HR, HT⟩
  iapply (still_out m c)
  isplitl [HP]
  · iapply (Kept_over c _ _ _ hH 95 (by decide) fun hl => hH.last hl); iexact HP
  isplitl [HS]; · iexact HS
  iexact HR

set_option backward.isDefEq.respectTransparency.types false in
theorem run_main_quiescent (hH : Hyps m) : θ_run defs (onTc (τ := τ) (main (F := F))) (s₀ m ρ) (fun r => (Pipeline.FramePost (Pipeline.pin pcfgs fun _ => adm m hH) (dats m hH) 0 (V m)) r ∧ r.2.sem = fun _ => 0) :=
  Pipeline.θ_run_frameP_dma (Q' := _) pcfgs (fun _ => adm m hH) (dats m hH) (0 : Fin 1) launch0 osem0 defs₀ Variants.none own_facts fetched fetched_sub m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hin := start m hH) (hout := finish m hH)

theorem run_main (hH : Hyps m) : θ_run defs (onTc (τ := τ) (main (F := F))) (s₀ m ρ) (Pipeline.FramePost (Pipeline.pin pcfgs fun _ => adm m hH) (dats m hH) 0 (V m)) :=
  (θ_run defs _ _).mono (fun _ h => h.1) (run_main_quiescent m ρ hH)

/-- The arguments are left alone. -/
abbrev Same (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

theorem same_of (hH : Hyps m) (r) (h : Pipeline.FramePost (Pipeline.pin pcfgs fun _ => adm m hH) (dats m hH) 0 (V m) r) : Same m r := fun c =>
  ⟨(h c).2 main_arg0 (by decide : main_arg0 ∈ Pipeline.restRefs sig spec0), (h c).2 main_arg1 (by decide : main_arg1 ∈ Pipeline.restRefs sig spec0),
    (h c).2 main_arg2 (by decide : main_arg2 ∈ Pipeline.restRefs sig spec0), (h c).2 main_arg3 (by decide : main_arg3 ∈ Pipeline.restRefs sig spec0),
    ((h c).1 0).trans (((dats m hH 0 c).arrAt_in 0 rfl _).trans (A_eq m hH c 0)),
    (h c).2 main_arg5 (by decide : main_arg5 ∈ Pipeline.restRefs sig spec0), (h c).2 main_arg6 (by decide : main_arg6 ∈ Pipeline.restRefs sig spec0),
    (h c).2 main_arg7 (by decide : main_arg7 ∈ Pipeline.restRefs sig spec0)⟩

/-- The frame claim at any values. -/
theorem frame (hH : Hyps m) : θ_run defs (onTc (τ := τ) (main (F := F))) ⟨m, fun _ => 0, ρ⟩ (fun r => Same m r ∧ r.2.sem = fun _ => 0) :=
  (θ_run defs _ _).mono (fun r h => ⟨same_of m hH r h.1, h.2⟩) (run_main_quiescent m ρ hH)

end Cert.ExpertsIdeal.Moe

end
-- ==== Proof.MoeTables.lean ====
/- The tables' preconditions read tile by tile: the tables are in order. -/
module

public import proofs.«01_k».proof.Proof.MoeFrame
public import proofs.«01_k».proof.Proof.Gen.Pre_tables
public import proofs.«01_k».proof.Proof.Gen.Pre_tables_padded
public import Idealize.ShloMosaic.Lib.Pointwise
public import Idealize.ShloMosaic.Lib.StableHlo.Predicate

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

theorem part_at {α : Type} (o : ℕ) (x : S96.Idx → α) (h : S96.Slices ![o] Cert.Pre_tables.S95) (k : Fin 95) (ho : o + k.val < 96) :
    extractStridedSlice Cert.Pre_tables.S95 ![o] x h (ix1 k) = x (ix1 ⟨o + k.val, ho⟩) :=
  extractStridedSlice_apply _ x h _ _ fun a => match a with | ⟨0, _⟩ => rfl

theorem pick_at {α : Type} (o : ℕ) (x : S96.Idx → α) (h : S96.Slices ![o] S1) (ho : o < 96) :
    extractStridedSlice S1 ![o] x h (ix1 0) = x (ix1 ⟨o, ho⟩) :=
  extractStridedSlice_apply _ x h _ _ fun a => match a with | ⟨0, _⟩ => rfl

/-- What the first precondition's seven arrays say, tile by tile. -/
structure Bits7 (te tb tr nx : Fin 96 → BitVec 32) : Prop where
  h1 : ∀ k, 0 ≤ (te k).toInt ∧ (te k).toInt < 32
  h2 : ∀ k, 0 ≤ (tb k).toInt ∧ (tb k).toInt < 96
  h3 : ∀ k, (nx k).toInt < 32
  h4 : 0 < (tr 0).toInt
  h5 : ∀ (k : ℕ) (h : k + 1 < 96), 0 < (tr ⟨k, by omega⟩).toInt ∨ ¬ 0 < (tr ⟨k + 1, h⟩).toInt
  h6 : ∀ (k : ℕ) (h : k + 1 < 96), if 0 < (tr ⟨k + 1, h⟩).toInt then
      (if te ⟨k + 1, h⟩ = te ⟨k, by omega⟩ then nx ⟨k + 1, h⟩ else te ⟨k + 1, h⟩) = nx ⟨k, by omega⟩
    else ¬ 0 < (tr ⟨k, by omega⟩).toInt ∨ (nx ⟨k, by omega⟩).toInt < 0
  h7 : ¬ 0 < (tr 95).toInt ∨ (nx 95).toInt < 0

theorem Bits7.good {te tb tr nx : Fin 96 → BitVec 32} (h : Bits7 te tb tr nx) : Good te tb tr nx where
  te_lt k := by have := h.h1 k; rw [BitVec.toInt_eq_toNat_cond] at this; split at this <;> omega
  tb_lt k := by have := h.h2 k; rw [BitVec.toInt_eq_toNat_cond] at this; split at this <;> omega
  nx_lt k h0 := by have := h.h3 k; rw [BitVec.toInt_eq_toNat_cond] at this h0; split at this <;> omega
  first := h.h4
  down k hk hl := (h.h5 k hk).resolve_right fun hn => hn hl
  same k hk hl he := by have := h.h6 k hk; rw [if_pos hl, if_pos he] at this; exact this
  fresh k hk hl he := by have := h.h6 k hk; rw [if_pos hl, if_neg he] at this; exact this
  quiet k hk hl h0 := by have := h.h6 k hk; rw [if_neg hl] at this; exact this.resolve_left fun hn => hn h0
  last hl := h.h7.resolve_left fun hn => hn hl

/-! A bit that is set, of the comparison it came from. -/
theorem and_bit (a b : BitVec 1) : IntOp.andi a b = 1#1 ↔ a = 1#1 ∧ b = 1#1 := by revert a b; decide
theorem or_bit (a b : BitVec 1) : IntOp.ori a b = 1#1 ↔ a = 1#1 ∨ b = 1#1 := by revert a b; decide
theorem not_bit (a : BitVec 1) : ~~~a = 1#1 ↔ ¬ a = 1#1 := by revert a; decide
theorem slt_bit (a b : BitVec 32) : IntOp.cmpi .slt a b = 1#1 ↔ a.toInt < b.toInt :=
  (StableHlo.Predicate.ofBool_eq_one_iff _).trans BitVec.slt_iff_toInt_lt
theorem sgt_bit (a b : BitVec 32) : IntOp.cmpi .sgt a b = 1#1 ↔ b.toInt < a.toInt :=
  (StableHlo.Predicate.ofBool_eq_one_iff _).trans BitVec.slt_iff_toInt_lt
theorem sge_bit (a b : BitVec 32) : IntOp.cmpi .sge a b = 1#1 ↔ b.toInt ≤ a.toInt :=
  (StableHlo.Predicate.ofBool_eq_one_iff _).trans BitVec.sle_iff_toInt_le
theorem eq_bit (a b : BitVec 32) : IntOp.cmpi .eq a b = 1#1 ↔ a = b :=
  (StableHlo.Predicate.ofBool_eq_one_iff _).trans beq_iff_eq
theorem pick_bit {c : BitVec 1} (a b : BitVec 1) : Scalar.select c a b = 1#1 ↔ if c = 1#1 then a = 1#1 else b = 1#1 := by
  unfold Scalar.select; change (if c = 1#1 then a else b) = 1#1 ↔ _; split <;> exact Iff.rfl
theorem pick_word {p : Prop} [Decidable p] {c : BitVec 1} (h : c = 1#1 ↔ p) (a b : BitVec 32) : Scalar.select c a b = if p then a else b := by
  unfold Scalar.select; change (if c = 1#1 then a else b) = _; simp only [h]

variable (te tb tr nx : IVec S96 32) (xs : FVec F S393216x128 .bf16) (wg wu : FVec F S32x1024x512 .f32) (wd : FVec F S32x512x1024 .f32)

theorem zero_int : (0#32).toInt = 0 := by decide
theorem lim_int : (32#32).toInt = 32 := by decide
theorem top_int : (96#32).toInt = 96 := by decide

/-- The seven bits as the preconditions print them, tile by tile. -/
theorem bits_of
    (e1 : ∀ k : Fin 96, IntOp.andi (IntOp.cmpi .sge (te (ix1 k)) 0#32) (IntOp.cmpi .slt (te (ix1 k)) 32#32) = 1#1)
    (e2 : ∀ k : Fin 96, IntOp.andi (IntOp.cmpi .sge (tb (ix1 k)) 0#32) (IntOp.cmpi .slt (tb (ix1 k)) 96#32) = 1#1)
    (e3 : ∀ k : Fin 96, IntOp.cmpi .slt (nx (ix1 k)) 32#32 = 1#1)
    (e4 : extractStridedSlice S1 ![0] (cmpi .sgt tr fun _ => 0#32) Cert.Pre_tables.Gen.facts.slices_S96_S1_0 (ix1 0) = 1#1)
    (e5 : ∀ k : Fin 95, IntOp.ori (extractStridedSlice Cert.Pre_tables.S95 ![0] (cmpi .sgt tr fun _ => 0#32) Cert.Pre_tables.Gen.facts.slices_S96_S95_0 (ix1 k))
      (~~~ extractStridedSlice Cert.Pre_tables.S95 ![1] (cmpi .sgt tr fun _ => 0#32) Cert.Pre_tables.Gen.facts.slices_S96_S95_1 (ix1 k)) = 1#1)
    (e6 : ∀ k : Fin 95, Scalar.select (extractStridedSlice Cert.Pre_tables.S95 ![1] (cmpi .sgt tr fun _ => 0#32) Cert.Pre_tables.Gen.facts.slices_S96_S95_1 (ix1 k))
      (IntOp.cmpi .eq (Scalar.select (IntOp.cmpi .eq (extractStridedSlice Cert.Pre_tables.S95 ![1] te Cert.Pre_tables.Gen.facts.slices_S96_S95_1 (ix1 k)) (extractStridedSlice Cert.Pre_tables.S95 ![0] te Cert.Pre_tables.Gen.facts.slices_S96_S95_0 (ix1 k)))
        (extractStridedSlice Cert.Pre_tables.S95 ![1] nx Cert.Pre_tables.Gen.facts.slices_S96_S95_1 (ix1 k)) (extractStridedSlice Cert.Pre_tables.S95 ![1] te Cert.Pre_tables.Gen.facts.slices_S96_S95_1 (ix1 k)))
        (extractStridedSlice Cert.Pre_tables.S95 ![0] nx Cert.Pre_tables.Gen.facts.slices_S96_S95_0 (ix1 k)))
      (IntOp.ori (~~~ extractStridedSlice Cert.Pre_tables.S95 ![0] (cmpi .sgt tr fun _ => 0#32) Cert.Pre_tables.Gen.facts.slices_S96_S95_0 (ix1 k))
        (IntOp.cmpi .slt (extractStridedSlice Cert.Pre_tables.S95 ![0] nx Cert.Pre_tables.Gen.facts.slices_S96_S95_0 (ix1 k)) 0#32)) = 1#1)
    (e7 : IntOp.ori (~~~ extractStridedSlice S1 ![95] (cmpi .sgt tr fun _ => 0#32) Cert.Pre_tables.Gen.facts.slices_S96_S1_95 (ix1 0))
      (IntOp.cmpi .slt (extractStridedSlice S1 ![95] nx Cert.Pre_tables.Gen.facts.slices_S96_S1_95 (ix1 0)) 0#32) = 1#1) :
    Bits7 (fun k => te (ix1 k)) (fun k => tb (ix1 k)) (fun k => tr (ix1 k)) (fun k => nx (ix1 k)) where
  h1 k := by
    have := (and_bit _ _).1 (e1 k)
    rw [sge_bit, slt_bit, zero_int, lim_int] at this; exact this
  h2 k := by
    have := (and_bit _ _).1 (e2 k)
    rw [sge_bit, slt_bit, zero_int, top_int] at this; exact this
  h3 k := by have := e3 k; rw [slt_bit, lim_int] at this; exact this
  h4 := by
    rw [pick_at 0 _ _ (by decide)] at e4
    have := (sgt_bit _ _).1 e4; rw [zero_int] at this; exact this
  h5 k hk := by
    have := (or_bit _ _).1 (e5 ⟨k, by omega⟩)
    rw [not_bit, part_at 0 _ _ _ (by simp; omega), part_at 1 _ _ _ (by simp; omega)] at this
    unfold cmpi at this
    rw [sgt_bit, sgt_bit, zero_int] at this
    simpa only [Nat.zero_add, Nat.add_comm 1 k] using this
  h6 k hk := by
    have := (pick_bit _ _).1 (e6 ⟨k, by omega⟩)
    rw [eq_bit, or_bit, not_bit, slt_bit, pick_word (eq_bit _ _), zero_int] at this
    simp only [part_at 0 _ _ (⟨k, by omega⟩ : Fin 95) (by simp; omega), part_at 1 _ _ (⟨k, by omega⟩ : Fin 95) (by simp; omega), cmpi, sgt_bit, zero_int] at this
    simpa only [Nat.zero_add, Nat.add_comm 1 k] using this
  h7 := by
    have := (or_bit _ _).1 e7
    rw [not_bit, slt_bit, pick_at 95 _ _ (by decide), pick_at 95 _ _ (by decide)] at this
    unfold cmpi at this
    rw [sgt_bit, zero_int] at this; exact this

theorem bits_tables (h1 : (Cert.Pre_tables.fn (F := F) te tb tr nx xs wg wu wd).1 = fun _ => 1#1)
    (h2 : (Cert.Pre_tables.fn (F := F) te tb tr nx xs wg wu wd).2.1 = fun _ => 1#1)
    (h3 : (Cert.Pre_tables.fn (F := F) te tb tr nx xs wg wu wd).2.2.1 = fun _ => 1#1)
    (h4 : (Cert.Pre_tables.fn (F := F) te tb tr nx xs wg wu wd).2.2.2.1 = fun _ => 1#1)
    (h5 : (Cert.Pre_tables.fn (F := F) te tb tr nx xs wg wu wd).2.2.2.2.1 = fun _ => 1#1)
    (h6 : (Cert.Pre_tables.fn (F := F) te tb tr nx xs wg wu wd).2.2.2.2.2.1 = fun _ => 1#1)
    (h7 : (Cert.Pre_tables.fn (F := F) te tb tr nx xs wg wu wd).2.2.2.2.2.2 = fun _ => 1#1) :
    Bits7 (fun k => te (ix1 k)) (fun k => tb (ix1 k)) (fun k => tr (ix1 k)) (fun k => nx (ix1 k)) :=
  bits_of te tb tr nx (fun k => congrFun h1 (ix1 k)) (fun k => congrFun h2 (ix1 k)) (fun k => congrFun h3 (ix1 k)) (congrFun h4 (ix1 0))
    (fun k => congrFun h5 (ix1 k)) (fun k => congrFun h6 (ix1 k)) (congrFun h7 (ix1 0))

/-- The second precondition's first seven arrays are the first's. -/
theorem bits_padded (h1 : (Cert.Pre_tables_padded.fn (F := F) te tb tr nx xs wg wu wd).1 = fun _ => 1#1)
    (h2 : (Cert.Pre_tables_padded.fn (F := F) te tb tr nx xs wg wu wd).2.1 = fun _ => 1#1)
    (h3 : (Cert.Pre_tables_padded.fn (F := F) te tb tr nx xs wg wu wd).2.2.1 = fun _ => 1#1)
    (h4 : (Cert.Pre_tables_padded.fn (F := F) te tb tr nx xs wg wu wd).2.2.2.1 = fun _ => 1#1)
    (h5 : (Cert.Pre_tables_padded.fn (F := F) te tb tr nx xs wg wu wd).2.2.2.2.1 = fun _ => 1#1)
    (h6 : (Cert.Pre_tables_padded.fn (F := F) te tb tr nx xs wg wu wd).2.2.2.2.2.1 = fun _ => 1#1)
    (h7 : (Cert.Pre_tables_padded.fn (F := F) te tb tr nx xs wg wu wd).2.2.2.2.2.2.1 = fun _ => 1#1) :
    Bits7 (fun k => te (ix1 k)) (fun k => tb (ix1 k)) (fun k => tr (ix1 k)) (fun k => nx (ix1 k)) :=
  bits_of te tb tr nx (fun k => congrFun h1 (ix1 k)) (fun k => congrFun h2 (ix1 k)) (fun k => congrFun h3 (ix1 k)) (congrFun h4 (ix1 0))
    (fun k => congrFun h5 (ix1 k)) (fun k => congrFun h6 (ix1 k)) (congrFun h7 (ix1 0))

/-- A live tile reads its own block. -/
theorem own_block (h8 : (Cert.Pre_tables_padded.fn (F := F) te tb tr nx xs wg wu wd).2.2.2.2.2.2.2.1 = fun _ => 1#1) (k : Fin 96)
    (hl : 0 < (tr (ix1 k)).toInt) : tb (ix1 k) = BitVec.ofNat 32 k.val := by
  have e : IntOp.ori (~~~ IntOp.cmpi .sgt (tr (ix1 k)) 0#32) (IntOp.cmpi .eq (tb (ix1 k)) (BitVec.ofNat 32 k.val)) = 1#1 := congrFun h8 (ix1 k)
  rw [or_bit, not_bit, sgt_bit, eq_bit, zero_int] at e
  exact e.resolve_left fun h => h hl

variable (m : (ℓ : Loc nD τ sig) → Buf (Elt F) ℓ)

theorem hyps_of (h : Bits7 (fun k => (m (((0 : Dev nD).tc : Thread nD τ).loc main_arg0) : IVec S96 32) (ix1 k)) (fun k => (m (((0 : Dev nD).tc : Thread nD τ).loc main_arg1) : IVec S96 32) (ix1 k))
    (fun k => (m (((0 : Dev nD).tc : Thread nD τ).loc main_arg2) : IVec S96 32) (ix1 k)) (fun k => (m (((0 : Dev nD).tc : Thread nD τ).loc main_arg3) : IVec S96 32) (ix1 k))) : Hyps m := h.good

end Cert.ExpertsIdeal.Moe

end
-- ==== Proof.MoeSame.lean ====
/- The frames of the experts' kernel: the kernel as written has the idealized one's bodies, so its frame is the idealized
   program's at the bit-exact values; and the frame of the reference. -/
module

public import proofs.«01_k».proof.Defs
public import proofs.«01_k».proof.Proof.MoeTables
public import proofs.«01_k».proof.Proof.Gen.Experts
public import proofs.«01_k».proof.Proof.Gen.ExpertsReferenceIdeal.Run
public import Idealize.ShloMosaic.Lib.Quiescent

@[expose] public section

set_option maxRecDepth 65536

noncomputable section

namespace Cert.ExpertsIdeal.Moe

open Idealize.ShloMosaic Idealize.ShloMosaic.TcCoe Idealize.SL.Sem
open Cert.ExpertsIdeal.Gen

theorem bodies_same : Cert.Experts.defs₀ (F := Bits) = Cert.ExpertsIdeal.defs₀ (F := Bits) := by
  refine congrArg (Defs.onTc (nD := nD) (τ := τ) (sig := sig) (Val := Elt Bits) (Λ := Λ₀)) ?_
  funext l a
  match l, a with
  | ⟨0, _⟩, (t, s) => rfl
  | ⟨_ + 1, h⟩, _ => exact absurd h (Nat.not_lt.2 (Nat.le_add_left _ _))

theorem defs_same : Cert.Experts.defs (F := Bits) = Cert.ExpertsIdeal.defs (F := Bits) :=
  congrArg (Pipeline.defs (ExpertsIdeal.pcfgs (F := Bits))) bodies_same

/-- The frame over any body table equal to the idealized program's. -/
theorem frame_at (D : Defs nD τ sig (Elt Bits) (Pipeline.Sig Λ₀ (Fin 1) fun p => (pcfgs (F := Bits) p).Adm))
    (hD : D = defs (F := Bits)) (m : (ℓ : Loc nD τ sig) → Buf (Elt Bits) ℓ) (ρ : Dev nD → PrngReg) (hH : Hyps m) :
    θ_run D (onTc (τ := τ) (main (F := Bits))) ⟨m, fun _ => 0, ρ⟩ (fun r => Same m r ∧ r.2.sem = fun _ => 0) := by
  subst hD
  exact frame m ρ hH

set_option maxHeartbeats 4000000 in
theorem frame_experts : Cert.quiescent_Experts (hExperts := Cert.Experts.Gen.facts) (hPre_tables := Cert.Pre_tables.Gen.facts) := by
  intro m g hp
  have h := hp 0
  exact frame_at (Cert.Experts.defs (F := Bits)) defs_same m g (hyps_of m (bits_tables (F := Bits) _ _ _ _ _ _ _ _ h.1 h.2.1 h.2.2.1 h.2.2.2.1 h.2.2.2.2.1 h.2.2.2.2.2.1 h.2.2.2.2.2.2))

theorem frame_ideal : Cert.quiescent_ExpertsIdeal (hExpertsIdeal := Cert.ExpertsIdeal.Gen.facts) (hPre_tables := Cert.Pre_tables.Gen.facts) := by
  intro m g hp
  have h := hp 0
  exact frame (F := Ideal) m g (hyps_of m (bits_tables (F := Ideal) _ _ _ _ _ _ _ _ h.1 h.2.1 h.2.2.1 h.2.2.2.1 h.2.2.2.2.1 h.2.2.2.2.2.1 h.2.2.2.2.2.2))

/-- The tables of a memory in order for the result. -/
theorem hyps_padded (m : (ℓ : Loc nD τ sig) → Buf (Elt Ideal) ℓ) (hp : letI := Cert.Pre_tables_padded.Gen.facts; Cert.Pre_ExpertsIdeal_tables_padded m) : Hyps m :=
  have h := hp 0
  hyps_of m (bits_padded (F := Ideal) _ _ _ _ _ _ _ _ h.1 h.2.1 h.2.2.1 h.2.2.2.1 h.2.2.2.2.1 h.2.2.2.2.2.1 h.2.2.2.2.2.2.1)

theorem frame_ideal_padded : Cert.quiescent_ExpertsIdeal_pre_tables_padded (hExpertsIdeal := Cert.ExpertsIdeal.Gen.facts)
    (hPre_tables_padded := Cert.Pre_tables_padded.Gen.facts) :=
  fun m g hp => frame (F := Ideal) m g (hyps_padded m hp)

end Cert.ExpertsIdeal.Moe

namespace Cert.ExpertsReferenceIdeal.Moe

open Idealize.ShloMosaic Idealize.ShloMosaic.TcCoe Idealize.SL.Sem

theorem frame_ref : Cert.quiescent_ExpertsReferenceIdeal (hExpertsReferenceIdeal := Cert.ExpertsReferenceIdeal.Gen.facts) :=
  fun m g _ => (θ_run defs _ _).mono (fun r h => ⟨fun c => (h c).2, sem_eq_zero_of_no_sems (by decide) r.2⟩) (Value.run m g)

theorem frame_ref_padded : Cert.quiescent_ExpertsReferenceIdeal_pre_tables_padded (hExpertsReferenceIdeal := Cert.ExpertsReferenceIdeal.Gen.facts)
    (hPre_tables_padded := Cert.Pre_tables_padded.Gen.facts) :=
  fun m g _ => (θ_run defs _ _).mono (fun r h => ⟨fun c => (h c).2, sem_eq_zero_of_no_sems (by decide) r.2⟩) (Value.run m g)

end Cert.ExpertsReferenceIdeal.Moe

end
-- ==== Proof.MoeSpec.lean ====
/- What the experts compute, on one token: the gated product of two projections, projected back. -/
module

public import Idealize.ShloMosaic.PureOps.Ideal

@[expose] public section

noncomputable section

namespace Cert.Moe

open Idealize.ShloMosaic

/-- One expert on one token, at a feature of the result. -/
def swiglu (x : Fin 1024 → EReal) (wg wu : Fin 1024 → Fin 512 → EReal) (wd : Fin 512 → Fin 1024 → EReal) (f : Fin 1024) : EReal :=
  ∑ k : Fin 512, (((∑ j, x j * wg j k) * Ideal.logistic (∑ j, x j * wg j k)) * ∑ j, x j * wu j k) * wd k f

/-- An expert makes zero of zero, whatever its weights. -/
theorem swiglu_zero (x : Fin 1024 → EReal) (wg wu : Fin 1024 → Fin 512 → EReal) (wd : Fin 512 → Fin 1024 → EReal) (f : Fin 1024) (hx : ∀ j, x j = 0) :
    swiglu x wg wu wd f = 0 := by
  unfold swiglu
  simp only [hx, zero_mul, Finset.sum_const_zero]

/-- The expert a word names. -/
def expertOf (w : BitVec 32) : Fin 32 := ⟨w.toNat % 32, Nat.mod_lt _ (by decide)⟩

end Cert.Moe

end
-- ==== Proof.MoePay.lean ====
/- The experts' kernel over the extended reals: a half tile's computation at a token and a feature is the expert's. -/
module

public import proofs.«01_k».proof.Proof.MoeFrame
public import proofs.«01_k».proof.Proof.MoeSpec
public import Idealize.ShloMosaic.Lib.Pointwise

@[expose] public section

set_option maxRecDepth 16384

noncomputable section

namespace Cert.ExpertsIdeal.Moe

open Idealize.ShloMosaic Idealize.ShloMosaic.TcCoe Idealize.ShloMosaic.Tactic
open Cert.ExpertsIdeal.Gen
open Cert.Moe (swiglu)

/-- The eight lanes of a staged half side by side: a token a row. -/
def joined (P : FVec Ideal S2048x128 .f32) : FVec Ideal S256x1024 .f32 :=
  concatenate S256x1024 1 [⟨S256x128, lane 0 (by decide) P⟩, ⟨S256x128, lane 1 (by decide) P⟩, ⟨S256x128, lane 2 (by decide) P⟩, ⟨S256x128, lane 3 (by decide) P⟩,
    ⟨S256x128, lane 4 (by decide) P⟩, ⟨S256x128, lane 5 (by decide) P⟩, ⟨S256x128, lane 6 (by decide) P⟩, ⟨S256x128, lane 7 (by decide) P⟩]
    concatenates_S256x128_S256x128_S256x128_S256x128_S256x128_S256x128_S256x128_S256x128_S256x1024_d1

theorem lane_at (P : FVec Ideal S2048x128 .f32) (n : ℕ) (hn : n < 8) (i : Fin 256) (j : Fin 128) (r : Fin 2048) (l : Fin 128) (hr : r.val = n + 8 * i.val) (hl : l.val = j.val) :
    lane n hn P (ix2 i j) = P (ix2 r l) := by
  unfold lane
  exact congrArg P (congrArg₂ ix2 (Fin.ext hr.symm) (Fin.ext hl.symm))

theorem joined_at (P : FVec Ideal S2048x128 .f32) (i : Fin 256) (j : Fin 1024) :
    joined P (ix2 i j) = P (ix2 ⟨j.val / 128 + 8 * i.val, by omega⟩ ⟨j.val % 128, by omega⟩) := by
  unfold joined
  pointwise
  repeat' split
  all_goals exact lane_at P _ _ _ _ _ _ (by dsimp only; omega) (by dsimp only; omega)

/-- A half tile's computation, of its tokens. -/
def core (v43 : FVec Ideal S256x1024 .f32) (v45 : Vec Ideal S1024x1024 .bf16) (v53 : Vec Ideal S512x1024 .bf16) : FVec Ideal S256x1024 .f32 :=
  have v44 : FVec Ideal S256x1024 .bf16 := truncf .bf16 v43 bitsLt_bf16_f32
  have cst : FVec Ideal S256x1024 .f32 := constant S256x1024 .f32 0x00000000#32
  have v46 : FVec Ideal S256x1024 .f32 := matmul (φ₂ := .bf16) dot_S256x1024_S1024x1024_S256x1024_1_0_0_1_n_n none v44 v45 cst
  have v47 : FVec Ideal S256x512 .f32 := extractStridedSlice S256x512 ![0, 0] v46 slices_S256x1024_o0_0_S256x512
  have v48 : FVec Ideal S256x512 .f32 := extractStridedSlice S256x512 ![0, 512] v46 slices_S256x1024_o0_512_S256x512
  have v51 : FVec Ideal S256x512 .f32 := mulf (mulf v47 (logistic v47)) v48
  have v52 : FVec Ideal S256x512 .bf16 := truncf .bf16 v51 bitsLt_bf16_f32
  have cst_28 : FVec Ideal S256x1024 .f32 := constant S256x1024 .f32 0x00000000#32
  matmul (φ₂ := .bf16) dot_S256x512_S512x1024_S256x1024_1_0_0_1_n_n none v52 v53 cst_28

theorem half_eq (b : ℕ) (hb : b + 2048 ≤ 4096) (x : Vec Ideal S4096x128 .bf16) (g : Vec Ideal S1024x1024 .bf16) (d : Vec Ideal S512x1024 .bf16) :
    half b hb x g d = core (joined (k0_pay18 (rowsFrom b hb x))) g d := by
  unfold half k0_pay19 core joined
  rfl

theorem core_at (v : FVec Ideal S256x1024 .f32) (g : Vec Ideal S1024x1024 .bf16) (d : Vec Ideal S512x1024 .bf16) (i : Fin 256) (f : Fin 1024) :
    core v g d (ix2 i f) = swiglu (fun j => v (ix2 i j)) (fun j k => g (ix2 j ⟨k.val, by omega⟩)) (fun j k => g (ix2 j ⟨512 + k.val, by omega⟩)) (fun k f => d (ix2 k f)) f := by
  unfold swiglu
  pointwise [core]

theorem half_at (b : ℕ) (hb : b + 2048 ≤ 4096) (x : Vec Ideal S4096x128 .bf16) (g : Vec Ideal S1024x1024 .bf16) (d : Vec Ideal S512x1024 .bf16) (i : Fin 256) (f : Fin 1024) :
    half b hb x g d (ix2 i f) = swiglu (fun j => x (ix2 ⟨b + (j.val / 128 + 8 * i.val), by omega⟩ ⟨j.val % 128, by omega⟩))
      (fun j k => g (ix2 j ⟨k.val, by omega⟩)) (fun j k => g (ix2 j ⟨512 + k.val, by omega⟩)) (fun k f => d (ix2 k f)) f := by
  rw [half_eq, core_at]
  congr 1
  funext j
  rw [joined_at]
  have e : ∀ y, (k0_pay18 (rowsFrom b hb x) : FVec Ideal S2048x128 .f32) y = rowsFrom b hb x y := by
    intro y
    unfold k0_pay18
    exact congrFun (shapeCast_self _ _) y
  rw [e]
  rfl

section
variable (c : Dev nD) (Wg Wu : FVec Ideal S32x1024x512 .f32) (Wd : FVec Ideal S32x512x1024 .f32) (w : ℕ) (h : w < 32)

theorem drop_in (v : S1x1024x512.Idx → EReal) (hc : S1x1024x512.ShapeCasts S1024x512) (j : Fin 1024) (k : Fin 512) :
    shapeCast S1024x512 v hc (ix2 j k) = v (ix3 0 j k) := by
  pointwise

theorem drop_out (v : S1x512x1024.Idx → EReal) (hc : S1x512x1024.ShapeCasts S512x1024) (j : Fin 512) (k : Fin 1024) :
    shapeCast S512x1024 v hc (ix2 j k) = v (ix3 0 j k) := by
  pointwise

theorem read_G (j : Fin 1024) (k : Fin 512) : (srcG w (inbG w h)).view.read (Elt Ideal) Wg (ix2 j k) = Wg (ix3 ⟨w, h⟩ j k) := by
  refine (congrFun (Memref.read_squeeze_slice (Val := Elt Ideal) wgM (Rect.unit (s := S32x1024x512) ![w, 0, 0] S1x1024x512.size (inbG w h)) (fun _ => rfl) squeezes_S1x1024x512_S1024x512 (show S1x1024x512.ShapeCasts S1024x512 by decide) Wg) (ix2 j k)).trans ?_
  refine (drop_in _ _ j k).trans ((View.readAt_apply ..).trans (congrArg Wg (funext fun x => Fin.ext ?_)))
  match x with
  | ⟨0, _⟩ => change w + 1 * 0 = w; omega
  | ⟨1, _⟩ => change 0 + 1 * j.val = j.val; omega
  | ⟨2, _⟩ => change 0 + 1 * k.val = k.val; omega
theorem read_U (j : Fin 1024) (k : Fin 512) : (srcU w (inbG w h)).view.read (Elt Ideal) Wu (ix2 j k) = Wu (ix3 ⟨w, h⟩ j k) := by
  refine (congrFun (Memref.read_squeeze_slice (Val := Elt Ideal) wuM (Rect.unit (s := S32x1024x512) ![w, 0, 0] S1x1024x512.size (inbG w h)) (fun _ => rfl) squeezes_S1x1024x512_S1024x512 (show S1x1024x512.ShapeCasts S1024x512 by decide) Wu) (ix2 j k)).trans ?_
  refine (drop_in _ _ j k).trans ((View.readAt_apply ..).trans (congrArg Wu (funext fun x => Fin.ext ?_)))
  match x with
  | ⟨0, _⟩ => change w + 1 * 0 = w; omega
  | ⟨1, _⟩ => change 0 + 1 * j.val = j.val; omega
  | ⟨2, _⟩ => change 0 + 1 * k.val = k.val; omega
theorem read_D (j : Fin 512) (k : Fin 1024) : (srcD w (inbD w h)).view.read (Elt Ideal) Wd (ix2 j k) = Wd (ix3 ⟨w, h⟩ j k) := by
  refine (congrFun (Memref.read_squeeze_slice (Val := Elt Ideal) wdM (Rect.unit (s := S32x512x1024) ![w, 0, 0] S1x512x1024.size (inbD w h)) (fun _ => rfl) squeezes_S1x512x1024_S512x1024 (show S1x512x1024.ShapeCasts S512x1024 by decide) Wd) (ix2 j k)).trans ?_
  refine (drop_out _ _ j k).trans ((View.readAt_apply ..).trans (congrArg Wd (funext fun x => Fin.ext ?_)))
  match x with
  | ⟨0, _⟩ => change w + 1 * 0 = w; omega
  | ⟨1, _⟩ => change 0 + 1 * j.val = j.val; omega
  | ⟨2, _⟩ => change 0 + 1 * k.val = k.val; omega

theorem gates_gate (j : Fin 1024) (k : Fin 512) : gates (F := Ideal) c Wg Wu w h (ix2 j ⟨k.val, by omega⟩) = Wg (ix3 ⟨w, h⟩ j k) := by
  unfold gates
  rw [dif_pos (show ((ix2 j ⟨k.val, by omega⟩ : S1024x1024.Idx) 1).val < 512 from k.isLt)]
  exact ((congrFun (shapeCast_self _ _) _).trans (read_G Wg w h j k))
theorem gates_up (j : Fin 1024) (k : Fin 512) : gates (F := Ideal) c Wg Wu w h (ix2 j ⟨512 + k.val, by omega⟩) = Wu (ix3 ⟨w, h⟩ j k) := by
  unfold gates
  rw [dif_neg (show ¬ ((ix2 j ⟨512 + k.val, by omega⟩ : S1024x1024.Idx) 1).val < 512 from by change ¬ 512 + k.val < 512; omega)]
  have e : ∀ (z : Fin 512), z = k → k0_pay2 ((srcU w (inbG w h)).view.read (Elt Ideal) Wu) (ix2 j z) = Wu (ix3 ⟨w, h⟩ j k) := by
    rintro _ rfl
    exact (congrFun (shapeCast_self _ _) _).trans (read_U Wu w h j _)
  exact e _ (Fin.ext (by change 512 + k.val - 512 = k.val; omega))
theorem downs_at (k : Fin 512) (f : Fin 1024) : downs (F := Ideal) c Wd w h (ix2 k f) = Wd (ix3 ⟨w, h⟩ k f) := by
  unfold downs
  exact ((congrFun (shapeCast_self _ _) _).trans (read_D Wd w h k f))
end

end Cert.ExpertsIdeal.Moe

end
-- ==== Proof.MoeArray.lean ====
/- The result array of the experts' kernel: every token's row of its tile's expert, zero past the tile's tokens. -/
module

public import proofs.«01_k».proof.Proof.MoePay
public import proofs.«01_k».proof.Proof.MoeTables
public import Idealize.ShloMosaic.Lib.Pipeline.ValueKit

@[expose] public section

set_option maxRecDepth 16384

noncomputable section

namespace Cert.ExpertsIdeal.Moe

open Idealize.ShloMosaic Idealize.ShloMosaic.TcCoe Idealize.SL.Sem
open Idealize.ShloMosaic.Pipeline (Dat Cfg Window)
open Cert.ExpertsIdeal.Gen
open Cert.Moe (swiglu swiglu_zero expertOf)

section
variable (TE TR : IVec S96 32) (X : FVec Ideal S393216x128 .bf16) (Wg Wu : FVec Ideal S32x1024x512 .f32) (Wd : FVec Ideal S32x512x1024 .f32)

/-- A token's row of the result, at a feature. -/
def tokenVal (n : Fin 49152) (f : Fin 1024) : EReal :=
  if ((n.val % 512 : ℕ) : ℤ) < (TR (ix1 ⟨n.val / 512, by omega⟩)).toInt then
    swiglu (fun j => X (ix2 ⟨n.val * 8 + j.val / 128, by omega⟩ ⟨j.val % 128, by omega⟩))
      (fun j k => Wg (ix3 (expertOf (TE (ix1 ⟨n.val / 512, by omega⟩))) j k)) (fun j k => Wu (ix3 (expertOf (TE (ix1 ⟨n.val / 512, by omega⟩))) j k))
      (fun k f => Wd (ix3 (expertOf (TE (ix1 ⟨n.val / 512, by omega⟩))) k f)) f
  else 0

/-- The result: eight rows of 128 numbers a token. -/
def result : FVec Ideal S393216x128 .f32 := fun i =>
  tokenVal TE TR X Wg Wu Wd ⟨(i 0).val / 8, by have h : (i 0).val < 393216 := (i 0).isLt; omega⟩ ⟨(i 0).val % 8 * 128 + (i 1).val, by have h : (i 1).val < 128 := (i 1).isLt; omega⟩

/-- A token of a tile, by the tile and the place in it. -/
theorem tokenVal_tile (k : Fin 96) (p : Fin 512) (n : Fin 49152) (hn : n.val = 512 * k.val + p.val) (f : Fin 1024) :
    tokenVal TE TR X Wg Wu Wd n f = if (p.val : ℤ) < (TR (ix1 k)).toInt then
      swiglu (fun j => X (ix2 ⟨(512 * k.val + p.val) * 8 + j.val / 128, by omega⟩ ⟨j.val % 128, by omega⟩))
        (fun j i => Wg (ix3 (expertOf (TE (ix1 k))) j i)) (fun j i => Wu (ix3 (expertOf (TE (ix1 k))) j i))
        (fun i f => Wd (ix3 (expertOf (TE (ix1 k))) i f)) f
    else 0 := by
  obtain ⟨n, hlt⟩ := n
  change n = _ at hn
  subst hn
  unfold tokenVal
  have h1 : (⟨(512 * k.val + p.val) / 512, by omega⟩ : Fin 96) = k := Fin.ext (by change (512 * k.val + p.val) / 512 = k.val; omega)
  have h2 : (512 * k.val + p.val) % 512 = p.val := by omega
  simp only [h1, h2]

end

/-- The padding rows of a live tile are zero. -/
def Padded (TR : IVec S96 32) (X : FVec Ideal S393216x128 .bf16) : Prop :=
  ∀ (k : Fin 96) (p : Fin 512), 0 < (TR (ix1 k)).toInt → ¬ (p.val : ℤ) < (TR (ix1 k)).toInt →
    ∀ j : Fin 1024, X (ix2 ⟨(512 * k.val + p.val) * 8 + j.val / 128, by omega⟩ ⟨j.val % 128, by omega⟩) = (0 : EReal)

theorem padded_of (te tb tr nx : IVec S96 32) (xs : FVec Ideal S393216x128 .bf16) (wg wu : FVec Ideal S32x1024x512 .f32) (wd : FVec Ideal S32x512x1024 .f32)
    (h9 : letI := Cert.Pre_tables_padded.Gen.facts; (Cert.Pre_tables_padded.fn (F := Ideal) te tb tr nx xs wg wu wd).2.2.2.2.2.2.2.2 = fun _ => 1#1) : Padded tr xs := by
  intro k p hl hp j
  letI := Cert.Pre_tables_padded.Gen.facts
  have e0 : (Cert.Pre_tables_padded.fn (F := Ideal) te tb tr nx xs wg wu wd).2.2.2.2.2.2.2.2 (ix3 k p j)
      = IntOp.ori (~~~ IntOp.andi (IntOp.cmpi .sgt (tr (ix1 k)) 0#32) (IntOp.cmpi .sge (BitVec.ofNat 32 p.val) (tr (ix1 k))))
        (Ideal.cmp .oeq (xs (ix2 ⟨(512 * k.val + p.val) * 8 + j.val / 128, by omega⟩ ⟨j.val % 128, by omega⟩)) 0) := by
    unfold Cert.Pre_tables_padded.fn Cert.Pre_tables_padded.fn_part1 Cert.Pre_tables_padded.fn_part2 Cert.Pre_tables_padded.fn_part3
    dsimp only
    pointwise
    have ha : k.val * 4096 + p.val * 8 + j.val / 128 = (512 * k.val + p.val) * 8 + j.val / 128 := by omega
    simp only [ha]
  have e := e0.symm.trans (congrFun h9 (ix3 k p j))
  have hi : (BitVec.ofNat 32 p.val).toInt = (p.val : ℤ) := by
    rw [BitVec.toInt_eq_toNat_of_lt (by rw [BitVec.toNat_ofNat]; omega), BitVec.toNat_ofNat]; omega
  rw [or_bit, not_bit, and_bit, sgt_bit, sge_bit, zero_int, hi] at e
  refine of_decide_eq_true ((WordCmp.ofBool_decide_eq_one_iff _).1 ?_ |> fun h => decide_eq_true h)
  exact e.resolve_left fun h => h ⟨hl, by omega⟩

variable (m : (ℓ : Loc nD τ sig) → Buf (Elt Ideal) ℓ)

/-- The tile's rows, as the array holds them. -/
theorem in_block (hH : Hyps m) (c : Dev nD) (t : Fin (cfgM m hH).N) (r : Fin 4096) (l : Fin 128) (n : Fin 393216)
    (hn : n.val = (tbW m ⟨t.val, point_lt m hH t⟩).toNat * 4096 + r.val) :
    iblk m hH c 0 t (ix2 r l : S4096x128.Idx) = m ((c.tc : Thread nD τ).loc main_arg4) (ix2 n l : S393216x128.Idx) := by
  show m ((c.tc : Thread nD τ).loc main_arg4) ((((cfgM m hH).win 0).blk t).view.emb (ix2 r l : S4096x128.Idx)) = _
  congr 1
  funext a
  refine Fin.ext ((Pipeline.Window.rect_emb_val ((cfgM m hH).win 0) t (ix2 r l : S4096x128.Idx) a).trans ?_)
  have e : ((cfgM m hH).win 0).index t a = _ := block_word m (grid0.coords t) a
  have ht : (⟨(grid0.coords t 0).val, (grid0.coords t 0).isLt⟩ : Fin 96) = ⟨t.val, point_lt m hH t⟩ := Fin.ext (point_eq t)
  rw [e, ht]
  fin_cases a
  · show (tbW m ⟨t.val, point_lt m hH t⟩).toNat * 4096 + r.val = n.val; omega
  · show 0 * 128 + l.val = l.val; omega

section
variable (hH : Hyps m) (c : Dev nD) (t : Fin (cfgM m hH).N)

/-- The tile of a point. -/
abbrev tile : Fin 96 := ⟨t.val, point_lt m hH t⟩
/-- The result of the arguments. -/
abbrev resultOf : FVec Ideal S393216x128 .f32 := result (m ((c.tc : Thread nD τ).loc main_arg0)) (m ((c.tc : Thread nD τ).loc main_arg2)) (m ((c.tc : Thread nD τ).loc main_arg4))
  (m ((c.tc : Thread nD τ).loc main_arg5)) (m ((c.tc : Thread nD τ).loc main_arg6)) (m ((c.tc : Thread nD τ).loc main_arg7))
abbrev tokenOf := tokenVal (m ((c.tc : Thread nD τ).loc main_arg0)) (m ((c.tc : Thread nD τ).loc main_arg2)) (m ((c.tc : Thread nD τ).loc main_arg4))
  (m ((c.tc : Thread nD τ).loc main_arg5)) (m ((c.tc : Thread nD τ).loc main_arg6)) (m ((c.tc : Thread nD τ).loc main_arg7))

/-- A live tile's half, at a token and a feature. -/
theorem half_live (hl : 0 < (trW m (tile m hH t)).toInt) (hb : tbW m (tile m hH t) = BitVec.ofNat 32 t.val)
    (hp : Padded (m ((c.tc : Thread nD τ).loc main_arg2)) (m ((c.tc : Thread nD τ).loc main_arg4)))
    (b p0 : ℕ) (hbp : b = 8 * p0) (hb' : b + 2048 ≤ 4096) (i : Fin 256) (f : Fin 1024) (n : Fin 49152) (hn : n.val = 512 * t.val + (p0 + i.val)) :
    half b hb' (iblk m hH c 0 t) (gatesAt m hH c (tile m hH t)) (downsAt m hH c (tile m hH t)) (ix2 i f) = tokenOf m c n f := by
  obtain rfl : c = 0 := Subsingleton.elim _ _
  have ht : t.val < 96 := point_lt m hH t
  refine (half_at b hb' _ _ _ i f).trans (Eq.trans ?_ (tokenVal_tile _ _ _ _ _ _ (tile m hH t) ⟨p0 + i.val, by omega⟩ n hn f).symm)
  have hx : ∀ j : Fin 1024, iblk m hH 0 0 t (ix2 ⟨b + (j.val / 128 + 8 * i.val), by omega⟩ ⟨j.val % 128, by omega⟩ : S4096x128.Idx)
      = m (((0 : Dev nD).tc : Thread nD τ).loc main_arg4) (ix2 ⟨(512 * t.val + (p0 + i.val)) * 8 + j.val / 128, by omega⟩ ⟨j.val % 128, by omega⟩ : S393216x128.Idx) := fun j =>
    in_block m hH 0 t _ _ _ (by
      rw [hb, BitVec.toNat_ofNat]
      change (512 * t.val + (p0 + i.val)) * 8 + j.val / 128 = t.val % 2 ^ 32 * 4096 + (b + (j.val / 128 + 8 * i.val))
      omega)
  have he : (⟨(teW m (tile m hH t)).toNat, hH.te_lt (tile m hH t)⟩ : Fin 32) = expertOf (teW m (tile m hH t)) :=
    Fin.ext (Nat.mod_eq_of_lt (hH.te_lt (tile m hH t))).symm
  have hg : ∀ (j : Fin 1024) (k : Fin 512), gatesAt m hH 0 (tile m hH t) (ix2 j ⟨k.val, by omega⟩)
      = m (((0 : Dev nD).tc : Thread nD τ).loc main_arg5) (ix3 (expertOf (teW m (tile m hH t))) j k : S32x1024x512.Idx) := fun j k => by
    rw [← he]; exact gates_gate 0 _ _ _ _ j k
  have hu : ∀ (j : Fin 1024) (k : Fin 512), gatesAt m hH 0 (tile m hH t) (ix2 j ⟨512 + k.val, by omega⟩)
      = m (((0 : Dev nD).tc : Thread nD τ).loc main_arg6) (ix3 (expertOf (teW m (tile m hH t))) j k : S32x1024x512.Idx) := fun j k => by
    rw [← he]; exact gates_up 0 _ _ _ _ j k
  have hd : ∀ (k : Fin 512) (f : Fin 1024), downsAt m hH 0 (tile m hH t) (ix2 k f)
      = m (((0 : Dev nD).tc : Thread nD τ).loc main_arg7) (ix3 (expertOf (teW m (tile m hH t))) k f : S32x512x1024.Idx) := fun k f => by
    rw [← he]; exact downs_at 0 _ _ _ k f
  by_cases hr : ((p0 + i.val : ℕ) : ℤ) < (trW m (tile m hH t)).toInt
  · refine Eq.trans ?_ (if_pos hr).symm
    simp only [hx, hg, hu, hd]
    rfl
  · refine Eq.trans ?_ (if_neg hr).symm
    refine swiglu_zero _ _ _ _ _ fun j => (hx j).trans ?_
    exact hp (tile m hH t) ⟨p0 + i.val, by omega⟩ hl hr j

/-- The output tile, row by row. -/
theorem out_block (hb : 0 < (trW m (tile m hH t)).toInt → tbW m (tile m hH t) = BitVec.ofNat 32 t.val)
    (hp : Padded (m ((c.tc : Thread nD τ).loc main_arg2)) (m ((c.tc : Thread nD τ).loc main_arg4)))
    (r : Fin 4096) (l : Fin 128) (n : Fin 393216) (hn : n.val = t.val * 4096 + r.val) :
    outAt m hH c t (ix2 r l) = resultOf m c (ix2 n l) := by
  have ht : t.val < 96 := point_lt m hH t
  have hf : (⟨n.val % 8 * 128 + l.val, by omega⟩ : Fin 1024) = ⟨r.val % 8 * 128 + l.val, by omega⟩ := Fin.ext (by change n.val % 8 * 128 + l.val = r.val % 8 * 128 + l.val; omega)
  have hres : resultOf m c (ix2 n l) = tokenOf m c ⟨n.val / 8, by omega⟩ ⟨r.val % 8 * 128 + l.val, by omega⟩ := congrArg (tokenOf m c ⟨n.val / 8, by omega⟩) hf
  have hz : Scalar.ofBits (F := Ideal) .f32 0x00000000#32 = (0 : EReal) := by
    simp [Scalar.ofBits]
  have dead : ¬ ((r.val / 8 : ℕ) : ℤ) < (trW m (tile m hH t)).toInt → tokenOf m c ⟨n.val / 8, by omega⟩ ⟨r.val % 8 * 128 + l.val, by omega⟩ = 0 := fun h => by
    obtain rfl : c = 0 := Subsingleton.elim _ _
    exact (tokenVal_tile _ _ _ _ _ _ (tile m hH t) ⟨r.val / 8, by omega⟩ _ (by change n.val / 8 = 512 * t.val + r.val / 8; omega) _).trans (if_neg h)
  rw [hres]
  unfold outAt tileOut
  by_cases hr : r.val < 2048
  · refine (dif_pos hr).trans ?_
    by_cases h4 : k0_cond4 (trW m (tile m hH t)) = 1#1
    · have hl := (cond4_iff _).1 h4
      refine (if_pos h4).trans ?_
      unfold spread
      refine (half_live m hH c t hl (hb hl) hp 0 0 rfl _ ⟨(r.val - 0) / 8, by omega⟩ ⟨(r.val - 0) % 8 * 128 + l.val, by omega⟩ ⟨n.val / 8, by omega⟩ ?_).trans ?_
      · change n.val / 8 = 512 * t.val + (0 + (r.val - 0) / 8); omega
      · exact congrArg (tokenOf m c ⟨n.val / 8, by omega⟩) (Fin.ext (by change (r.val - 0) % 8 * 128 + l.val = r.val % 8 * 128 + l.val; omega))
    · refine (if_neg h4).trans (hz.trans (dead ?_).symm)
      rw [cond4_iff] at h4
      omega
  · refine (dif_neg hr).trans ?_
    by_cases h6 : k0_cond6 (trW m (tile m hH t)) = 1#1
    · have hl := (cond6_iff _).1 h6
      have hl' : 0 < (trW m (tile m hH t)).toInt := by omega
      refine (if_pos h6).trans ?_
      unfold spread
      refine (half_live m hH c t hl' (hb hl') hp 2048 256 rfl _ ⟨(r.val - 2048) / 8, by omega⟩ ⟨(r.val - 2048) % 8 * 128 + l.val, by omega⟩ ⟨n.val / 8, by omega⟩ ?_).trans ?_
      · change n.val / 8 = 512 * t.val + (256 + (r.val - 2048) / 8); omega
      · exact congrArg (tokenOf m c ⟨n.val / 8, by omega⟩) (Fin.ext (by change (r.val - 2048) % 8 * 128 + l.val = r.val % 8 * 128 + l.val; omega))
    · refine (if_neg h6).trans (hz.trans (dead ?_).symm)
      rw [cond6_iff] at h6
      omega
end

/-! The output's window: a tile a point, in order. -/

theorem out_idx (t : Fin grid0.N) : cc0_transform_4 (grid0.coords t) = ![t.val, 0] := by revert t; decide +kernel

theorem points : ∀ (b : Fin 96) (q : Fin 1), ∃ t : Fin grid0.N, cc0_transform_4 (grid0.coords t) = ![b.val, q.val] := fun b q =>
  ⟨⟨b.val, by rw [N_0]; exact b.isLt⟩, (out_idx _).trans (by rw [Subsingleton.elim q 0]; rfl)⟩

theorem flush_all (hH : Hyps m) (t : Fin (cfgM m hH).N) : ((cfgM m hH).win 1).flush t = true :=
  (by decide +kernel : ∀ t : Fin grid0.N, Pipeline.Window.flushOf grid0 true cc0_transform_4 t = true) t

theorem covers (hH : Hyps m) : ((cfgM m hH).win 1).Covers := by
  have hs : ∀ a, ((cfgM m hH).win 1).size a = (![4096, 128] : Fin 2 → ℕ) a := fun a => rfl
  have hn : ∀ a, ((cfgM m hH).win 1).shape.size a = (![393216, 128] : Fin 2 → ℕ) a := fun a => rfl
  have hb : ∀ a, ((cfgM m hH).win 1).nblk a = (![96, 1] : Fin 2 → ℕ) a := fun a => by
    unfold Pipeline.Window.nblk
    rw [hs, hn]
    exact (by decide : ∀ a : Fin 2, ((![393216, 128] : Fin 2 → ℕ) a + (![4096, 128] : Fin 2 → ℕ) a - 1) / (![4096, 128] : Fin 2 → ℕ) a = (![96, 1] : Fin 2 → ℕ) a) a
  refine ⟨fun a => by rw [hs]; exact (by decide : ∀ a : Fin 2, 0 < (![4096, 128] : Fin 2 → ℕ) a) a, fun β => ?_⟩
  obtain ⟨t, ht⟩ := points ((β (0 : Fin 2)).cast (hb _)) ((β (1 : Fin 2)).cast (hb _))
  exact ⟨t, flush_all m hH t, fun a => ⟨(congrFun ht a).trans (by fin_cases a <;> rfl), Or.inl rfl⟩⟩

/-- The array after the run. -/
theorem final (hH : Hyps m) (hb : ∀ k : Fin 96, 0 < (trW m k).toInt → tbW m k = BitVec.ofNat 32 k.val) (c : Dev nD)
    (hp : Padded (m ((c.tc : Thread nD τ).loc main_arg2)) (m ((c.tc : Thread nD τ).loc main_arg4))) :
    (dats m hH 0 c).arrAt 1 (cfgM m hH).N = resultOf m c := by
  refine (dats m hH 0 c).arrAt_eq_of_covers 1 _ (covers m hH) fun t hf y => ?_
  rw [after_1]
  have e : (y : S4096x128.Idx) = ix2 (y (0 : Fin 2)) (y (1 : Fin 2)) := by
    funext a
    match a with
    | ⟨0, _⟩ => rfl
    | ⟨1, _⟩ => rfl
  have p : ∀ a, ((((cfgM m hH).win 1).blk t).view.emb y a).val = cc0_transform_4 (grid0.coords t) a * (![4096, 128] : Fin 2 → ℕ) a + (y a).val := fun a =>
    Pipeline.Window.rect_emb_val ((cfgM m hH).win 1) t y a
  rw [out_idx t] at p
  have ht : t.val < 96 := point_lt m hH t
  have hy : (y (0 : Fin 2)).val < 4096 := (y (0 : Fin 2)).isLt
  refine (cast_eq _ _).trans (((congrArg (outAt m hH c t) e).trans (out_block m hH c t (hb _) hp (y (0 : Fin 2)) (y (1 : Fin 2))
    ⟨t.val * 4096 + (y (0 : Fin 2)).val, by omega⟩ rfl)).trans (congrArg (resultOf m c) (funext fun a => Fin.ext ?_)))
  refine Eq.trans ?_ (p a).symm
  match a with
  | ⟨0, _⟩ => rfl
  | ⟨1, _⟩ => change (y (1 : Fin 2)).val = 0 * 128 + (y (1 : Fin 2)).val; omega

end Cert.ExpertsIdeal.Moe

end
-- ==== Proof.MoeRefVal.lean ====
/- The reference's result at an index: every token's row of the expert whose number its tile carries. -/
module

public import proofs.«01_k».proof.Proof.MoeSpec
public import proofs.«01_k».proof.Proof.Gen.ExpertsReferenceIdeal
public import Idealize.ShloMosaic.Lib.Pointwise
public import Idealize.ShloMosaic.Lib.IdealHost
public import Idealize.ShloMosaic.Lib.WordCmp

@[expose] public section

set_option maxRecDepth 16384

noncomputable section

namespace Cert.ExpertsReferenceIdeal.Moe

open Idealize.ShloMosaic Idealize.ShloMosaic.TcCoe Idealize.SL.Sem
open Cert.ExpertsReferenceIdeal.Gen
open Cert.Moe (swiglu expertOf)

/-- One of a token's row and an expert's number: whether the expert is the token's. -/
def pick (TE TR : IVec S96 32) : FVec Ideal S49152x32 .f32 :=
  shapeCast _ (uitofp .f32 (andi (broadcastInDim S96x512x32 ![0, 1, 2] bcast_S96x1x32_S96x512x32_0_1_2 (cmpi .eq (broadcastInDim S96x1x32 ![0, 1, 2] bcast_S96x1x1_S96x1x32_0_1_2 (broadcastInDim S96x1x1 ![0] bcast_S96_S96x1x1_0 TE)) (broadcastInDim S96x1x32 ![0, 1, 2] bcast_S1x1x32_S96x1x32_0_1_2 (broadcastInDim S1x1x32 ![2] bcast_S32_S1x1x32_2 (iotaInDim S32 32 0))))) (broadcastInDim S96x512x32 ![0, 1, 2] bcast_S96x512x1_S96x512x32_0_1_2 (broadcastInDim S96x512x1 ![0, 1] bcast_S96x512_S96x512x1_0_1 (cmpi .slt (broadcastInDim S96x512 ![0, 1] bcast_S1x512_S96x512_0_1 (broadcastInDim S1x512 ![1] bcast_S512_S1x512_1 (iotaInDim S512 32 0))) (broadcastInDim S96x512 ![0, 1] bcast_S96x1_S96x512_0_1 (broadcastInDim S96x1 ![0] bcast_S96_S96x1_0 TR))))))) shapeCasts_S96x512x32_S49152x32

/-- A projection of every token by every expert. -/
def proj (X : FVec Ideal S393216x128 .bf16) (Wg : FVec Ideal S32x1024x512 .f32) : FVec Ideal S49152x32x512 .f32 :=
  Host.dotGeneral dot_S49152x1024_S32x1024x512_S49152x32x512_1_1_0_02_n_n none (extf .f32 (shapeCast _ X shapeCasts_S393216x128_S49152x1024) bitsLt_bf16_f32) Wg

/-- The gated product. -/
def gated (g u : FVec Ideal S49152x32x512 .f32) : FVec Ideal S49152x32x512 .f32 :=
  mulf (mulf g (Host.divf (broadcastInDim S49152x32x512 ![] bcast_S_S49152x32x512 (constant S_ .f32 0x3F800000#32)) (addf (broadcastInDim S49152x32x512 ![] bcast_S_S49152x32x512 (constant S_ .f32 0x3F800000#32)) (Host.exp (Host.negf g))))) u

/-- The experts' rows, each projected back, added up over the experts where the token is the expert's. -/
def combine (p : FVec Ideal S49152x32 .f32) (a : FVec Ideal S49152x32x512 .f32) (Wd : FVec Ideal S32x512x1024 .f32) : FVec Ideal S393216x128 .f32 :=
  shapeCast _ (Host.reduceAdd (mulf (broadcastInDim S49152x32x1024 ![0, 1, 2] bcast_S49152x32x1_S49152x32x1024_0_1_2 (broadcastInDim S49152x32x1 ![0, 1] bcast_S49152x32_S49152x32x1_0_1 p)) (transpose S49152x32x1024 [2, 0, 1] (Host.dotGeneral dot_S32x512x1024_S49152x32x512_S32x1024x49152_1_2_2_0_0_1 none Wd a) transposes_S32x1024x49152_S49152x32x1024_2_0_1)) (constant S_ .f32 0x00000000#32) reducesTo_S49152x32x1024_S49152x1024_d1 h_S_) shapeCasts_S49152x1024_S393216x128

/-- A bit of two conditions, as a number. -/
theorem bit_value (a b : BitVec 1) (P Q : Prop) [Decidable P] [Decidable Q] (ha : a = 1#1 ↔ P) (hb : b = 1#1 ↔ Q) :
    FloatOps.uitofp (F := Ideal) FTy.f32 (IntOp.andi a b) = if P ∧ Q then (1 : EReal) else 0 := by
  have h : ∀ a b : BitVec 1, (IntOp.andi a b).toNat = if a = 1#1 ∧ b = 1#1 then 1 else 0 := by decide
  change (((IntOp.andi a b).toNat : ℝ) : EReal) = _
  rw [h]
  by_cases h' : P ∧ Q
  · rw [if_pos h', if_pos ⟨ha.2 h'.1, hb.2 h'.2⟩]; simp
  · rw [if_neg h', if_neg fun z => h' ⟨ha.1 z.1, hb.1 z.2⟩]; simp

theorem pick_at (TE TR : IVec S96 32) (n : Fin 49152) (e : Fin 32) :
    pick TE TR (ix2 n e) = if TE (ix1 ⟨n.val / 512, by omega⟩) = BitVec.ofNat 32 e.val ∧ ((n.val % 512 : ℕ) : ℤ) < (TR (ix1 ⟨n.val / 512, by omega⟩)).toInt then (1 : EReal) else 0 := by
  have h : pick TE TR (ix2 n e) = FloatOps.uitofp (F := Ideal) FTy.f32 (IntOp.andi (IntOp.cmpi CmpIPredicate.eq (TE (ix1 ⟨n.val / 512, by omega⟩)) (BitVec.ofNat 32 e.val))
      (IntOp.cmpi CmpIPredicate.slt (BitVec.ofNat 32 (n.val % 512)) (TR (ix1 ⟨n.val / 512, by omega⟩)))) := by
    pointwise [pick]
  have hi : (BitVec.ofNat 32 (n.val % 512)).toInt = ((n.val % 512 : ℕ) : ℤ) := by
    rw [BitVec.toInt_eq_toNat_of_lt (by rw [BitVec.toNat_ofNat]; omega), BitVec.toNat_ofNat]; omega
  rw [h]
  generalize TE (ix1 ⟨n.val / 512, by omega⟩) = a
  generalize TR (ix1 ⟨n.val / 512, by omega⟩) = b
  exact bit_value _ _ _ _ (WordCmp.ofBool_decide_eq_one_iff _) ((WordCmp.ofBool_decide_eq_one_iff _).trans (by rw [hi]))

theorem proj_at (X : FVec Ideal S393216x128 .bf16) (Wg : FVec Ideal S32x1024x512 .f32) (n : Fin 49152) (e : Fin 32) (k : Fin 512) :
    proj X Wg (ix3 n e k) = ∑ j : Fin 1024, X (ix2 ⟨n.val * 8 + j.val / 128, by omega⟩ ⟨j.val % 128, by omega⟩) * Wg (ix3 e j k) := by
  pointwise [proj]

theorem gated_at (g u : FVec Ideal S49152x32x512 .f32) (n : Fin 49152) (e : Fin 32) (k : Fin 512) :
    gated g u (ix3 n e k) = (g (ix3 n e k) * Ideal.logistic (g (ix3 n e k))) * u (ix3 n e k) := by
  pointwise [gated]
  rfl

theorem combine_at (p : FVec Ideal S49152x32 .f32) (a : FVec Ideal S49152x32x512 .f32) (Wd : FVec Ideal S32x512x1024 .f32) (r : Fin 393216) (l : Fin 128) :
    combine p a Wd (ix2 r l) = ∑ e : Fin 32, p (ix2 ⟨r.val / 8, by omega⟩ e) * ∑ k : Fin 512, Wd (ix3 e k ⟨r.val % 8 * 128 + l.val, by omega⟩) * a (ix3 ⟨r.val / 8, by omega⟩ e k) := by
  pointwise [combine]

/-- The sum over the experts holds the token's own alone. -/
theorem out_at (TE TR : IVec S96 32) (X : FVec Ideal S393216x128 .bf16) (Wg Wu : FVec Ideal S32x1024x512 .f32) (Wd : FVec Ideal S32x512x1024 .f32)
    (hT : ∀ k : Fin 96, (TE (ix1 k)).toNat < 32) (r : Fin 393216) (l : Fin 128) :
    combine (pick TE TR) (gated (proj X Wg) (proj X Wu)) Wd (ix2 r l)
      = if ((r.val / 8 % 512 : ℕ) : ℤ) < (TR (ix1 ⟨r.val / 8 / 512, by omega⟩)).toInt then
          swiglu (fun j => X (ix2 ⟨r.val / 8 * 8 + j.val / 128, by omega⟩ ⟨j.val % 128, by omega⟩))
            (fun j k => Wg (ix3 (expertOf (TE (ix1 ⟨r.val / 8 / 512, by omega⟩))) j k)) (fun j k => Wu (ix3 (expertOf (TE (ix1 ⟨r.val / 8 / 512, by omega⟩))) j k))
            (fun k f => Wd (ix3 (expertOf (TE (ix1 ⟨r.val / 8 / 512, by omega⟩))) k f)) ⟨r.val % 8 * 128 + l.val, by omega⟩
        else 0 := by
  rw [combine_at]
  have hw := hT ⟨r.val / 8 / 512, by omega⟩
  simp only [pick_at]
  generalize TE (ix1 ⟨r.val / 8 / 512, by omega⟩) = w at hw ⊢
  generalize TR (ix1 ⟨r.val / 8 / 512, by omega⟩) = v
  generalize ((r.val / 8 % 512 : ℕ) : ℤ) = z
  have he : ∀ e : Fin 32, w = BitVec.ofNat 32 e.val ↔ e = expertOf w := by
    intro e
    rw [Fin.ext_iff, ← BitVec.toNat_inj, BitVec.toNat_ofNat]
    change _ ↔ e.val = w.toNat % 32
    omega
  by_cases hP : z < v.toInt
  · rw [if_pos hP]
    simp only [he, hP, and_true, ite_mul, one_mul, zero_mul, Finset.sum_ite_eq', Finset.mem_univ, if_true]
    unfold swiglu
    refine Finset.sum_congr rfl fun k _ => ?_
    rw [mul_comm, gated_at, proj_at, proj_at]
  · rw [if_neg hP]
    simp only [hP, and_false, if_false, zero_mul, Finset.sum_const_zero]

end Cert.ExpertsReferenceIdeal.Moe

end
-- ==== Proof.MoeValue.lean ====
/- The value claim of the experts: the kernel's result array is the reference's. -/
module

public import proofs.«01_k».proof.Proof.MoeArray
public import proofs.«01_k».proof.Proof.MoeSame
public import proofs.«01_k».proof.Proof.MoeRefVal

@[expose] public section

set_option maxRecDepth 16384

noncomputable section

namespace Cert.ExpertsIdeal.Moe

open Idealize.ShloMosaic Idealize.ShloMosaic.TcCoe Idealize.SL.Sem
open Cert.ExpertsIdeal.Gen
open Cert.ExpertsReferenceIdeal.Moe (pick proj gated combine)

/-- The reference's term and the kernel's array agree. -/
theorem result_ref (TE TR : IVec S96 32) (X : FVec Ideal S393216x128 .bf16) (Wg Wu : FVec Ideal S32x1024x512 .f32) (Wd : FVec Ideal S32x512x1024 .f32)
    (hT : ∀ k : Fin 96, (TE (ix1 k)).toNat < 32) :
    combine (pick TE TR) (gated (proj X Wg) (proj X Wu)) Wd = result TE TR X Wg Wu Wd := by
  funext i
  have ei : i = (ix2 (i 0) (i 1) : S393216x128.Idx) := by
    funext a
    match a with
    | ⟨0, _⟩ => rfl
    | ⟨1, _⟩ => rfl
  rw [ei]
  exact Cert.ExpertsReferenceIdeal.Moe.out_at TE TR X Wg Wu Wd hT (i 0) (i 1)

theorem algebraic : Cert.algebraic_ExpertsIdeal_ExpertsReferenceIdeal_pre_tables_padded (hExpertsIdeal := Cert.ExpertsIdeal.Gen.facts)
    (hExpertsReferenceIdeal := Cert.ExpertsReferenceIdeal.Gen.facts) (hPre_tables_padded := Cert.Pre_tables_padded.Gen.facts) := by
  intro m g m' g' hp hargs
  have hH : Hyps m := hyps_padded m hp
  have hb : ∀ k : Fin 96, 0 < (trW m k).toInt → tbW m k = BitVec.ofNat 32 k.val := fun k hl =>
    own_block (F := Ideal) _ _ _ _ _ _ _ _ (hp 0).2.2.2.2.2.2.2.1 k hl
  have hpad : ∀ c : Dev nD, Padded (m ((c.tc : Thread nD τ).loc main_arg2)) (m ((c.tc : Thread nD τ).loc main_arg4)) := fun c =>
    padded_of _ _ _ _ _ _ _ _ (hp c).2.2.2.2.2.2.2.2
  refine ⟨fun c => resultOf m c, ?_, ?_⟩
  · refine (θ_run defs _ _).mono (fun r h c => ⟨?_, ?_⟩) (run_main m g hH)
    · exact ((h c).1 1).trans (final m hH hb c (hpad c))
    · exact same_of m hH r h c
  · refine (θ_run _ _ _).mono (fun r h c => ⟨(h c).1.trans ?_, (h c).2⟩) (Cert.ExpertsReferenceIdeal.Value.run m' g')
    obtain rfl : c = 0 := Subsingleton.elim _ _
    obtain ⟨a0, a1, a2, a3, a4, a5, a6, a7⟩ := hargs 0
    rw [a0, a2, a4, a5, a6, a7]
    exact result_ref _ _ _ _ _ _ fun k => hH.te_lt k

end Cert.ExpertsIdeal.Moe

end
-- ==== Proof.InSpec.lean ====
/- One row's normalization: the row over the square root of its mean square, weighted. -/
module

public import Idealize.ShloMosaic.PureOps.Ideal

@[expose] public section

noncomputable section

namespace Cert.Inp

open Idealize.ShloMosaic

/-- A row normalized by its mean square and weighted, at a feature. -/
def normed (x g : Fin 1024 → EReal) (d : Fin 1024) : EReal :=
  x d * Ideal.rsqrt (Ideal.div (∑ k, x k * x k) (Ideal.ofBits FTy.f32 0x44800000#32) + Ideal.ofBits FTy.f32 0x358637BD#32) * g d

end Cert.Inp

end
-- ==== Proof.InPay.lean ====
/- The input projection's body at an index: what it computes of a block of rows and of the weights. -/
module

public import proofs.«01_k».proof.Proof.InSpec
public import proofs.«01_k».proof.Proof.Gen.InprojIdeal.Skeleton
public import Idealize.ShloMosaic.Lib.Pointwise

@[expose] public section

set_option maxRecDepth 16384

noncomputable section

namespace Cert.InprojIdeal.Inp

open Idealize.ShloMosaic Idealize.ShloMosaic.TcCoe Idealize.SL.Sem
open Cert.InprojIdeal.Gen
open Cert.Inp (normed)

theorem rows_at (X : FVec Ideal S1x1024x1024 .f32) (g : FVec Ideal S1x1024 .f32) (s d : Fin 1024) :
    k0_pay3 (F := Ideal) X g (ix2 s d) = normed (fun k => X (ix3 0 s k)) (fun k => g (ix2 0 k)) d := by
  unfold normed
  pointwise [k0_pay3]

theorem first_at (N : FVec Ideal S1024x1024 .bf16) (W : FVec Ideal S512x1024 .bf16) (f : Fin 512) (s : Fin 1024) :
    k0_pay7 (F := Ideal) N W (ix3 0 f s) = ∑ d : Fin 1024, W (ix2 f d) * N (ix2 s d) := by
  pointwise [k0_pay7]

theorem second_at (N : FVec Ideal S1024x1024 .bf16) (W : FVec Ideal S1024x512 .bf16) (s : Fin 1024) (f : Fin 512) :
    k0_pay14 (F := Ideal) N W (ix3 0 s f) = ∑ d : Fin 1024, N (ix2 s d) * W (ix2 d f) := by
  pointwise [k0_pay14]

end Cert.InprojIdeal.Inp

end
-- ==== Proof.InRead.lean ====
/- What the input projection's body leaves at a grid point, of the blocks that the point reads. -/
module

public import proofs.«01_k».proof.Proof.InPay
public import proofs.«01_k».proof.Proof.Gen.InprojIdeal.Value

@[expose] public section

set_option maxRecDepth 16384

noncomputable section

namespace Cert.InprojIdeal.Inp

open Idealize.ShloMosaic Idealize.ShloMosaic.TcCoe Idealize.SL.Sem Idealize.ShloMosaic.Tactic
open Cert.InprojIdeal.Gen

variable (m : (ℓ : Loc nD τ sig) → Buf (Elt Ideal) ℓ) (c : Dev nD) (t : Fin cfg0.N)

theorem zero2 : (![0, 0] : Fin 2 → ℕ) = fun _ => 0 := by decide
theorem zero3 : (![0, 0, 0] : Fin 3 → ℕ) = fun _ => 0 := by decide

/-- The columns of the weights that make the second values. -/
def cols (W : FVec Ideal S1024x3080 .bf16) : FVec Ideal S1024x512 .bf16 := fun i => W (ix2 (i 0) ⟨2560 + (i 1).val, by have := (i 1).isLt; change (i 1).val < 512 at this; omega⟩)

theorem left_first : (outsAt0 m c t.val t.isLt).2.2.1 = k0_pay7 (k0_pay3 (iblk m c 0 t) (iblk m c 1 t)) (iblk m c 3 t) := by
  by_cases h0 : t.val % 8 = 0
  · rw [outsAt0_A m c t h0]
    dsimp only
    unfold out0_A_17
    refine (View.read_writes_eq_canon _ _ _ fun y => cover0_A_17 (y := y) ..).trans ?_
    unfold kernelRun0_A
    dsimp only
    sl_unfold_words
    rw [View.canon_unit_zero zero3]
    simp only [View.readAt_eq_ld, (hs0_0 t).read_unread, (hs0_1 t).read_unread, (hs0_3 t).read_unread]
    rw [View.ld_unit_zero (S := S1x1024x1024) zero3, View.ld_unit_zero (S := S1x1024) zero2, View.ld_unit_zero (S := S512x1024) zero2]
  · rw [outsAt0_B m c t h0]
    dsimp only
    unfold out0_B_17
    refine (View.read_writes_eq_canon _ _ _ fun y => cover0_B_17 (y := y) ..).trans ?_
    unfold kernelRun0_B
    dsimp only
    sl_unfold_words
    rw [View.canon_unit_zero zero3]
    simp only [View.readAt_eq_ld, (hs0_0 t).read_unread, (hs0_1 t).read_unread, (hs0_3 t).read_unread]
    rw [View.ld_unit_zero (S := S1x1024x1024) zero3, View.ld_unit_zero (S := S1x1024) zero2, View.ld_unit_zero (S := S512x1024) zero2]

theorem ld_cols (W : FVec Ideal S1024x3080 .bf16) (inb : ∀ a, (![0, 2560] : Fin 2 → ℕ) a + S1024x512.size a ≤ S1024x3080.size a) :
    View.ld (Val := Elt Ideal) (e' := .bf16) W (Rect.unit (s := S1024x3080) ![0, 2560] S1024x512.size inb) = cols W := by
  funext i
  refine congrArg W (funext fun a => Fin.ext ?_)
  match a with
  | ⟨0, _⟩ => change 0 + 1 * (i 0).val = (i 0).val; omega
  | ⟨1, _⟩ => change 2560 + 1 * (i 1).val = 2560 + (i 1).val; omega

theorem left_second : (outsAt0 m c t.val t.isLt).2.2.2.2.2.1 = k0_pay14 (k0_pay3 (iblk m c 0 t) (iblk m c 1 t)) (cols (iblk m c 2 t)) := by
  by_cases h0 : t.val % 8 = 0
  · rw [outsAt0_A m c t h0]
    dsimp only
    unfold out0_A_20
    refine (View.read_writes_eq_canon _ _ _ fun y => cover0_A_20 (y := y) ..).trans ?_
    unfold kernelRun0_A
    dsimp only
    sl_unfold_words
    rw [View.canon_unit_zero zero3]
    simp only [View.readAt_eq_ld, (hs0_0 t).read_unread, (hs0_1 t).read_unread, (hs0_2 t).read_unread]
    rw [View.ld_unit_zero (S := S1x1024x1024) zero3, View.ld_unit_zero (S := S1x1024) zero2]
    exact congrArg (k0_pay14 _) (ld_cols _ _)
  · rw [outsAt0_B m c t h0]
    dsimp only
    unfold out0_B_20
    refine (View.read_writes_eq_canon _ _ _ fun y => cover0_B_20 (y := y) ..).trans ?_
    unfold kernelRun0_B
    dsimp only
    sl_unfold_words
    rw [View.canon_unit_zero zero3]
    simp only [View.readAt_eq_ld, (hs0_0 t).read_unread, (hs0_1 t).read_unread, (hs0_2 t).read_unread]
    rw [View.ld_unit_zero (S := S1x1024x1024) zero3, View.ld_unit_zero (S := S1x1024) zero2]
    exact congrArg (k0_pay14 _) (ld_cols _ _)

end Cert.InprojIdeal.Inp

end
-- ==== Proof.InArray.lean ====
/- The input projection's two arrays of values: every element of them, of the rows and the weights that the program is given. -/
module

public import proofs.«01_k».proof.Proof.InRead

@[expose] public section

set_option maxRecDepth 16384

noncomputable section

namespace Cert.InprojIdeal.Inp

open Idealize.ShloMosaic Idealize.ShloMosaic.TcCoe Idealize.SL.Sem Idealize.ShloMosaic.Tactic
open Cert.InprojIdeal.Gen
open Cert.Inp (normed)

variable (m : (ℓ : Loc nD τ sig) → Buf (Elt Ideal) ℓ) (c : Dev nD) (t : Fin cfg0.N)

/-- Where the blocks lie: the rows' block is the point's, the others are whole arrays. -/
theorem places : ∀ t : Fin cfg0.N, win0_0.index t = ![t.val / 8, t.val % 8, 0] ∧ win0_1.index t = ![0, 0] ∧ win0_2.index t = ![0, 0] ∧ win0_3.index t = ![0, 0] :=
  (by decide +kernel : ∀ t : Fin grid0.N, win0_0.index t = ![t.val / 8, t.val % 8, 0] ∧ win0_1.index t = ![0, 0] ∧ win0_2.index t = ![0, 0] ∧ win0_3.index t = ![0, 0])

theorem lt16 : t.val < 16 := lt_of_lt_of_eq t.isLt N_0

/-- The batch of a point, and a position of its block. -/
def batch : Fin 2 := ⟨t.val / 8, by have := lt16 t; omega⟩
def pos (s : Fin 1024) : Fin 8192 := ⟨1024 * (t.val % 8) + s.val, by omega⟩

theorem x_block (s d : Fin 1024) : iblk m c 0 t (ix3 0 s d : S1x1024x1024.Idx) = m ((c.tc : Thread nD τ).loc main_arg0) (ix3 (batch t) (pos t s) d : S2x8192x1024.Idx) := by
  show m ((c.tc : Thread nD τ).loc main_arg0) (((cfg0.win 0).blk t).view.emb (ix3 0 s d : S1x1024x1024.Idx)) = _
  congr 1
  funext a
  refine Fin.ext ((Pipeline.Window.rect_emb_val (cfg0.win 0) t (ix3 0 s d : S1x1024x1024.Idx) a).trans ?_)
  have e : (cfg0.win 0).index t a = _ := congrFun (places t).1 a
  rw [e]
  fin_cases a
  · show t.val / 8 * 1 + 0 = t.val / 8; omega
  · show t.val % 8 * 1024 + s.val = 1024 * (t.val % 8) + s.val; omega
  · show 0 * 1024 + d.val = d.val; omega

theorem g_block (d : Fin 1024) : iblk m c 1 t (ix2 0 d : S1x1024.Idx) = m ((c.tc : Thread nD τ).loc main_arg1) (ix2 0 d : S1x1024.Idx) := by
  show m ((c.tc : Thread nD τ).loc main_arg1) (((cfg0.win 1).blk t).view.emb (ix2 0 d : S1x1024.Idx)) = _
  congr 1
  funext a
  refine Fin.ext ((Pipeline.Window.rect_emb_val (cfg0.win 1) t (ix2 0 d : S1x1024.Idx) a).trans ?_)
  have e : (cfg0.win 1).index t a = _ := congrFun (places t).2.1 a
  rw [e]
  fin_cases a
  · show 0 * 1 + 0 = 0; omega
  · show 0 * 1024 + d.val = d.val; omega

theorem w_block (d : Fin 1024) (f : Fin 3080) : iblk m c 2 t (ix2 d f : S1024x3080.Idx) = m ((c.tc : Thread nD τ).loc main_arg2) (ix2 d f : S1024x3080.Idx) := by
  show m ((c.tc : Thread nD τ).loc main_arg2) (((cfg0.win 2).blk t).view.emb (ix2 d f : S1024x3080.Idx)) = _
  congr 1
  funext a
  refine Fin.ext ((Pipeline.Window.rect_emb_val (cfg0.win 2) t (ix2 d f : S1024x3080.Idx) a).trans ?_)
  have e : (cfg0.win 2).index t a = _ := congrFun (places t).2.2.1 a
  rw [e]
  fin_cases a
  · show 0 * 1024 + d.val = d.val; omega
  · show 0 * 3080 + f.val = f.val; omega

theorem v_block (f : Fin 512) (d : Fin 1024) : iblk m c 3 t (ix2 f d : S512x1024.Idx) = m ((c.tc : Thread nD τ).loc main_arg3) (ix2 f d : S512x1024.Idx) := by
  show m ((c.tc : Thread nD τ).loc main_arg3) (((cfg0.win 3).blk t).view.emb (ix2 f d : S512x1024.Idx)) = _
  congr 1
  funext a
  refine Fin.ext ((Pipeline.Window.rect_emb_val (cfg0.win 3) t (ix2 f d : S512x1024.Idx) a).trans ?_)
  have e : (cfg0.win 3).index t a = _ := congrFun (places t).2.2.2 a
  rw [e]
  fin_cases a
  · show 0 * 512 + f.val = f.val; omega
  · show 0 * 1024 + d.val = d.val; omega

/-- A row of the given array, normalized. -/
def row (b : Fin 2) (s : Fin 8192) (d : Fin 1024) : EReal :=
  normed (fun k => m ((c.tc : Thread nD τ).loc main_arg0) (ix3 b s k : S2x8192x1024.Idx)) (fun k => m ((c.tc : Thread nD τ).loc main_arg1) (ix2 0 k : S1x1024.Idx)) d

theorem row_block (s d : Fin 1024) : k0_pay3 (F := Ideal) (iblk m c 0 t) (iblk m c 1 t) (ix2 s d) = row m c (batch t) (pos t s) d := by
  rw [rows_at]
  unfold row
  simp only [x_block, g_block]

theorem first_block (f : Fin 512) (s : Fin 1024) : (outsAt0 m c t.val t.isLt).2.2.1 (ix3 0 f s : S1x512x1024.Idx)
    = ∑ d : Fin 1024, row m c (batch t) (pos t s) d * m ((c.tc : Thread nD τ).loc main_arg3) (ix2 f d : S512x1024.Idx) := by
  rw [left_first, first_at]
  refine Finset.sum_congr rfl fun d _ => ?_
  rw [row_block, v_block]
  exact mul_comm _ _

theorem second_block (s : Fin 1024) (f : Fin 512) : (outsAt0 m c t.val t.isLt).2.2.2.2.2.1 (ix3 0 s f : S1x1024x512.Idx)
    = ∑ d : Fin 1024, row m c (batch t) (pos t s) d * m ((c.tc : Thread nD τ).loc main_arg2) (ix2 d ⟨2560 + f.val, by omega⟩ : S1024x3080.Idx) := by
  rw [left_second, second_at]
  refine Finset.sum_congr rfl fun d _ => ?_
  rw [row_block]
  exact congrArg _ (w_block m c t d _)

theorem first_array (b : Fin 2) (f : Fin 512) (s : Fin 8192) : Cert.InprojIdeal.Value.G17 m c (ix3 b f s : S2x512x8192.Idx)
    = ∑ d : Fin 1024, row m c b s d * m ((c.tc : Thread nD τ).loc main_arg3) (ix2 f d : S512x1024.Idx) := by
  have hp : Cert.InprojIdeal.Value.pt17Of (ix3 b f s : S2x512x8192.Idx) = 8 * b.val + s.val / 1024 := by
    show 8 * (b.val / 1 - 0) + 8 * (f.val / 512 - 0) + 1 * (s.val / 1024 - 0) = _; omega
  have h : Cert.InprojIdeal.Value.pt17Of (ix3 b f s : S2x512x8192.Idx) < cfg0.N := by rw [hp, show cfg0.N = 16 from N_0]; omega
  have hl : Cert.InprojIdeal.Value.loc17Of (ix3 b f s : S2x512x8192.Idx) = (ix3 0 f ⟨s.val % 1024, by omega⟩ : S1x512x1024.Idx) := by
    funext a
    match a with
    | ⟨0, _⟩ => exact Fin.ext (show b.val % 1 = 0 by omega)
    | ⟨1, _⟩ => exact Fin.ext (show f.val % 512 = f.val by omega)
    | ⟨2, _⟩ => rfl
  unfold Cert.InprojIdeal.Value.G17
  rw [dif_pos h, ← Cert.InprojIdeal.Value.outsAt0_sweep m c _ h, hl]
  refine (first_block m c ⟨_, h⟩ f _).trans ?_
  have eb : batch ⟨_, h⟩ = b := Fin.ext (show Cert.InprojIdeal.Value.pt17Of (ix3 b f s : S2x512x8192.Idx) / 8 = b.val by rw [hp]; omega)
  have es : pos ⟨_, h⟩ ⟨s.val % 1024, by omega⟩ = s := Fin.ext (show 1024 * (Cert.InprojIdeal.Value.pt17Of (ix3 b f s : S2x512x8192.Idx) % 8) + s.val % 1024 = s.val by rw [hp]; omega)
  rw [eb, es]

theorem second_array (b : Fin 2) (s : Fin 8192) (f : Fin 512) : Cert.InprojIdeal.Value.G20 m c (ix3 b s f : S2x8192x512.Idx)
    = ∑ d : Fin 1024, row m c b s d * m ((c.tc : Thread nD τ).loc main_arg2) (ix2 d ⟨2560 + f.val, by omega⟩ : S1024x3080.Idx) := by
  have hp : Cert.InprojIdeal.Value.pt20Of (ix3 b s f : S2x8192x512.Idx) = 8 * b.val + s.val / 1024 := by
    show 8 * (b.val / 1 - 0) + 1 * (s.val / 1024 - 0) + 1 * (f.val / 512 - 0) = _; omega
  have h : Cert.InprojIdeal.Value.pt20Of (ix3 b s f : S2x8192x512.Idx) < cfg0.N := by rw [hp, show cfg0.N = 16 from N_0]; omega
  have hl : Cert.InprojIdeal.Value.loc20Of (ix3 b s f : S2x8192x512.Idx) = (ix3 0 ⟨s.val % 1024, by omega⟩ f : S1x1024x512.Idx) := by
    funext a
    match a with
    | ⟨0, _⟩ => exact Fin.ext (show b.val % 1 = 0 by omega)
    | ⟨1, _⟩ => rfl
    | ⟨2, _⟩ => exact Fin.ext (show f.val % 512 = f.val by omega)
  unfold Cert.InprojIdeal.Value.G20
  rw [dif_pos h, ← Cert.InprojIdeal.Value.outsAt0_sweep m c _ h, hl]
  refine (second_block m c ⟨_, h⟩ _ f).trans ?_
  have eb : batch ⟨_, h⟩ = b := Fin.ext (show Cert.InprojIdeal.Value.pt20Of (ix3 b s f : S2x8192x512.Idx) / 8 = b.val by rw [hp]; omega)
  have es : pos ⟨_, h⟩ ⟨s.val % 1024, by omega⟩ = s := Fin.ext (show 1024 * (Cert.InprojIdeal.Value.pt20Of (ix3 b s f : S2x8192x512.Idx) % 8) + s.val % 1024 = s.val by rw [hp]; omega)
  rw [eb, es]

end Cert.InprojIdeal.Inp

end
-- ==== Proof.InRefVal.lean ====
/- The reference of the input projection at an index: a row's normalization times the weights' columns. -/
module

public import proofs.«01_k».proof.Proof.InSpec
public import proofs.«01_k».proof.Proof.Gen.InprojReferenceIdeal
public import Idealize.ShloMosaic.Lib.Pointwise
public import Idealize.ShloMosaic.Lib.IdealHost

@[expose] public section

set_option maxRecDepth 16384

noncomputable section

namespace Cert.InprojReferenceIdeal.Inp

open Idealize.ShloMosaic Idealize.ShloMosaic.TcCoe Idealize.SL.Sem
open Cert.InprojReferenceIdeal.Gen
open Cert.Inp (normed)

/-- The rows, normalized. -/
def rows (X : FVec Ideal S2x8192x1024 .f32) (g : FVec Ideal S1x1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

/-- The first values, a feature a row. -/
def first (N : FVec Ideal S2x8192x1024 .f32) (W : FVec Ideal S512x1024 .bf16) : FVec Ideal S2x512x8192 .bf16 :=
  truncf .bf16 (transpose S2x512x8192 [0, 2, 1] (Host.dotGeneral dot_S2x8192x1024_S512x1024_S2x8192x512_2_1_01_0_n_n none N (extf .f32 W bitsLt_bf16_f32)) transposes_S2x8192x512_S2x512x8192_0_2_1) bitsLt_bf16_f32

/-- The second values, a position a row. -/
def second (N : FVec Ideal S2x8192x1024 .f32) (W : FVec Ideal S1024x3080 .bf16) : FVec Ideal S2x8192x512 .f32 :=
  Host.dotGeneral dot_S2x8192x1024_S1024x512_S2x8192x512_2_0_01_1_n_n none N (extf .f32 (extractStridedSlice S1024x512 ![0, 2560] W slices_S1024x3080_S1024x512_0_2560) bitsLt_bf16_f32)

theorem rows_at (X : FVec Ideal S2x8192x1024 .f32) (g : FVec Ideal S1x1024 .f32) (b : Fin 2) (s : Fin 8192) (d : Fin 1024) :
    rows X g (ix3 b s d) = normed (fun k => X (ix3 b s k)) (fun k => g (ix2 0 k)) d := by
  unfold normed
  pointwise [rows]

theorem first_at (N : FVec Ideal S2x8192x1024 .f32) (W : FVec Ideal S512x1024 .bf16) (b : Fin 2) (f : Fin 512) (s : Fin 8192) :
    first N W (ix3 b f s) = ∑ d : Fin 1024, N (ix3 b s d) * W (ix2 f d) := by
  pointwise [first]

theorem second_at (N : FVec Ideal S2x8192x1024 .f32) (W : FVec Ideal S1024x3080 .bf16) (b : Fin 2) (s : Fin 8192) (f : Fin 512) :
    second N W (ix3 b s f) = ∑ d : Fin 1024, N (ix3 b s d) * W (ix2 d ⟨2560 + f.val, by omega⟩) := by
  pointwise [second]

end Cert.InprojReferenceIdeal.Inp

end
-- ==== Proof.InValue.lean ====
/- The value claim of the input projection: the two arrays of values that the kernel makes are the reference's. -/
module

public import proofs.«01_k».proof.Proof.InArray
public import proofs.«01_k».proof.Proof.InRefVal
public import proofs.«01_k».proof.Proof.Gen.InprojReferenceIdeal.Run
public import proofs.«01_k».proof.Defs
public import Idealize.ShloMosaic.Lib.Quiescent

@[expose] public section

set_option maxRecDepth 16384

noncomputable section

namespace Cert.InprojIdeal.Inp

open Idealize.ShloMosaic Idealize.ShloMosaic.TcCoe Idealize.SL.Sem
open Cert.InprojIdeal.Gen

variable (m : (ℓ : Loc nD τ sig) → Buf (Elt Ideal) ℓ) (c : Dev nD)

theorem ref_rows (b : Fin 2) (s : Fin 8192) (d : Fin 1024) :
    Cert.InprojReferenceIdeal.Inp.rows (m ((c.tc : Thread nD τ).loc main_arg0)) (m ((c.tc : Thread nD τ).loc main_arg1)) (ix3 b s d) = row m c b s d :=
  Cert.InprojReferenceIdeal.Inp.rows_at _ _ b s d

theorem first_ref : Cert.InprojReferenceIdeal.Inp.first (Cert.InprojReferenceIdeal.Inp.rows (m ((c.tc : Thread nD τ).loc main_arg0)) (m ((c.tc : Thread nD τ).loc main_arg1)))
    (m ((c.tc : Thread nD τ).loc main_arg3)) = Cert.InprojIdeal.Value.G17 m c := by
  funext i
  have ei : i = (ix3 (i 0) (i 1) (i 2) : S2x512x8192.Idx) := by
    funext a
    match a with
    | ⟨0, _⟩ => rfl
    | ⟨1, _⟩ => rfl
    | ⟨2, _⟩ => rfl
  rw [ei]
  refine ((Cert.InprojReferenceIdeal.Inp.first_at _ _ (i 0) (i 1) (i 2)).trans (Finset.sum_congr rfl fun d _ => ?_)).trans (first_array m c (i 0) (i 1) (i 2)).symm
  exact congrArg (· * _) (ref_rows m c _ _ d)

theorem second_ref : Cert.InprojReferenceIdeal.Inp.second (Cert.InprojReferenceIdeal.Inp.rows (m ((c.tc : Thread nD τ).loc main_arg0)) (m ((c.tc : Thread nD τ).loc main_arg1)))
    (m ((c.tc : Thread nD τ).loc main_arg2)) = Cert.InprojIdeal.Value.G20 m c := by
  funext i
  have ei : i = (ix3 (i 0) (i 1) (i 2) : S2x8192x512.Idx) := by
    funext a
    match a with
    | ⟨0, _⟩ => rfl
    | ⟨1, _⟩ => rfl
    | ⟨2, _⟩ => rfl
  rw [ei]
  refine ((Cert.InprojReferenceIdeal.Inp.second_at _ _ (i 0) (i 1) (i 2)).trans (Finset.sum_congr rfl fun d _ => ?_)).trans (second_array m c (i 0) (i 1) (i 2)).symm
  exact congrArg (· * _) (ref_rows m c _ _ d)

theorem algebraic : Cert.algebraic_InprojIdeal_InprojReferenceIdeal (hInprojIdeal := Cert.InprojIdeal.Gen.facts)
    (hInprojReferenceIdeal := Cert.InprojReferenceIdeal.Gen.facts) := by
  intro m g m' g' _ hargs
  refine ⟨fun c => Cert.InprojIdeal.Value.G17 m c, fun c => Cert.InprojIdeal.Value.G20 m c, ?_, ?_⟩
  · refine (θ_run defs _ _).mono (fun r h c => ?_) (Cert.InprojIdeal.Value.run m g)
    exact ⟨(h c).2.2.1, (h c).2.2.2.2.2.1, (h c).2.2.2.2.2.2.2⟩
  · refine (θ_run _ _ _).mono (fun r h c => ⟨(h c).1.trans ?_, (h c).2.1.trans ?_, (h c).2.2⟩) (Cert.InprojReferenceIdeal.Value.run m' g')
    · obtain ⟨a0, a1, a2, a3, -⟩ := hargs c
      rw [a0, a1, a3]
      exact first_ref m c
    · obtain ⟨a0, a1, a2, a3, -⟩ := hargs c
      rw [a0, a1, a2]
      exact second_ref m c

theorem frame_ref : Cert.quiescent_InprojReferenceIdeal (hInprojReferenceIdeal := Cert.InprojReferenceIdeal.Gen.facts) := by
  intro m ρ _
  exact (θ_run _ _ _).mono (fun r h => ⟨fun c => (h c).2.2, sem_eq_zero_of_no_sems (by decide) r.2⟩) (Cert.InprojReferenceIdeal.Value.run m ρ)

end Cert.InprojIdeal.Inp

end
-- ==== Proof.lean ====
/- The proof of the claim. Of the forgetting attention: the frames of its kernel, as written and idealized, the frame of the
   plain softmax reference, the named constant, and the equality of the two results. Of the experts: the frames of their
   kernel, as written and idealized, the frame of their reference, and the equality of the two results. -/
module

public import proofs.«01_k».proof.Defs
public import proofs.«01_k».proof.Proof.Same
public import proofs.«01_k».proof.Proof.Ref
public import proofs.«01_k».proof.Proof.Finite
public import proofs.«01_k».proof.Proof.Value
public import proofs.«01_k».proof.Proof.MoeSame
public import proofs.«01_k».proof.Proof.MoeValue
public import proofs.«01_k».proof.Proof.InValue
public import proofs.«01_k».proof.Proof.Gen.Pre_in_range_finite
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.Pre_in_range
public import proofs.«01_k».proof.Proof.Gen.ReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_tables
public import proofs.«01_k».proof.Proof.Gen.Pre_tables_padded
public import proofs.«01_k».proof.Proof.Gen.Inproj
public import proofs.«01_k».proof.Proof.Gen.Inproj.Frame
public import proofs.«01_k».proof.Proof.Gen.InprojIdeal
public import proofs.«01_k».proof.Proof.Gen.InprojIdeal.Value
public import proofs.«01_k».proof.Proof.Gen.InprojReferenceIdeal
public import proofs.«01_k».proof.Proof.Gen.InprojReferenceIdeal.Run

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Inproj.Gen.facts, Cert.InprojIdeal.Gen.facts, Cert.InprojReferenceIdeal.Gen.facts,
    Cert.Pre_in_range.Gen.facts, Cert.Pre_in_range_finite.Gen.facts, Cert.Pre_tables.Gen.facts, Cert.Pre_tables_padded.Gen.facts,
    Cert.KernelIdeal.Fox.frame_kernel, Cert.KernelIdeal.Fox.frame_ideal, Cert.KernelIdeal.Fox.frame_ideal_finite,
    Cert.ReferenceIdeal.Attn.frame_all, Cert.KernelIdeal.Fox.frame_ref_finite,
    Cert.ExpertsIdeal.Moe.frame_experts, Cert.ExpertsIdeal.Moe.frame_ideal, Cert.ExpertsIdeal.Moe.frame_ideal_padded,
    Cert.ExpertsReferenceIdeal.Moe.frame_ref, Cert.ExpertsReferenceIdeal.Moe.frame_ref_padded,
    fun m ρ _ => Cert.Inproj.Gen.frame m ρ, fun m ρ _ => Cert.InprojIdeal.Gen.frame m ρ, Cert.InprojIdeal.Inp.frame_ref,
    IdealRules.named_const.statement _ _ _ _ _ rfl, Cert.KernelIdeal.Fox.algebraic,
    trivial, Cert.ExpertsIdeal.Moe.algebraic,
    trivial, Cert.InprojIdeal.Inp.algebraic⟩

end Cert.Proof

end
